-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 8192]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x256 : Shape := ⟨2, ![4096, 256]⟩
abbrev S4x128x4096 : Shape := ⟨3, ![4, 128, 4096]⟩
abbrev S8x128 : Shape := ⟨2, ![8, 128]⟩
abbrev S32x8x128 : Shape := ⟨3, ![32, 8, 128]⟩
abbrev S4 : Shape := ⟨1, ![4]⟩
abbrev S32 : Shape := ⟨1, ![32]⟩
abbrev S_ : Shape := ⟨0, ![]⟩
abbrev S1x128x4096 : Shape := ⟨3, ![1, 128, 4096]⟩
abbrev S1 : Shape := ⟨1, ![1]⟩
abbrev S1x64x4096 : Shape := ⟨3, ![1, 64, 4096]⟩
abbrev S64x4096 : Shape := ⟨2, ![64, 4096]⟩
abbrev S128x256 : Shape := ⟨2, ![128, 256]⟩
abbrev S1x128x256 : Shape := ⟨3, ![1, 128, 256]⟩
abbrev S1x1x1 : Shape := ⟨3, ![1, 1, 1]⟩
abbrev S64x256 : Shape := ⟨2, ![64, 256]⟩
abbrev S1x64x256 : Shape := ⟨3, ![1, 64, 256]⟩
abbrev S1x8x128 : Shape := ⟨3, ![1, 8, 128]⟩
abbrev S31x8x128 : Shape := ⟨3, ![31, 8, 128]⟩
abbrev S1x31x8x128 : Shape := ⟨4, ![1, 31, 8, 128]⟩
abbrev S1x1x1x1 : Shape := ⟨4, ![1, 1, 1, 1]⟩

abbrev nBuf : Space → Nat
  | .hbm => 3
  | .vmem => 8
  | .smem => 0
  | _ => 0

abbrev bufTy : (tb : Table) → Fin (tcTables nBuf tb) → BufTy
  | .hbm, ⟨0, _⟩ => ⟨S128x4096, .f32⟩
  | .hbm, ⟨1, _⟩ => ⟨S4096x256, .f32⟩
  | .hbm, ⟨2, _⟩ => ⟨S4096x256, .f32⟩
  | .local _ .vmem, ⟨0, _⟩ => ⟨S128x4096, .f32⟩
  | .local _ .vmem, ⟨1, _⟩ => ⟨S4096x256, .f32⟩
  | .local _ .vmem, ⟨2, _⟩ => ⟨S4096x256, .f32⟩
  | .local _ .vmem, ⟨3, _⟩ => ⟨S4x128x4096, .bf16⟩
  | .local _ .vmem, ⟨4, _⟩ => ⟨S4x128x4096, .bf16⟩
  | .local _ .vmem, ⟨5, _⟩ => ⟨S4096x256, .bf16⟩
  | .local _ .vmem, ⟨6, _⟩ => ⟨S8x128, .f32⟩
  | .local _ .vmem, ⟨7, _⟩ => ⟨S32x8x128, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 3 → Bool
  | ⟨0, _⟩ => true
  | ⟨1, _⟩ => true
  | ⟨2, _⟩ => false
  | _ => false

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  (ofTc nBuf bufTy 3 99 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 2

abbrev nD : Nat := 32
abbrev τ : Topo := Topo.v7x

variable {F : FTy → Type} [FloatOps F]

abbrev grid0 : Pipeline.Grid := .none

def k0_dev1 (d0 : Dev nD) : Nat :=
  let c0_i32_165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_164 : BitVec 32 := 1#32
  let v195 : BitVec 32 := Scalar.muli v129 c1_i32_164
  let v196 : BitVec 32 := Scalar.addi c0_i32_165 v195
  v196.toNat
def k0_dev2 (d0 : Dev nD) : Nat :=
  let c0_i32_168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_167 : BitVec 32 := 1#32
  let v197 : BitVec 32 := Scalar.muli v193 c1_i32_167
  let v198 : BitVec 32 := Scalar.addi c0_i32_168 v197
  v198.toNat
def k0_dev3 (d0 : Dev nD) : Nat :=
  let c0_i32_186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_185 : BitVec 32 := 1#32
  let v214 : BitVec 32 := Scalar.muli v193 c1_i32_185
  let v215 : BitVec 32 := Scalar.addi c0_i32_186 v214
  v215.toNat
def k0_dev4 (d0 : Dev nD) : Nat :=
  let c0_i32_196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_195 : BitVec 32 := 1#32
  let v224 : BitVec 32 := Scalar.muli v193 c1_i32_195
  let v225 : BitVec 32 := Scalar.addi c0_i32_196 v224
  v225.toNat
def k0_dev5 (d0 : Dev nD) : Nat :=
  let c0_i32_205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_204 : BitVec 32 := 1#32
  let v234 : BitVec 32 := Scalar.muli v129 c1_i32_204
  let v235 : BitVec 32 := Scalar.addi c0_i32_205 v234
  v235.toNat
def k0_dev6 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_214 : BitVec 32 := 1#32
  let v244 : BitVec 32 := Scalar.muli v129 c1_i32_214
  let v245 : BitVec 32 := Scalar.addi c0_i32_215 v244
  v245.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v256 : BitVec 32 := Scalar.muli v2 c128_i32
  let v257 : Index := Scalar.indexCast v256
  let c0_222 : Index := 0#32
  ![v257.toNat, 0]
def k0_dev7 (d0 : Dev nD) : Nat :=
  let c0_i32_245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_244 : BitVec 32 := 1#32
  let v276 : BitVec 32 := Scalar.muli v129 c1_i32_244
  let v277 : BitVec 32 := Scalar.addi c0_i32_245 v276
  v277.toNat
def k0_dev8 (d0 : Dev nD) : Nat :=
  let c0_i32_266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_265 : BitVec 32 := 1#32
  let v290 : BitVec 32 := Scalar.muli v193 c1_i32_265
  let v291 : BitVec 32 := Scalar.addi c0_i32_266 v290
  v291.toNat
def k0_dev9 (d0 : Dev nD) : Nat :=
  let c0_i32_282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_281 : BitVec 32 := 1#32
  let v300 : BitVec 32 := Scalar.muli v193 c1_i32_281
  let v301 : BitVec 32 := Scalar.addi c0_i32_282 v300
  v301.toNat
def k0_dev10 (d0 : Dev nD) : Nat :=
  let c0_i32_302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_301 : BitVec 32 := 1#32
  let v318 : BitVec 32 := Scalar.muli v193 c1_i32_301
  let v319 : BitVec 32 := Scalar.addi c0_i32_302 v318
  v319.toNat
def k0_dev11 (d0 : Dev nD) : Nat :=
  let c0_i32_322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_321 : BitVec 32 := 1#32
  let v336 : BitVec 32 := Scalar.muli v129 c1_i32_321
  let v337 : BitVec 32 := Scalar.addi c0_i32_322 v336
  v337.toNat
def k0_dev12 (d0 : Dev nD) : Nat :=
  let c0_i32_342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_341 : BitVec 32 := 1#32
  let v354 : BitVec 32 := Scalar.muli v129 c1_i32_341
  let v355 : BitVec 32 := Scalar.addi c0_i32_342 v354
  v355.toNat
def k0_off2 (d0 : Dev nD) (c1_i32_352 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let v368 : BitVec 32 := Scalar.subi v64 c1_i32_352
  let c32_i32_353 : BitVec 32 := 32#32
  let v369 : BitVec 32 := Scalar.addi v368 c32_i32_353
  let c32_i32_354 : BitVec 32 := 32#32
  let v370 : BitVec 32 := Scalar.remsi v369 c32_i32_354
  let c31_i32_416 : BitVec 32 := 31#32
  let v431 : BitVec 1 := Scalar.cmpi .eq v370 c31_i32_416
  let c1_i32_417 : BitVec 32 := 1#32
  let c30_i32_414 : BitVec 32 := 30#32
  let v429 : BitVec 1 := Scalar.cmpi .eq v370 c30_i32_414
  let c2_i32_415 : BitVec 32 := 2#32
  let c29_i32_412 : BitVec 32 := 29#32
  let v427 : BitVec 1 := Scalar.cmpi .eq v370 c29_i32_412
  let c5_i32_413 : BitVec 32 := 5#32
  let c28_i32_410 : BitVec 32 := 28#32
  let v425 : BitVec 1 := Scalar.cmpi .eq v370 c28_i32_410
  let c6_i32_411 : BitVec 32 := 6#32
  let c27_i32_408 : BitVec 32 := 27#32
  let v423 : BitVec 1 := Scalar.cmpi .eq v370 c27_i32_408
  let c14_i32_409 : BitVec 32 := 14#32
  let c26_i32_406 : BitVec 32 := 26#32
  let v421 : BitVec 1 := Scalar.cmpi .eq v370 c26_i32_406
  let c13_i32_407 : BitVec 32 := 13#32
  let c25_i32_404 : BitVec 32 := 25#32
  let v419 : BitVec 1 := Scalar.cmpi .eq v370 c25_i32_404
  let c10_i32_405 : BitVec 32 := 10#32
  let c24_i32_402 : BitVec 32 := 24#32
  let v417 : BitVec 1 := Scalar.cmpi .eq v370 c24_i32_402
  let c9_i32_403 : BitVec 32 := 9#32
  let c23_i32_400 : BitVec 32 := 23#32
  let v415 : BitVec 1 := Scalar.cmpi .eq v370 c23_i32_400
  let c17_i32_401 : BitVec 32 := 17#32
  let c22_i32_398 : BitVec 32 := 22#32
  let v413 : BitVec 1 := Scalar.cmpi .eq v370 c22_i32_398
  let c18_i32_399 : BitVec 32 := 18#32
  let c21_i32_396 : BitVec 32 := 21#32
  let v411 : BitVec 1 := Scalar.cmpi .eq v370 c21_i32_396
  let c21_i32_397 : BitVec 32 := 21#32
  let c20_i32_394 : BitVec 32 := 20#32
  let v409 : BitVec 1 := Scalar.cmpi .eq v370 c20_i32_394
  let c22_i32_395 : BitVec 32 := 22#32
  let c19_i32_392 : BitVec 32 := 19#32
  let v407 : BitVec 1 := Scalar.cmpi .eq v370 c19_i32_392
  let c30_i32_393 : BitVec 32 := 30#32
  let c18_i32_390 : BitVec 32 := 18#32
  let v405 : BitVec 1 := Scalar.cmpi .eq v370 c18_i32_390
  let c29_i32_391 : BitVec 32 := 29#32
  let c17_i32_388 : BitVec 32 := 17#32
  let v403 : BitVec 1 := Scalar.cmpi .eq v370 c17_i32_388
  let c26_i32_389 : BitVec 32 := 26#32
  let c16_i32_386 : BitVec 32 := 16#32
  let v401 : BitVec 1 := Scalar.cmpi .eq v370 c16_i32_386
  let c25_i32_387 : BitVec 32 := 25#32
  let c15_i32_384 : BitVec 32 := 15#32
  let v399 : BitVec 1 := Scalar.cmpi .eq v370 c15_i32_384
  let c24_i32_385 : BitVec 32 := 24#32
  let c14_i32_382 : BitVec 32 := 14#32
  let v397 : BitVec 1 := Scalar.cmpi .eq v370 c14_i32_382
  let c27_i32_383 : BitVec 32 := 27#32
  let c13_i32_380 : BitVec 32 := 13#32
  let v395 : BitVec 1 := Scalar.cmpi .eq v370 c13_i32_380
  let c28_i32_381 : BitVec 32 := 28#32
  let c12_i32_378 : BitVec 32 := 12#32
  let v393 : BitVec 1 := Scalar.cmpi .eq v370 c12_i32_378
  let c31_i32_379 : BitVec 32 := 31#32
  let c11_i32_376 : BitVec 32 := 11#32
  let v391 : BitVec 1 := Scalar.cmpi .eq v370 c11_i32_376
  let c23_i32_377 : BitVec 32 := 23#32
  let c10_i32_374 : BitVec 32 := 10#32
  let v389 : BitVec 1 := Scalar.cmpi .eq v370 c10_i32_374
  let c20_i32_375 : BitVec 32 := 20#32
  let c9_i32_372 : BitVec 32 := 9#32
  let v387 : BitVec 1 := Scalar.cmpi .eq v370 c9_i32_372
  let c19_i32_373 : BitVec 32 := 19#32
  let c8_i32_370 : BitVec 32 := 8#32
  let v385 : BitVec 1 := Scalar.cmpi .eq v370 c8_i32_370
  let c16_i32_371 : BitVec 32 := 16#32
  let c7_i32_368 : BitVec 32 := 7#32
  let v383 : BitVec 1 := Scalar.cmpi .eq v370 c7_i32_368
  let c8_i32_369 : BitVec 32 := 8#32
  let c6_i32_366 : BitVec 32 := 6#32
  let v381 : BitVec 1 := Scalar.cmpi .eq v370 c6_i32_366
  let c11_i32_367 : BitVec 32 := 11#32
  let c5_i32_364 : BitVec 32 := 5#32
  let v379 : BitVec 1 := Scalar.cmpi .eq v370 c5_i32_364
  let c12_i32_365 : BitVec 32 := 12#32
  let c4_i32_362 : BitVec 32 := 4#32
  let v377 : BitVec 1 := Scalar.cmpi .eq v370 c4_i32_362
  let c15_i32_363 : BitVec 32 := 15#32
  let c3_i32_360 : BitVec 32 := 3#32
  let v375 : BitVec 1 := Scalar.cmpi .eq v370 c3_i32_360
  let c7_i32_361 : BitVec 32 := 7#32
  let c2_i32_358 : BitVec 32 := 2#32
  let v373 : BitVec 1 := Scalar.cmpi .eq v370 c2_i32_358
  let c4_i32_359 : BitVec 32 := 4#32
  let c1_i32_355 : BitVec 32 := 1#32
  let v371 : BitVec 1 := Scalar.cmpi .eq v370 c1_i32_355
  let c3_i32_356 : BitVec 32 := 3#32
  let c0_i32_357 : BitVec 32 := 0#32
  let v372 : BitVec 32 := Scalar.select v371 c3_i32_356 c0_i32_357
  let v374 : BitVec 32 := Scalar.select v373 c4_i32_359 v372
  let v376 : BitVec 32 := Scalar.select v375 c7_i32_361 v374
  let v378 : BitVec 32 := Scalar.select v377 c15_i32_363 v376
  let v380 : BitVec 32 := Scalar.select v379 c12_i32_365 v378
  let v382 : BitVec 32 := Scalar.select v381 c11_i32_367 v380
  let v384 : BitVec 32 := Scalar.select v383 c8_i32_369 v382
  let v386 : BitVec 32 := Scalar.select v385 c16_i32_371 v384
  let v388 : BitVec 32 := Scalar.select v387 c19_i32_373 v386
  let v390 : BitVec 32 := Scalar.select v389 c20_i32_375 v388
  let v392 : BitVec 32 := Scalar.select v391 c23_i32_377 v390
  let v394 : BitVec 32 := Scalar.select v393 c31_i32_379 v392
  let v396 : BitVec 32 := Scalar.select v395 c28_i32_381 v394
  let v398 : BitVec 32 := Scalar.select v397 c27_i32_383 v396
  let v400 : BitVec 32 := Scalar.select v399 c24_i32_385 v398
  let v402 : BitVec 32 := Scalar.select v401 c25_i32_387 v400
  let v404 : BitVec 32 := Scalar.select v403 c26_i32_389 v402
  let v406 : BitVec 32 := Scalar.select v405 c29_i32_391 v404
  let v408 : BitVec 32 := Scalar.select v407 c30_i32_393 v406
  let v410 : BitVec 32 := Scalar.select v409 c22_i32_395 v408
  let v412 : BitVec 32 := Scalar.select v411 c21_i32_397 v410
  let v414 : BitVec 32 := Scalar.select v413 c18_i32_399 v412
  let v416 : BitVec 32 := Scalar.select v415 c17_i32_401 v414
  let v418 : BitVec 32 := Scalar.select v417 c9_i32_403 v416
  let v420 : BitVec 32 := Scalar.select v419 c10_i32_405 v418
  let v422 : BitVec 32 := Scalar.select v421 c13_i32_407 v420
  let v424 : BitVec 32 := Scalar.select v423 c14_i32_409 v422
  let v426 : BitVec 32 := Scalar.select v425 c6_i32_411 v424
  let v428 : BitVec 32 := Scalar.select v427 c5_i32_413 v426
  let v430 : BitVec 32 := Scalar.select v429 c2_i32_415 v428
  let v432 : BitVec 32 := Scalar.select v431 c1_i32_417 v430
  let c128_i32_418 : BitVec 32 := 128#32
  let v433 : BitVec 32 := Scalar.muli v432 c128_i32_418
  let v434 : Index := Scalar.indexCast v433
  let c0_419 : Index := 0#32
  ![v434.toNat, 0]
def k0_off3 (d0 : Dev nD) (c1_i32_427 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let v445 : BitVec 32 := Scalar.addi v64 c1_i32_427
  let c32_i32_428 : BitVec 32 := 32#32
  let v446 : BitVec 32 := Scalar.remsi v445 c32_i32_428
  let c31_i32_490 : BitVec 32 := 31#32
  let v507 : BitVec 1 := Scalar.cmpi .eq v446 c31_i32_490
  let c1_i32_491 : BitVec 32 := 1#32
  let c30_i32_488 : BitVec 32 := 30#32
  let v505 : BitVec 1 := Scalar.cmpi .eq v446 c30_i32_488
  let c2_i32_489 : BitVec 32 := 2#32
  let c29_i32_486 : BitVec 32 := 29#32
  let v503 : BitVec 1 := Scalar.cmpi .eq v446 c29_i32_486
  let c5_i32_487 : BitVec 32 := 5#32
  let c28_i32_484 : BitVec 32 := 28#32
  let v501 : BitVec 1 := Scalar.cmpi .eq v446 c28_i32_484
  let c6_i32_485 : BitVec 32 := 6#32
  let c27_i32_482 : BitVec 32 := 27#32
  let v499 : BitVec 1 := Scalar.cmpi .eq v446 c27_i32_482
  let c14_i32_483 : BitVec 32 := 14#32
  let c26_i32_480 : BitVec 32 := 26#32
  let v497 : BitVec 1 := Scalar.cmpi .eq v446 c26_i32_480
  let c13_i32_481 : BitVec 32 := 13#32
  let c25_i32_478 : BitVec 32 := 25#32
  let v495 : BitVec 1 := Scalar.cmpi .eq v446 c25_i32_478
  let c10_i32_479 : BitVec 32 := 10#32
  let c24_i32_476 : BitVec 32 := 24#32
  let v493 : BitVec 1 := Scalar.cmpi .eq v446 c24_i32_476
  let c9_i32_477 : BitVec 32 := 9#32
  let c23_i32_474 : BitVec 32 := 23#32
  let v491 : BitVec 1 := Scalar.cmpi .eq v446 c23_i32_474
  let c17_i32_475 : BitVec 32 := 17#32
  let c22_i32_472 : BitVec 32 := 22#32
  let v489 : BitVec 1 := Scalar.cmpi .eq v446 c22_i32_472
  let c18_i32_473 : BitVec 32 := 18#32
  let c21_i32_470 : BitVec 32 := 21#32
  let v487 : BitVec 1 := Scalar.cmpi .eq v446 c21_i32_470
  let c21_i32_471 : BitVec 32 := 21#32
  let c20_i32_468 : BitVec 32 := 20#32
  let v485 : BitVec 1 := Scalar.cmpi .eq v446 c20_i32_468
  let c22_i32_469 : BitVec 32 := 22#32
  let c19_i32_466 : BitVec 32 := 19#32
  let v483 : BitVec 1 := Scalar.cmpi .eq v446 c19_i32_466
  let c30_i32_467 : BitVec 32 := 30#32
  let c18_i32_464 : BitVec 32 := 18#32
  let v481 : BitVec 1 := Scalar.cmpi .eq v446 c18_i32_464
  let c29_i32_465 : BitVec 32 := 29#32
  let c17_i32_462 : BitVec 32 := 17#32
  let v479 : BitVec 1 := Scalar.cmpi .eq v446 c17_i32_462
  let c26_i32_463 : BitVec 32 := 26#32
  let c16_i32_460 : BitVec 32 := 16#32
  let v477 : BitVec 1 := Scalar.cmpi .eq v446 c16_i32_460
  let c25_i32_461 : BitVec 32 := 25#32
  let c15_i32_458 : BitVec 32 := 15#32
  let v475 : BitVec 1 := Scalar.cmpi .eq v446 c15_i32_458
  let c24_i32_459 : BitVec 32 := 24#32
  let c14_i32_456 : BitVec 32 := 14#32
  let v473 : BitVec 1 := Scalar.cmpi .eq v446 c14_i32_456
  let c27_i32_457 : BitVec 32 := 27#32
  let c13_i32_454 : BitVec 32 := 13#32
  let v471 : BitVec 1 := Scalar.cmpi .eq v446 c13_i32_454
  let c28_i32_455 : BitVec 32 := 28#32
  let c12_i32_452 : BitVec 32 := 12#32
  let v469 : BitVec 1 := Scalar.cmpi .eq v446 c12_i32_452
  let c31_i32_453 : BitVec 32 := 31#32
  let c11_i32_450 : BitVec 32 := 11#32
  let v467 : BitVec 1 := Scalar.cmpi .eq v446 c11_i32_450
  let c23_i32_451 : BitVec 32 := 23#32
  let c10_i32_448 : BitVec 32 := 10#32
  let v465 : BitVec 1 := Scalar.cmpi .eq v446 c10_i32_448
  let c20_i32_449 : BitVec 32 := 20#32
  let c9_i32_446 : BitVec 32 := 9#32
  let v463 : BitVec 1 := Scalar.cmpi .eq v446 c9_i32_446
  let c19_i32_447 : BitVec 32 := 19#32
  let c8_i32_444 : BitVec 32 := 8#32
  let v461 : BitVec 1 := Scalar.cmpi .eq v446 c8_i32_444
  let c16_i32_445 : BitVec 32 := 16#32
  let c7_i32_442 : BitVec 32 := 7#32
  let v459 : BitVec 1 := Scalar.cmpi .eq v446 c7_i32_442
  let c8_i32_443 : BitVec 32 := 8#32
  let c6_i32_440 : BitVec 32 := 6#32
  let v457 : BitVec 1 := Scalar.cmpi .eq v446 c6_i32_440
  let c11_i32_441 : BitVec 32 := 11#32
  let c5_i32_438 : BitVec 32 := 5#32
  let v455 : BitVec 1 := Scalar.cmpi .eq v446 c5_i32_438
  let c12_i32_439 : BitVec 32 := 12#32
  let c4_i32_436 : BitVec 32 := 4#32
  let v453 : BitVec 1 := Scalar.cmpi .eq v446 c4_i32_436
  let c15_i32_437 : BitVec 32 := 15#32
  let c3_i32_434 : BitVec 32 := 3#32
  let v451 : BitVec 1 := Scalar.cmpi .eq v446 c3_i32_434
  let c7_i32_435 : BitVec 32 := 7#32
  let c2_i32_432 : BitVec 32 := 2#32
  let v449 : BitVec 1 := Scalar.cmpi .eq v446 c2_i32_432
  let c4_i32_433 : BitVec 32 := 4#32
  let c1_i32_429 : BitVec 32 := 1#32
  let v447 : BitVec 1 := Scalar.cmpi .eq v446 c1_i32_429
  let c3_i32_430 : BitVec 32 := 3#32
  let c0_i32_431 : BitVec 32 := 0#32
  let v448 : BitVec 32 := Scalar.select v447 c3_i32_430 c0_i32_431
  let v450 : BitVec 32 := Scalar.select v449 c4_i32_433 v448
  let v452 : BitVec 32 := Scalar.select v451 c7_i32_435 v450
  let v454 : BitVec 32 := Scalar.select v453 c15_i32_437 v452
  let v456 : BitVec 32 := Scalar.select v455 c12_i32_439 v454
  let v458 : BitVec 32 := Scalar.select v457 c11_i32_441 v456
  let v460 : BitVec 32 := Scalar.select v459 c8_i32_443 v458
  let v462 : BitVec 32 := Scalar.select v461 c16_i32_445 v460
  let v464 : BitVec 32 := Scalar.select v463 c19_i32_447 v462
  let v466 : BitVec 32 := Scalar.select v465 c20_i32_449 v464
  let v468 : BitVec 32 := Scalar.select v467 c23_i32_451 v466
  let v470 : BitVec 32 := Scalar.select v469 c31_i32_453 v468
  let v472 : BitVec 32 := Scalar.select v471 c28_i32_455 v470
  let v474 : BitVec 32 := Scalar.select v473 c27_i32_457 v472
  let v476 : BitVec 32 := Scalar.select v475 c24_i32_459 v474
  let v478 : BitVec 32 := Scalar.select v477 c25_i32_461 v476
  let v480 : BitVec 32 := Scalar.select v479 c26_i32_463 v478
  let v482 : BitVec 32 := Scalar.select v481 c29_i32_465 v480
  let v484 : BitVec 32 := Scalar.select v483 c30_i32_467 v482
  let v486 : BitVec 32 := Scalar.select v485 c22_i32_469 v484
  let v488 : BitVec 32 := Scalar.select v487 c21_i32_471 v486
  let v490 : BitVec 32 := Scalar.select v489 c18_i32_473 v488
  let v492 : BitVec 32 := Scalar.select v491 c17_i32_475 v490
  let v494 : BitVec 32 := Scalar.select v493 c9_i32_477 v492
  let v496 : BitVec 32 := Scalar.select v495 c10_i32_479 v494
  let v498 : BitVec 32 := Scalar.select v497 c13_i32_481 v496
  let v500 : BitVec 32 := Scalar.select v499 c14_i32_483 v498
  let v502 : BitVec 32 := Scalar.select v501 c6_i32_485 v500
  let v504 : BitVec 32 := Scalar.select v503 c5_i32_487 v502
  let v506 : BitVec 32 := Scalar.select v505 c2_i32_489 v504
  let v508 : BitVec 32 := Scalar.select v507 c1_i32_491 v506
  let c128_i32_492 : BitVec 32 := 128#32
  let v509 : BitVec 32 := Scalar.muli v508 c128_i32_492
  let v510 : Index := Scalar.indexCast v509
  let c0_493 : Index := 0#32
  ![v510.toNat, 0]
def k0_dev13 (d0 : Dev nD) : Nat :=
  let c0_i32_515 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_514 : BitVec 32 := 1#32
  let v529 : BitVec 32 := Scalar.muli v129 c1_i32_514
  let v530 : BitVec 32 := Scalar.addi c0_i32_515 v529
  v530.toNat
def k0_dev14 (d0 : Dev nD) : Nat :=
  let c0_i32_536 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_535 : BitVec 32 := 1#32
  let v543 : BitVec 32 := Scalar.muli v193 c1_i32_535
  let v544 : BitVec 32 := Scalar.addi c0_i32_536 v543
  v544.toNat
def k0_dev15 (d0 : Dev nD) : Nat :=
  let c0_i32_552 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_551 : BitVec 32 := 1#32
  let v553 : BitVec 32 := Scalar.muli v193 c1_i32_551
  let v554 : BitVec 32 := Scalar.addi c0_i32_552 v553
  v554.toNat
def k0_dev16 (d0 : Dev nD) : Nat :=
  let c0_i32_572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_571 : BitVec 32 := 1#32
  let v571 : BitVec 32 := Scalar.muli v193 c1_i32_571
  let v572 : BitVec 32 := Scalar.addi c0_i32_572 v571
  v572.toNat
def k0_dev17 (d0 : Dev nD) : Nat :=
  let c0_i32_592 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_591 : BitVec 32 := 1#32
  let v589 : BitVec 32 := Scalar.muli v129 c1_i32_591
  let v590 : BitVec 32 := Scalar.addi c0_i32_592 v589
  v590.toNat
def k0_dev18 (d0 : Dev nD) : Nat :=
  let c0_i32_612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_611 : BitVec 32 := 1#32
  let v607 : BitVec 32 := Scalar.muli v129 c1_i32_611
  let v608 : BitVec 32 := Scalar.addi c0_i32_612 v607
  v608.toNat
def k0_dev19 (d0 : Dev nD) : Nat :=
  let c0_i32_785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_784 : BitVec 32 := 1#32
  let v782 : BitVec 32 := Scalar.muli v129 c1_i32_784
  let v783 : BitVec 32 := Scalar.addi c0_i32_785 v782
  v783.toNat
def k0_dev20 (d0 : Dev nD) : Nat :=
  let c0_i32_806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_805 : BitVec 32 := 1#32
  let v796 : BitVec 32 := Scalar.muli v193 c1_i32_805
  let v797 : BitVec 32 := Scalar.addi c0_i32_806 v796
  v797.toNat
def k0_dev21 (d0 : Dev nD) : Nat :=
  let c0_i32_824 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_823 : BitVec 32 := 1#32
  let v806 : BitVec 32 := Scalar.muli v193 c1_i32_823
  let v807 : BitVec 32 := Scalar.addi c0_i32_824 v806
  v807.toNat
def k0_dev22 (d0 : Dev nD) : Nat :=
  let c0_i32_844 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_843 : BitVec 32 := 1#32
  let v824 : BitVec 32 := Scalar.muli v193 c1_i32_843
  let v825 : BitVec 32 := Scalar.addi c0_i32_844 v824
  v825.toNat
def k0_dev23 (d0 : Dev nD) : Nat :=
  let c0_i32_866 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_865 : BitVec 32 := 1#32
  let v842 : BitVec 32 := Scalar.muli v129 c1_i32_865
  let v843 : BitVec 32 := Scalar.addi c0_i32_866 v842
  v843.toNat
def k0_dev24 (d0 : Dev nD) : Nat :=
  let c0_i32_886 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_885 : BitVec 32 := 1#32
  let v860 : BitVec 32 := Scalar.muli v129 c1_i32_885
  let v861 : BitVec 32 := Scalar.addi c0_i32_886 v860
  v861.toNat
def k0_dev25 (d0 : Dev nD) : Nat :=
  let c0_i32_1059 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_1058 : BitVec 32 := 1#32
  let v1035 : BitVec 32 := Scalar.muli v129 c1_i32_1058
  let v1036 : BitVec 32 := Scalar.addi c0_i32_1059 v1035
  v1036.toNat
def k0_dev26 (d0 : Dev nD) : Nat :=
  let c0_i32_1080 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_1079 : BitVec 32 := 1#32
  let v1049 : BitVec 32 := Scalar.muli v193 c1_i32_1079
  let v1050 : BitVec 32 := Scalar.addi c0_i32_1080 v1049
  v1050.toNat
def k0_dev27 (d0 : Dev nD) : Nat :=
  let c0_i32_1098 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_1097 : BitVec 32 := 1#32
  let v1059 : BitVec 32 := Scalar.muli v193 c1_i32_1097
  let v1060 : BitVec 32 := Scalar.addi c0_i32_1098 v1059
  v1060.toNat
def k0_dev28 (d0 : Dev nD) : Nat :=
  let c0_i32_1118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_1117 : BitVec 32 := 1#32
  let v1077 : BitVec 32 := Scalar.muli v193 c1_i32_1117
  let v1078 : BitVec 32 := Scalar.addi c0_i32_1118 v1077
  v1078.toNat
def k0_dev29 (d0 : Dev nD) : Nat :=
  let c0_i32_1140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_1139 : BitVec 32 := 1#32
  let v1095 : BitVec 32 := Scalar.muli v129 c1_i32_1139
  let v1096 : BitVec 32 := Scalar.addi c0_i32_1140 v1095
  v1096.toNat
def k0_dev30 (d0 : Dev nD) : Nat :=
  let c0_i32_1160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_1159 : BitVec 32 := 1#32
  let v1113 : BitVec 32 := Scalar.muli v129 c1_i32_1159
  let v1114 : BitVec 32 := Scalar.addi c0_i32_1160 v1113
  v1114.toNat
def k0_dev31 (d0 : Dev nD) : Nat :=
  let c0_i32_1334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_1333 : BitVec 32 := 1#32
  let v1288 : BitVec 32 := Scalar.muli v129 c1_i32_1333
  let v1289 : BitVec 32 := Scalar.addi c0_i32_1334 v1288
  v1289.toNat
def k0_dev32 (d0 : Dev nD) : Nat :=
  let c0_i32_1355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_1354 : BitVec 32 := 1#32
  let v1302 : BitVec 32 := Scalar.muli v193 c1_i32_1354
  let v1303 : BitVec 32 := Scalar.addi c0_i32_1355 v1302
  v1303.toNat
def k0_dev33 (d0 : Dev nD) : Nat :=
  let c0_i32_1373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_1372 : BitVec 32 := 1#32
  let v1312 : BitVec 32 := Scalar.muli v193 c1_i32_1372
  let v1313 : BitVec 32 := Scalar.addi c0_i32_1373 v1312
  v1313.toNat
def k0_dev34 (d0 : Dev nD) : Nat :=
  let c0_i32_1393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_1392 : BitVec 32 := 1#32
  let v1330 : BitVec 32 := Scalar.muli v193 c1_i32_1392
  let v1331 : BitVec 32 := Scalar.addi c0_i32_1393 v1330
  v1331.toNat
def k0_dev35 (d0 : Dev nD) : Nat :=
  let c0_i32_1415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_1414 : BitVec 32 := 1#32
  let v1348 : BitVec 32 := Scalar.muli v129 c1_i32_1414
  let v1349 : BitVec 32 := Scalar.addi c0_i32_1415 v1348
  v1349.toNat
def k0_dev36 (d0 : Dev nD) : Nat :=
  let c0_i32_1435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_1434 : BitVec 32 := 1#32
  let v1366 : BitVec 32 := Scalar.muli v129 c1_i32_1434
  let v1367 : BitVec 32 := Scalar.addi c0_i32_1435 v1366
  v1367.toNat
def k0_dev37 (d0 : Dev nD) : Nat :=
  let c0_i32_1609 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_1608 : BitVec 32 := 1#32
  let v1541 : BitVec 32 := Scalar.muli v129 c1_i32_1608
  let v1542 : BitVec 32 := Scalar.addi c0_i32_1609 v1541
  v1542.toNat
def k0_dev38 (d0 : Dev nD) : Nat :=
  let c0_i32_1630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_1629 : BitVec 32 := 1#32
  let v1555 : BitVec 32 := Scalar.muli v193 c1_i32_1629
  let v1556 : BitVec 32 := Scalar.addi c0_i32_1630 v1555
  v1556.toNat
def k0_dev39 (d0 : Dev nD) : Nat :=
  let c0_i32_1648 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_1647 : BitVec 32 := 1#32
  let v1565 : BitVec 32 := Scalar.muli v193 c1_i32_1647
  let v1566 : BitVec 32 := Scalar.addi c0_i32_1648 v1565
  v1566.toNat
def k0_dev40 (d0 : Dev nD) : Nat :=
  let c0_i32_1668 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_1667 : BitVec 32 := 1#32
  let v1583 : BitVec 32 := Scalar.muli v193 c1_i32_1667
  let v1584 : BitVec 32 := Scalar.addi c0_i32_1668 v1583
  v1584.toNat
def k0_dev41 (d0 : Dev nD) : Nat :=
  let c0_i32_1690 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_1689 : BitVec 32 := 1#32
  let v1601 : BitVec 32 := Scalar.muli v129 c1_i32_1689
  let v1602 : BitVec 32 := Scalar.addi c0_i32_1690 v1601
  v1602.toNat
def k0_dev42 (d0 : Dev nD) : Nat :=
  let c0_i32_1710 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_1709 : BitVec 32 := 1#32
  let v1619 : BitVec 32 := Scalar.muli v129 c1_i32_1709
  let v1620 : BitVec 32 := Scalar.addi c0_i32_1710 v1619
  v1620.toNat
def k0_dev43 (d0 : Dev nD) : Nat :=
  let c0_i32_1884 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_1883 : BitVec 32 := 1#32
  let v1794 : BitVec 32 := Scalar.muli v129 c1_i32_1883
  let v1795 : BitVec 32 := Scalar.addi c0_i32_1884 v1794
  v1795.toNat
def k0_dev44 (d0 : Dev nD) : Nat :=
  let c0_i32_1905 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_1904 : BitVec 32 := 1#32
  let v1808 : BitVec 32 := Scalar.muli v193 c1_i32_1904
  let v1809 : BitVec 32 := Scalar.addi c0_i32_1905 v1808
  v1809.toNat
def k0_dev45 (d0 : Dev nD) : Nat :=
  let c0_i32_1923 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_1922 : BitVec 32 := 1#32
  let v1818 : BitVec 32 := Scalar.muli v193 c1_i32_1922
  let v1819 : BitVec 32 := Scalar.addi c0_i32_1923 v1818
  v1819.toNat
def k0_dev46 (d0 : Dev nD) : Nat :=
  let c0_i32_1943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_1942 : BitVec 32 := 1#32
  let v1836 : BitVec 32 := Scalar.muli v193 c1_i32_1942
  let v1837 : BitVec 32 := Scalar.addi c0_i32_1943 v1836
  v1837.toNat
def k0_dev47 (d0 : Dev nD) : Nat :=
  let c0_i32_1965 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_1964 : BitVec 32 := 1#32
  let v1854 : BitVec 32 := Scalar.muli v129 c1_i32_1964
  let v1855 : BitVec 32 := Scalar.addi c0_i32_1965 v1854
  v1855.toNat
def k0_dev48 (d0 : Dev nD) : Nat :=
  let c0_i32_1985 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_1984 : BitVec 32 := 1#32
  let v1872 : BitVec 32 := Scalar.muli v129 c1_i32_1984
  let v1873 : BitVec 32 := Scalar.addi c0_i32_1985 v1872
  v1873.toNat
def k0_dev49 (d0 : Dev nD) : Nat :=
  let c0_i32_2159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_2158 : BitVec 32 := 1#32
  let v2047 : BitVec 32 := Scalar.muli v129 c1_i32_2158
  let v2048 : BitVec 32 := Scalar.addi c0_i32_2159 v2047
  v2048.toNat
def k0_dev50 (d0 : Dev nD) : Nat :=
  let c0_i32_2180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_2179 : BitVec 32 := 1#32
  let v2061 : BitVec 32 := Scalar.muli v193 c1_i32_2179
  let v2062 : BitVec 32 := Scalar.addi c0_i32_2180 v2061
  v2062.toNat
def k0_dev51 (d0 : Dev nD) : Nat :=
  let c0_i32_2198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_2197 : BitVec 32 := 1#32
  let v2071 : BitVec 32 := Scalar.muli v193 c1_i32_2197
  let v2072 : BitVec 32 := Scalar.addi c0_i32_2198 v2071
  v2072.toNat
def k0_dev52 (d0 : Dev nD) : Nat :=
  let c0_i32_2218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_2217 : BitVec 32 := 1#32
  let v2089 : BitVec 32 := Scalar.muli v193 c1_i32_2217
  let v2090 : BitVec 32 := Scalar.addi c0_i32_2218 v2089
  v2090.toNat
def k0_dev53 (d0 : Dev nD) : Nat :=
  let c0_i32_2240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_2239 : BitVec 32 := 1#32
  let v2107 : BitVec 32 := Scalar.muli v129 c1_i32_2239
  let v2108 : BitVec 32 := Scalar.addi c0_i32_2240 v2107
  v2108.toNat
def k0_dev54 (d0 : Dev nD) : Nat :=
  let c0_i32_2260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_2259 : BitVec 32 := 1#32
  let v2125 : BitVec 32 := Scalar.muli v129 c1_i32_2259
  let v2126 : BitVec 32 := Scalar.addi c0_i32_2260 v2125
  v2126.toNat
def k0_dev55 (d0 : Dev nD) : Nat :=
  let c0_i32_2434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_2433 : BitVec 32 := 1#32
  let v2300 : BitVec 32 := Scalar.muli v129 c1_i32_2433
  let v2301 : BitVec 32 := Scalar.addi c0_i32_2434 v2300
  v2301.toNat
def k0_dev56 (d0 : Dev nD) : Nat :=
  let c0_i32_2455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_2454 : BitVec 32 := 1#32
  let v2314 : BitVec 32 := Scalar.muli v193 c1_i32_2454
  let v2315 : BitVec 32 := Scalar.addi c0_i32_2455 v2314
  v2315.toNat
def k0_dev57 (d0 : Dev nD) : Nat :=
  let c0_i32_2473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_2472 : BitVec 32 := 1#32
  let v2324 : BitVec 32 := Scalar.muli v193 c1_i32_2472
  let v2325 : BitVec 32 := Scalar.addi c0_i32_2473 v2324
  v2325.toNat
def k0_dev58 (d0 : Dev nD) : Nat :=
  let c0_i32_2493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_2492 : BitVec 32 := 1#32
  let v2342 : BitVec 32 := Scalar.muli v193 c1_i32_2492
  let v2343 : BitVec 32 := Scalar.addi c0_i32_2493 v2342
  v2343.toNat
def k0_dev59 (d0 : Dev nD) : Nat :=
  let c0_i32_2515 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_2514 : BitVec 32 := 1#32
  let v2360 : BitVec 32 := Scalar.muli v129 c1_i32_2514
  let v2361 : BitVec 32 := Scalar.addi c0_i32_2515 v2360
  v2361.toNat
def k0_dev60 (d0 : Dev nD) : Nat :=
  let c0_i32_2535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_2534 : BitVec 32 := 1#32
  let v2378 : BitVec 32 := Scalar.muli v129 c1_i32_2534
  let v2379 : BitVec 32 := Scalar.addi c0_i32_2535 v2378
  v2379.toNat
def k0_dev61 (d0 : Dev nD) : Nat :=
  let c0_i32_2709 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_2708 : BitVec 32 := 1#32
  let v2553 : BitVec 32 := Scalar.muli v129 c1_i32_2708
  let v2554 : BitVec 32 := Scalar.addi c0_i32_2709 v2553
  v2554.toNat
def k0_dev62 (d0 : Dev nD) : Nat :=
  let c0_i32_2730 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_2729 : BitVec 32 := 1#32
  let v2567 : BitVec 32 := Scalar.muli v193 c1_i32_2729
  let v2568 : BitVec 32 := Scalar.addi c0_i32_2730 v2567
  v2568.toNat
def k0_dev63 (d0 : Dev nD) : Nat :=
  let c0_i32_2748 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_2747 : BitVec 32 := 1#32
  let v2577 : BitVec 32 := Scalar.muli v193 c1_i32_2747
  let v2578 : BitVec 32 := Scalar.addi c0_i32_2748 v2577
  v2578.toNat
def k0_dev64 (d0 : Dev nD) : Nat :=
  let c0_i32_2768 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_2767 : BitVec 32 := 1#32
  let v2595 : BitVec 32 := Scalar.muli v193 c1_i32_2767
  let v2596 : BitVec 32 := Scalar.addi c0_i32_2768 v2595
  v2596.toNat
def k0_dev65 (d0 : Dev nD) : Nat :=
  let c0_i32_2790 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_2789 : BitVec 32 := 1#32
  let v2613 : BitVec 32 := Scalar.muli v129 c1_i32_2789
  let v2614 : BitVec 32 := Scalar.addi c0_i32_2790 v2613
  v2614.toNat
def k0_dev66 (d0 : Dev nD) : Nat :=
  let c0_i32_2810 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_2809 : BitVec 32 := 1#32
  let v2631 : BitVec 32 := Scalar.muli v129 c1_i32_2809
  let v2632 : BitVec 32 := Scalar.addi c0_i32_2810 v2631
  v2632.toNat
def k0_dev67 (d0 : Dev nD) : Nat :=
  let c0_i32_2984 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_2983 : BitVec 32 := 1#32
  let v2806 : BitVec 32 := Scalar.muli v129 c1_i32_2983
  let v2807 : BitVec 32 := Scalar.addi c0_i32_2984 v2806
  v2807.toNat
def k0_dev68 (d0 : Dev nD) : Nat :=
  let c0_i32_3005 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_3004 : BitVec 32 := 1#32
  let v2820 : BitVec 32 := Scalar.muli v193 c1_i32_3004
  let v2821 : BitVec 32 := Scalar.addi c0_i32_3005 v2820
  v2821.toNat
def k0_dev69 (d0 : Dev nD) : Nat :=
  let c0_i32_3023 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_3022 : BitVec 32 := 1#32
  let v2830 : BitVec 32 := Scalar.muli v193 c1_i32_3022
  let v2831 : BitVec 32 := Scalar.addi c0_i32_3023 v2830
  v2831.toNat
def k0_dev70 (d0 : Dev nD) : Nat :=
  let c0_i32_3043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_3042 : BitVec 32 := 1#32
  let v2848 : BitVec 32 := Scalar.muli v193 c1_i32_3042
  let v2849 : BitVec 32 := Scalar.addi c0_i32_3043 v2848
  v2849.toNat
def k0_dev71 (d0 : Dev nD) : Nat :=
  let c0_i32_3065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_3064 : BitVec 32 := 1#32
  let v2866 : BitVec 32 := Scalar.muli v129 c1_i32_3064
  let v2867 : BitVec 32 := Scalar.addi c0_i32_3065 v2866
  v2867.toNat
def k0_dev72 (d0 : Dev nD) : Nat :=
  let c0_i32_3085 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_3084 : BitVec 32 := 1#32
  let v2884 : BitVec 32 := Scalar.muli v129 c1_i32_3084
  let v2885 : BitVec 32 := Scalar.addi c0_i32_3085 v2884
  v2885.toNat
def k0_dev73 (d0 : Dev nD) : Nat :=
  let c0_i32_3259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_3258 : BitVec 32 := 1#32
  let v3059 : BitVec 32 := Scalar.muli v129 c1_i32_3258
  let v3060 : BitVec 32 := Scalar.addi c0_i32_3259 v3059
  v3060.toNat
def k0_dev74 (d0 : Dev nD) : Nat :=
  let c0_i32_3280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_3279 : BitVec 32 := 1#32
  let v3073 : BitVec 32 := Scalar.muli v193 c1_i32_3279
  let v3074 : BitVec 32 := Scalar.addi c0_i32_3280 v3073
  v3074.toNat
def k0_dev75 (d0 : Dev nD) : Nat :=
  let c0_i32_3298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_3297 : BitVec 32 := 1#32
  let v3083 : BitVec 32 := Scalar.muli v193 c1_i32_3297
  let v3084 : BitVec 32 := Scalar.addi c0_i32_3298 v3083
  v3084.toNat
def k0_dev76 (d0 : Dev nD) : Nat :=
  let c0_i32_3318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_3317 : BitVec 32 := 1#32
  let v3101 : BitVec 32 := Scalar.muli v193 c1_i32_3317
  let v3102 : BitVec 32 := Scalar.addi c0_i32_3318 v3101
  v3102.toNat
def k0_dev77 (d0 : Dev nD) : Nat :=
  let c0_i32_3340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_3339 : BitVec 32 := 1#32
  let v3119 : BitVec 32 := Scalar.muli v129 c1_i32_3339
  let v3120 : BitVec 32 := Scalar.addi c0_i32_3340 v3119
  v3120.toNat
def k0_dev78 (d0 : Dev nD) : Nat :=
  let c0_i32_3360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_3359 : BitVec 32 := 1#32
  let v3137 : BitVec 32 := Scalar.muli v129 c1_i32_3359
  let v3138 : BitVec 32 := Scalar.addi c0_i32_3360 v3137
  v3138.toNat
def k0_dev79 (d0 : Dev nD) : Nat :=
  let c0_i32_3534 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_3533 : BitVec 32 := 1#32
  let v3312 : BitVec 32 := Scalar.muli v129 c1_i32_3533
  let v3313 : BitVec 32 := Scalar.addi c0_i32_3534 v3312
  v3313.toNat
def k0_dev80 (d0 : Dev nD) : Nat :=
  let c0_i32_3555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_3554 : BitVec 32 := 1#32
  let v3326 : BitVec 32 := Scalar.muli v193 c1_i32_3554
  let v3327 : BitVec 32 := Scalar.addi c0_i32_3555 v3326
  v3327.toNat
def k0_dev81 (d0 : Dev nD) : Nat :=
  let c0_i32_3573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_3572 : BitVec 32 := 1#32
  let v3336 : BitVec 32 := Scalar.muli v193 c1_i32_3572
  let v3337 : BitVec 32 := Scalar.addi c0_i32_3573 v3336
  v3337.toNat
def k0_dev82 (d0 : Dev nD) : Nat :=
  let c0_i32_3593 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_3592 : BitVec 32 := 1#32
  let v3354 : BitVec 32 := Scalar.muli v193 c1_i32_3592
  let v3355 : BitVec 32 := Scalar.addi c0_i32_3593 v3354
  v3355.toNat
def k0_dev83 (d0 : Dev nD) : Nat :=
  let c0_i32_3615 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_3614 : BitVec 32 := 1#32
  let v3372 : BitVec 32 := Scalar.muli v129 c1_i32_3614
  let v3373 : BitVec 32 := Scalar.addi c0_i32_3615 v3372
  v3373.toNat
def k0_dev84 (d0 : Dev nD) : Nat :=
  let c0_i32_3635 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_3634 : BitVec 32 := 1#32
  let v3390 : BitVec 32 := Scalar.muli v129 c1_i32_3634
  let v3391 : BitVec 32 := Scalar.addi c0_i32_3635 v3390
  v3391.toNat
def k0_dev85 (d0 : Dev nD) : Nat :=
  let c0_i32_3842 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_3841 : BitVec 32 := 1#32
  let v3585 : BitVec 32 := Scalar.muli v193 c1_i32_3841
  let v3586 : BitVec 32 := Scalar.addi c0_i32_3842 v3585
  v3586.toNat
def k0_dev86 (d0 : Dev nD) : Nat :=
  let c0_i32_3862 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_3861 : BitVec 32 := 1#32
  let v3603 : BitVec 32 := Scalar.muli v193 c1_i32_3861
  let v3604 : BitVec 32 := Scalar.addi c0_i32_3862 v3603
  v3604.toNat
def k0_dev87 (d0 : Dev nD) : Nat :=
  let c0_i32_3884 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_3883 : BitVec 32 := 1#32
  let v3621 : BitVec 32 := Scalar.muli v129 c1_i32_3883
  let v3622 : BitVec 32 := Scalar.addi c0_i32_3884 v3621
  v3622.toNat
def k0_dev88 (d0 : Dev nD) : Nat :=
  let c0_i32_3904 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_3903 : BitVec 32 := 1#32
  let v3639 : BitVec 32 := Scalar.muli v129 c1_i32_3903
  let v3640 : BitVec 32 := Scalar.addi c0_i32_3904 v3639
  v3640.toNat
def k0_dev89 (d0 : Dev nD) : Nat :=
  let c0_i32_4111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_98 : BitVec 32 := 1#32
  let v130 : BitVec 32 := Scalar.addi v64 c1_i32_98
  let c32_i32_99 : BitVec 32 := 32#32
  let v131 : BitVec 32 := Scalar.remsi v130 c32_i32_99
  let c31_i32_161 : BitVec 32 := 31#32
  let v192 : BitVec 1 := Scalar.cmpi .eq v131 c31_i32_161
  let c1_i32_162 : BitVec 32 := 1#32
  let c30_i32_159 : BitVec 32 := 30#32
  let v190 : BitVec 1 := Scalar.cmpi .eq v131 c30_i32_159
  let c2_i32_160 : BitVec 32 := 2#32
  let c29_i32_157 : BitVec 32 := 29#32
  let v188 : BitVec 1 := Scalar.cmpi .eq v131 c29_i32_157
  let c5_i32_158 : BitVec 32 := 5#32
  let c28_i32_155 : BitVec 32 := 28#32
  let v186 : BitVec 1 := Scalar.cmpi .eq v131 c28_i32_155
  let c6_i32_156 : BitVec 32 := 6#32
  let c27_i32_153 : BitVec 32 := 27#32
  let v184 : BitVec 1 := Scalar.cmpi .eq v131 c27_i32_153
  let c14_i32_154 : BitVec 32 := 14#32
  let c26_i32_151 : BitVec 32 := 26#32
  let v182 : BitVec 1 := Scalar.cmpi .eq v131 c26_i32_151
  let c13_i32_152 : BitVec 32 := 13#32
  let c25_i32_149 : BitVec 32 := 25#32
  let v180 : BitVec 1 := Scalar.cmpi .eq v131 c25_i32_149
  let c10_i32_150 : BitVec 32 := 10#32
  let c24_i32_147 : BitVec 32 := 24#32
  let v178 : BitVec 1 := Scalar.cmpi .eq v131 c24_i32_147
  let c9_i32_148 : BitVec 32 := 9#32
  let c23_i32_145 : BitVec 32 := 23#32
  let v176 : BitVec 1 := Scalar.cmpi .eq v131 c23_i32_145
  let c17_i32_146 : BitVec 32 := 17#32
  let c22_i32_143 : BitVec 32 := 22#32
  let v174 : BitVec 1 := Scalar.cmpi .eq v131 c22_i32_143
  let c18_i32_144 : BitVec 32 := 18#32
  let c21_i32_141 : BitVec 32 := 21#32
  let v172 : BitVec 1 := Scalar.cmpi .eq v131 c21_i32_141
  let c21_i32_142 : BitVec 32 := 21#32
  let c20_i32_139 : BitVec 32 := 20#32
  let v170 : BitVec 1 := Scalar.cmpi .eq v131 c20_i32_139
  let c22_i32_140 : BitVec 32 := 22#32
  let c19_i32_137 : BitVec 32 := 19#32
  let v168 : BitVec 1 := Scalar.cmpi .eq v131 c19_i32_137
  let c30_i32_138 : BitVec 32 := 30#32
  let c18_i32_135 : BitVec 32 := 18#32
  let v166 : BitVec 1 := Scalar.cmpi .eq v131 c18_i32_135
  let c29_i32_136 : BitVec 32 := 29#32
  let c17_i32_133 : BitVec 32 := 17#32
  let v164 : BitVec 1 := Scalar.cmpi .eq v131 c17_i32_133
  let c26_i32_134 : BitVec 32 := 26#32
  let c16_i32_131 : BitVec 32 := 16#32
  let v162 : BitVec 1 := Scalar.cmpi .eq v131 c16_i32_131
  let c25_i32_132 : BitVec 32 := 25#32
  let c15_i32_129 : BitVec 32 := 15#32
  let v160 : BitVec 1 := Scalar.cmpi .eq v131 c15_i32_129
  let c24_i32_130 : BitVec 32 := 24#32
  let c14_i32_127 : BitVec 32 := 14#32
  let v158 : BitVec 1 := Scalar.cmpi .eq v131 c14_i32_127
  let c27_i32_128 : BitVec 32 := 27#32
  let c13_i32_125 : BitVec 32 := 13#32
  let v156 : BitVec 1 := Scalar.cmpi .eq v131 c13_i32_125
  let c28_i32_126 : BitVec 32 := 28#32
  let c12_i32_123 : BitVec 32 := 12#32
  let v154 : BitVec 1 := Scalar.cmpi .eq v131 c12_i32_123
  let c31_i32_124 : BitVec 32 := 31#32
  let c11_i32_121 : BitVec 32 := 11#32
  let v152 : BitVec 1 := Scalar.cmpi .eq v131 c11_i32_121
  let c23_i32_122 : BitVec 32 := 23#32
  let c10_i32_119 : BitVec 32 := 10#32
  let v150 : BitVec 1 := Scalar.cmpi .eq v131 c10_i32_119
  let c20_i32_120 : BitVec 32 := 20#32
  let c9_i32_117 : BitVec 32 := 9#32
  let v148 : BitVec 1 := Scalar.cmpi .eq v131 c9_i32_117
  let c19_i32_118 : BitVec 32 := 19#32
  let c8_i32_115 : BitVec 32 := 8#32
  let v146 : BitVec 1 := Scalar.cmpi .eq v131 c8_i32_115
  let c16_i32_116 : BitVec 32 := 16#32
  let c7_i32_113 : BitVec 32 := 7#32
  let v144 : BitVec 1 := Scalar.cmpi .eq v131 c7_i32_113
  let c8_i32_114 : BitVec 32 := 8#32
  let c6_i32_111 : BitVec 32 := 6#32
  let v142 : BitVec 1 := Scalar.cmpi .eq v131 c6_i32_111
  let c11_i32_112 : BitVec 32 := 11#32
  let c5_i32_109 : BitVec 32 := 5#32
  let v140 : BitVec 1 := Scalar.cmpi .eq v131 c5_i32_109
  let c12_i32_110 : BitVec 32 := 12#32
  let c4_i32_107 : BitVec 32 := 4#32
  let v138 : BitVec 1 := Scalar.cmpi .eq v131 c4_i32_107
  let c15_i32_108 : BitVec 32 := 15#32
  let c3_i32_105 : BitVec 32 := 3#32
  let v136 : BitVec 1 := Scalar.cmpi .eq v131 c3_i32_105
  let c7_i32_106 : BitVec 32 := 7#32
  let c2_i32_103 : BitVec 32 := 2#32
  let v134 : BitVec 1 := Scalar.cmpi .eq v131 c2_i32_103
  let c4_i32_104 : BitVec 32 := 4#32
  let c1_i32_100 : BitVec 32 := 1#32
  let v132 : BitVec 1 := Scalar.cmpi .eq v131 c1_i32_100
  let c3_i32_101 : BitVec 32 := 3#32
  let c0_i32_102 : BitVec 32 := 0#32
  let v133 : BitVec 32 := Scalar.select v132 c3_i32_101 c0_i32_102
  let v135 : BitVec 32 := Scalar.select v134 c4_i32_104 v133
  let v137 : BitVec 32 := Scalar.select v136 c7_i32_106 v135
  let v139 : BitVec 32 := Scalar.select v138 c15_i32_108 v137
  let v141 : BitVec 32 := Scalar.select v140 c12_i32_110 v139
  let v143 : BitVec 32 := Scalar.select v142 c11_i32_112 v141
  let v145 : BitVec 32 := Scalar.select v144 c8_i32_114 v143
  let v147 : BitVec 32 := Scalar.select v146 c16_i32_116 v145
  let v149 : BitVec 32 := Scalar.select v148 c19_i32_118 v147
  let v151 : BitVec 32 := Scalar.select v150 c20_i32_120 v149
  let v153 : BitVec 32 := Scalar.select v152 c23_i32_122 v151
  let v155 : BitVec 32 := Scalar.select v154 c31_i32_124 v153
  let v157 : BitVec 32 := Scalar.select v156 c28_i32_126 v155
  let v159 : BitVec 32 := Scalar.select v158 c27_i32_128 v157
  let v161 : BitVec 32 := Scalar.select v160 c24_i32_130 v159
  let v163 : BitVec 32 := Scalar.select v162 c25_i32_132 v161
  let v165 : BitVec 32 := Scalar.select v164 c26_i32_134 v163
  let v167 : BitVec 32 := Scalar.select v166 c29_i32_136 v165
  let v169 : BitVec 32 := Scalar.select v168 c30_i32_138 v167
  let v171 : BitVec 32 := Scalar.select v170 c22_i32_140 v169
  let v173 : BitVec 32 := Scalar.select v172 c21_i32_142 v171
  let v175 : BitVec 32 := Scalar.select v174 c18_i32_144 v173
  let v177 : BitVec 32 := Scalar.select v176 c17_i32_146 v175
  let v179 : BitVec 32 := Scalar.select v178 c9_i32_148 v177
  let v181 : BitVec 32 := Scalar.select v180 c10_i32_150 v179
  let v183 : BitVec 32 := Scalar.select v182 c13_i32_152 v181
  let v185 : BitVec 32 := Scalar.select v184 c14_i32_154 v183
  let v187 : BitVec 32 := Scalar.select v186 c6_i32_156 v185
  let v189 : BitVec 32 := Scalar.select v188 c5_i32_158 v187
  let v191 : BitVec 32 := Scalar.select v190 c2_i32_160 v189
  let v193 : BitVec 32 := Scalar.select v192 c1_i32_162 v191
  let c1_i32_4110 : BitVec 32 := 1#32
  let v3834 : BitVec 32 := Scalar.muli v193 c1_i32_4110
  let v3835 : BitVec 32 := Scalar.addi c0_i32_4111 v3834
  v3835.toNat
def k0_dev90 (d0 : Dev nD) : Nat :=
  let c0_i32_4143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_32 : BitVec 32 := 1#32
  let v65 : BitVec 32 := Scalar.subi v64 c1_i32_32
  let c32_i32_33 : BitVec 32 := 32#32
  let v66 : BitVec 32 := Scalar.addi v65 c32_i32_33
  let c32_i32_34 : BitVec 32 := 32#32
  let v67 : BitVec 32 := Scalar.remsi v66 c32_i32_34
  let c31_i32_96 : BitVec 32 := 31#32
  let v128 : BitVec 1 := Scalar.cmpi .eq v67 c31_i32_96
  let c1_i32_97 : BitVec 32 := 1#32
  let c30_i32_94 : BitVec 32 := 30#32
  let v126 : BitVec 1 := Scalar.cmpi .eq v67 c30_i32_94
  let c2_i32_95 : BitVec 32 := 2#32
  let c29_i32_92 : BitVec 32 := 29#32
  let v124 : BitVec 1 := Scalar.cmpi .eq v67 c29_i32_92
  let c5_i32_93 : BitVec 32 := 5#32
  let c28_i32_90 : BitVec 32 := 28#32
  let v122 : BitVec 1 := Scalar.cmpi .eq v67 c28_i32_90
  let c6_i32_91 : BitVec 32 := 6#32
  let c27_i32_88 : BitVec 32 := 27#32
  let v120 : BitVec 1 := Scalar.cmpi .eq v67 c27_i32_88
  let c14_i32_89 : BitVec 32 := 14#32
  let c26_i32_86 : BitVec 32 := 26#32
  let v118 : BitVec 1 := Scalar.cmpi .eq v67 c26_i32_86
  let c13_i32_87 : BitVec 32 := 13#32
  let c25_i32_84 : BitVec 32 := 25#32
  let v116 : BitVec 1 := Scalar.cmpi .eq v67 c25_i32_84
  let c10_i32_85 : BitVec 32 := 10#32
  let c24_i32_82 : BitVec 32 := 24#32
  let v114 : BitVec 1 := Scalar.cmpi .eq v67 c24_i32_82
  let c9_i32_83 : BitVec 32 := 9#32
  let c23_i32_80 : BitVec 32 := 23#32
  let v112 : BitVec 1 := Scalar.cmpi .eq v67 c23_i32_80
  let c17_i32_81 : BitVec 32 := 17#32
  let c22_i32_78 : BitVec 32 := 22#32
  let v110 : BitVec 1 := Scalar.cmpi .eq v67 c22_i32_78
  let c18_i32_79 : BitVec 32 := 18#32
  let c21_i32_76 : BitVec 32 := 21#32
  let v108 : BitVec 1 := Scalar.cmpi .eq v67 c21_i32_76
  let c21_i32_77 : BitVec 32 := 21#32
  let c20_i32_74 : BitVec 32 := 20#32
  let v106 : BitVec 1 := Scalar.cmpi .eq v67 c20_i32_74
  let c22_i32_75 : BitVec 32 := 22#32
  let c19_i32_72 : BitVec 32 := 19#32
  let v104 : BitVec 1 := Scalar.cmpi .eq v67 c19_i32_72
  let c30_i32_73 : BitVec 32 := 30#32
  let c18_i32_70 : BitVec 32 := 18#32
  let v102 : BitVec 1 := Scalar.cmpi .eq v67 c18_i32_70
  let c29_i32_71 : BitVec 32 := 29#32
  let c17_i32_68 : BitVec 32 := 17#32
  let v100 : BitVec 1 := Scalar.cmpi .eq v67 c17_i32_68
  let c26_i32_69 : BitVec 32 := 26#32
  let c16_i32_66 : BitVec 32 := 16#32
  let v98 : BitVec 1 := Scalar.cmpi .eq v67 c16_i32_66
  let c25_i32_67 : BitVec 32 := 25#32
  let c15_i32_64 : BitVec 32 := 15#32
  let v96 : BitVec 1 := Scalar.cmpi .eq v67 c15_i32_64
  let c24_i32_65 : BitVec 32 := 24#32
  let c14_i32_62 : BitVec 32 := 14#32
  let v94 : BitVec 1 := Scalar.cmpi .eq v67 c14_i32_62
  let c27_i32_63 : BitVec 32 := 27#32
  let c13_i32_60 : BitVec 32 := 13#32
  let v92 : BitVec 1 := Scalar.cmpi .eq v67 c13_i32_60
  let c28_i32_61 : BitVec 32 := 28#32
  let c12_i32_58 : BitVec 32 := 12#32
  let v90 : BitVec 1 := Scalar.cmpi .eq v67 c12_i32_58
  let c31_i32_59 : BitVec 32 := 31#32
  let c11_i32_56 : BitVec 32 := 11#32
  let v88 : BitVec 1 := Scalar.cmpi .eq v67 c11_i32_56
  let c23_i32_57 : BitVec 32 := 23#32
  let c10_i32_54 : BitVec 32 := 10#32
  let v86 : BitVec 1 := Scalar.cmpi .eq v67 c10_i32_54
  let c20_i32_55 : BitVec 32 := 20#32
  let c9_i32_52 : BitVec 32 := 9#32
  let v84 : BitVec 1 := Scalar.cmpi .eq v67 c9_i32_52
  let c19_i32_53 : BitVec 32 := 19#32
  let c8_i32_50 : BitVec 32 := 8#32
  let v82 : BitVec 1 := Scalar.cmpi .eq v67 c8_i32_50
  let c16_i32_51 : BitVec 32 := 16#32
  let c7_i32_48 : BitVec 32 := 7#32
  let v80 : BitVec 1 := Scalar.cmpi .eq v67 c7_i32_48
  let c8_i32_49 : BitVec 32 := 8#32
  let c6_i32_46 : BitVec 32 := 6#32
  let v78 : BitVec 1 := Scalar.cmpi .eq v67 c6_i32_46
  let c11_i32_47 : BitVec 32 := 11#32
  let c5_i32_44 : BitVec 32 := 5#32
  let v76 : BitVec 1 := Scalar.cmpi .eq v67 c5_i32_44
  let c12_i32_45 : BitVec 32 := 12#32
  let c4_i32_42 : BitVec 32 := 4#32
  let v74 : BitVec 1 := Scalar.cmpi .eq v67 c4_i32_42
  let c15_i32_43 : BitVec 32 := 15#32
  let c3_i32_40 : BitVec 32 := 3#32
  let v72 : BitVec 1 := Scalar.cmpi .eq v67 c3_i32_40
  let c7_i32_41 : BitVec 32 := 7#32
  let c2_i32_38 : BitVec 32 := 2#32
  let v70 : BitVec 1 := Scalar.cmpi .eq v67 c2_i32_38
  let c4_i32_39 : BitVec 32 := 4#32
  let c1_i32_35 : BitVec 32 := 1#32
  let v68 : BitVec 1 := Scalar.cmpi .eq v67 c1_i32_35
  let c3_i32_36 : BitVec 32 := 3#32
  let c0_i32_37 : BitVec 32 := 0#32
  let v69 : BitVec 32 := Scalar.select v68 c3_i32_36 c0_i32_37
  let v71 : BitVec 32 := Scalar.select v70 c4_i32_39 v69
  let v73 : BitVec 32 := Scalar.select v72 c7_i32_41 v71
  let v75 : BitVec 32 := Scalar.select v74 c15_i32_43 v73
  let v77 : BitVec 32 := Scalar.select v76 c12_i32_45 v75
  let v79 : BitVec 32 := Scalar.select v78 c11_i32_47 v77
  let v81 : BitVec 32 := Scalar.select v80 c8_i32_49 v79
  let v83 : BitVec 32 := Scalar.select v82 c16_i32_51 v81
  let v85 : BitVec 32 := Scalar.select v84 c19_i32_53 v83
  let v87 : BitVec 32 := Scalar.select v86 c20_i32_55 v85
  let v89 : BitVec 32 := Scalar.select v88 c23_i32_57 v87
  let v91 : BitVec 32 := Scalar.select v90 c31_i32_59 v89
  let v93 : BitVec 32 := Scalar.select v92 c28_i32_61 v91
  let v95 : BitVec 32 := Scalar.select v94 c27_i32_63 v93
  let v97 : BitVec 32 := Scalar.select v96 c24_i32_65 v95
  let v99 : BitVec 32 := Scalar.select v98 c25_i32_67 v97
  let v101 : BitVec 32 := Scalar.select v100 c26_i32_69 v99
  let v103 : BitVec 32 := Scalar.select v102 c29_i32_71 v101
  let v105 : BitVec 32 := Scalar.select v104 c30_i32_73 v103
  let v107 : BitVec 32 := Scalar.select v106 c22_i32_75 v105
  let v109 : BitVec 32 := Scalar.select v108 c21_i32_77 v107
  let v111 : BitVec 32 := Scalar.select v110 c18_i32_79 v109
  let v113 : BitVec 32 := Scalar.select v112 c17_i32_81 v111
  let v115 : BitVec 32 := Scalar.select v114 c9_i32_83 v113
  let v117 : BitVec 32 := Scalar.select v116 c10_i32_85 v115
  let v119 : BitVec 32 := Scalar.select v118 c13_i32_87 v117
  let v121 : BitVec 32 := Scalar.select v120 c14_i32_89 v119
  let v123 : BitVec 32 := Scalar.select v122 c6_i32_91 v121
  let v125 : BitVec 32 := Scalar.select v124 c5_i32_93 v123
  let v127 : BitVec 32 := Scalar.select v126 c2_i32_95 v125
  let v129 : BitVec 32 := Scalar.select v128 c1_i32_97 v127
  let c1_i32_4142 : BitVec 32 := 1#32
  let v3860 : BitVec 32 := Scalar.muli v129 c1_i32_4142
  let v3861 : BitVec 32 := Scalar.addi c0_i32_4143 v3860
  v3861.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c16_i32_4345 : BitVec 32 := 16#32
  let v4059 : BitVec 32 := Scalar.addi v64 c16_i32_4345
  let c32_i32_4346 : BitVec 32 := 32#32
  let v4060 : BitVec 32 := Scalar.remsi v4059 c32_i32_4346
  let c31_i32_4408 : BitVec 32 := 31#32
  let v4121 : BitVec 1 := Scalar.cmpi .eq v4060 c31_i32_4408
  let c1_i32_4409 : BitVec 32 := 1#32
  let c30_i32_4406 : BitVec 32 := 30#32
  let v4119 : BitVec 1 := Scalar.cmpi .eq v4060 c30_i32_4406
  let c2_i32_4407 : BitVec 32 := 2#32
  let c29_i32_4404 : BitVec 32 := 29#32
  let v4117 : BitVec 1 := Scalar.cmpi .eq v4060 c29_i32_4404
  let c5_i32_4405 : BitVec 32 := 5#32
  let c28_i32_4402 : BitVec 32 := 28#32
  let v4115 : BitVec 1 := Scalar.cmpi .eq v4060 c28_i32_4402
  let c6_i32_4403 : BitVec 32 := 6#32
  let c27_i32_4400 : BitVec 32 := 27#32
  let v4113 : BitVec 1 := Scalar.cmpi .eq v4060 c27_i32_4400
  let c14_i32_4401 : BitVec 32 := 14#32
  let c26_i32_4398 : BitVec 32 := 26#32
  let v4111 : BitVec 1 := Scalar.cmpi .eq v4060 c26_i32_4398
  let c13_i32_4399 : BitVec 32 := 13#32
  let c25_i32_4396 : BitVec 32 := 25#32
  let v4109 : BitVec 1 := Scalar.cmpi .eq v4060 c25_i32_4396
  let c10_i32_4397 : BitVec 32 := 10#32
  let c24_i32_4394 : BitVec 32 := 24#32
  let v4107 : BitVec 1 := Scalar.cmpi .eq v4060 c24_i32_4394
  let c9_i32_4395 : BitVec 32 := 9#32
  let c23_i32_4392 : BitVec 32 := 23#32
  let v4105 : BitVec 1 := Scalar.cmpi .eq v4060 c23_i32_4392
  let c17_i32_4393 : BitVec 32 := 17#32
  let c22_i32_4390 : BitVec 32 := 22#32
  let v4103 : BitVec 1 := Scalar.cmpi .eq v4060 c22_i32_4390
  let c18_i32_4391 : BitVec 32 := 18#32
  let c21_i32_4388 : BitVec 32 := 21#32
  let v4101 : BitVec 1 := Scalar.cmpi .eq v4060 c21_i32_4388
  let c21_i32_4389 : BitVec 32 := 21#32
  let c20_i32_4386 : BitVec 32 := 20#32
  let v4099 : BitVec 1 := Scalar.cmpi .eq v4060 c20_i32_4386
  let c22_i32_4387 : BitVec 32 := 22#32
  let c19_i32_4384 : BitVec 32 := 19#32
  let v4097 : BitVec 1 := Scalar.cmpi .eq v4060 c19_i32_4384
  let c30_i32_4385 : BitVec 32 := 30#32
  let c18_i32_4382 : BitVec 32 := 18#32
  let v4095 : BitVec 1 := Scalar.cmpi .eq v4060 c18_i32_4382
  let c29_i32_4383 : BitVec 32 := 29#32
  let c17_i32_4380 : BitVec 32 := 17#32
  let v4093 : BitVec 1 := Scalar.cmpi .eq v4060 c17_i32_4380
  let c26_i32_4381 : BitVec 32 := 26#32
  let c16_i32_4378 : BitVec 32 := 16#32
  let v4091 : BitVec 1 := Scalar.cmpi .eq v4060 c16_i32_4378
  let c25_i32_4379 : BitVec 32 := 25#32
  let c15_i32_4376 : BitVec 32 := 15#32
  let v4089 : BitVec 1 := Scalar.cmpi .eq v4060 c15_i32_4376
  let c24_i32_4377 : BitVec 32 := 24#32
  let c14_i32_4374 : BitVec 32 := 14#32
  let v4087 : BitVec 1 := Scalar.cmpi .eq v4060 c14_i32_4374
  let c27_i32_4375 : BitVec 32 := 27#32
  let c13_i32_4372 : BitVec 32 := 13#32
  let v4085 : BitVec 1 := Scalar.cmpi .eq v4060 c13_i32_4372
  let c28_i32_4373 : BitVec 32 := 28#32
  let c12_i32_4370 : BitVec 32 := 12#32
  let v4083 : BitVec 1 := Scalar.cmpi .eq v4060 c12_i32_4370
  let c31_i32_4371 : BitVec 32 := 31#32
  let c11_i32_4368 : BitVec 32 := 11#32
  let v4081 : BitVec 1 := Scalar.cmpi .eq v4060 c11_i32_4368
  let c23_i32_4369 : BitVec 32 := 23#32
  let c10_i32_4366 : BitVec 32 := 10#32
  let v4079 : BitVec 1 := Scalar.cmpi .eq v4060 c10_i32_4366
  let c20_i32_4367 : BitVec 32 := 20#32
  let c9_i32_4364 : BitVec 32 := 9#32
  let v4077 : BitVec 1 := Scalar.cmpi .eq v4060 c9_i32_4364
  let c19_i32_4365 : BitVec 32 := 19#32
  let c8_i32_4362 : BitVec 32 := 8#32
  let v4075 : BitVec 1 := Scalar.cmpi .eq v4060 c8_i32_4362
  let c16_i32_4363 : BitVec 32 := 16#32
  let c7_i32_4360 : BitVec 32 := 7#32
  let v4073 : BitVec 1 := Scalar.cmpi .eq v4060 c7_i32_4360
  let c8_i32_4361 : BitVec 32 := 8#32
  let c6_i32_4358 : BitVec 32 := 6#32
  let v4071 : BitVec 1 := Scalar.cmpi .eq v4060 c6_i32_4358
  let c11_i32_4359 : BitVec 32 := 11#32
  let c5_i32_4356 : BitVec 32 := 5#32
  let v4069 : BitVec 1 := Scalar.cmpi .eq v4060 c5_i32_4356
  let c12_i32_4357 : BitVec 32 := 12#32
  let c4_i32_4354 : BitVec 32 := 4#32
  let v4067 : BitVec 1 := Scalar.cmpi .eq v4060 c4_i32_4354
  let c15_i32_4355 : BitVec 32 := 15#32
  let c3_i32_4352 : BitVec 32 := 3#32
  let v4065 : BitVec 1 := Scalar.cmpi .eq v4060 c3_i32_4352
  let c7_i32_4353 : BitVec 32 := 7#32
  let c2_i32_4350 : BitVec 32 := 2#32
  let v4063 : BitVec 1 := Scalar.cmpi .eq v4060 c2_i32_4350
  let c4_i32_4351 : BitVec 32 := 4#32
  let c1_i32_4347 : BitVec 32 := 1#32
  let v4061 : BitVec 1 := Scalar.cmpi .eq v4060 c1_i32_4347
  let c3_i32_4348 : BitVec 32 := 3#32
  let c0_i32_4349 : BitVec 32 := 0#32
  let v4062 : BitVec 32 := Scalar.select v4061 c3_i32_4348 c0_i32_4349
  let v4064 : BitVec 32 := Scalar.select v4063 c4_i32_4351 v4062
  let v4066 : BitVec 32 := Scalar.select v4065 c7_i32_4353 v4064
  let v4068 : BitVec 32 := Scalar.select v4067 c15_i32_4355 v4066
  let v4070 : BitVec 32 := Scalar.select v4069 c12_i32_4357 v4068
  let v4072 : BitVec 32 := Scalar.select v4071 c11_i32_4359 v4070
  let v4074 : BitVec 32 := Scalar.select v4073 c8_i32_4361 v4072
  let v4076 : BitVec 32 := Scalar.select v4075 c16_i32_4363 v4074
  let v4078 : BitVec 32 := Scalar.select v4077 c19_i32_4365 v4076
  let v4080 : BitVec 32 := Scalar.select v4079 c20_i32_4367 v4078
  let v4082 : BitVec 32 := Scalar.select v4081 c23_i32_4369 v4080
  let v4084 : BitVec 32 := Scalar.select v4083 c31_i32_4371 v4082
  let v4086 : BitVec 32 := Scalar.select v4085 c28_i32_4373 v4084
  let v4088 : BitVec 32 := Scalar.select v4087 c27_i32_4375 v4086
  let v4090 : BitVec 32 := Scalar.select v4089 c24_i32_4377 v4088
  let v4092 : BitVec 32 := Scalar.select v4091 c25_i32_4379 v4090
  let v4094 : BitVec 32 := Scalar.select v4093 c26_i32_4381 v4092
  let v4096 : BitVec 32 := Scalar.select v4095 c29_i32_4383 v4094
  let v4098 : BitVec 32 := Scalar.select v4097 c30_i32_4385 v4096
  let v4100 : BitVec 32 := Scalar.select v4099 c22_i32_4387 v4098
  let v4102 : BitVec 32 := Scalar.select v4101 c21_i32_4389 v4100
  let v4104 : BitVec 32 := Scalar.select v4103 c18_i32_4391 v4102
  let v4106 : BitVec 32 := Scalar.select v4105 c17_i32_4393 v4104
  let v4108 : BitVec 32 := Scalar.select v4107 c9_i32_4395 v4106
  let v4110 : BitVec 32 := Scalar.select v4109 c10_i32_4397 v4108
  let v4112 : BitVec 32 := Scalar.select v4111 c13_i32_4399 v4110
  let v4114 : BitVec 32 := Scalar.select v4113 c14_i32_4401 v4112
  let v4116 : BitVec 32 := Scalar.select v4115 c6_i32_4403 v4114
  let v4118 : BitVec 32 := Scalar.select v4117 c5_i32_4405 v4116
  let v4120 : BitVec 32 := Scalar.select v4119 c2_i32_4407 v4118
  let v4122 : BitVec 32 := Scalar.select v4121 c1_i32_4409 v4120
  let c128_i32_4416 : BitVec 32 := 128#32
  let v4127 : BitVec 32 := Scalar.muli v4122 c128_i32_4416
  let v4128 : Index := Scalar.indexCast v4127
  let c0_4417 : Index := 0#32
  ![v4128.toNat, 0]
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c16_i32_4345 : BitVec 32 := 16#32
  let v4059 : BitVec 32 := Scalar.addi v64 c16_i32_4345
  let c32_i32_4346 : BitVec 32 := 32#32
  let v4060 : BitVec 32 := Scalar.remsi v4059 c32_i32_4346
  let c31_i32_4408 : BitVec 32 := 31#32
  let v4121 : BitVec 1 := Scalar.cmpi .eq v4060 c31_i32_4408
  let c1_i32_4409 : BitVec 32 := 1#32
  let c30_i32_4406 : BitVec 32 := 30#32
  let v4119 : BitVec 1 := Scalar.cmpi .eq v4060 c30_i32_4406
  let c2_i32_4407 : BitVec 32 := 2#32
  let c29_i32_4404 : BitVec 32 := 29#32
  let v4117 : BitVec 1 := Scalar.cmpi .eq v4060 c29_i32_4404
  let c5_i32_4405 : BitVec 32 := 5#32
  let c28_i32_4402 : BitVec 32 := 28#32
  let v4115 : BitVec 1 := Scalar.cmpi .eq v4060 c28_i32_4402
  let c6_i32_4403 : BitVec 32 := 6#32
  let c27_i32_4400 : BitVec 32 := 27#32
  let v4113 : BitVec 1 := Scalar.cmpi .eq v4060 c27_i32_4400
  let c14_i32_4401 : BitVec 32 := 14#32
  let c26_i32_4398 : BitVec 32 := 26#32
  let v4111 : BitVec 1 := Scalar.cmpi .eq v4060 c26_i32_4398
  let c13_i32_4399 : BitVec 32 := 13#32
  let c25_i32_4396 : BitVec 32 := 25#32
  let v4109 : BitVec 1 := Scalar.cmpi .eq v4060 c25_i32_4396
  let c10_i32_4397 : BitVec 32 := 10#32
  let c24_i32_4394 : BitVec 32 := 24#32
  let v4107 : BitVec 1 := Scalar.cmpi .eq v4060 c24_i32_4394
  let c9_i32_4395 : BitVec 32 := 9#32
  let c23_i32_4392 : BitVec 32 := 23#32
  let v4105 : BitVec 1 := Scalar.cmpi .eq v4060 c23_i32_4392
  let c17_i32_4393 : BitVec 32 := 17#32
  let c22_i32_4390 : BitVec 32 := 22#32
  let v4103 : BitVec 1 := Scalar.cmpi .eq v4060 c22_i32_4390
  let c18_i32_4391 : BitVec 32 := 18#32
  let c21_i32_4388 : BitVec 32 := 21#32
  let v4101 : BitVec 1 := Scalar.cmpi .eq v4060 c21_i32_4388
  let c21_i32_4389 : BitVec 32 := 21#32
  let c20_i32_4386 : BitVec 32 := 20#32
  let v4099 : BitVec 1 := Scalar.cmpi .eq v4060 c20_i32_4386
  let c22_i32_4387 : BitVec 32 := 22#32
  let c19_i32_4384 : BitVec 32 := 19#32
  let v4097 : BitVec 1 := Scalar.cmpi .eq v4060 c19_i32_4384
  let c30_i32_4385 : BitVec 32 := 30#32
  let c18_i32_4382 : BitVec 32 := 18#32
  let v4095 : BitVec 1 := Scalar.cmpi .eq v4060 c18_i32_4382
  let c29_i32_4383 : BitVec 32 := 29#32
  let c17_i32_4380 : BitVec 32 := 17#32
  let v4093 : BitVec 1 := Scalar.cmpi .eq v4060 c17_i32_4380
  let c26_i32_4381 : BitVec 32 := 26#32
  let c16_i32_4378 : BitVec 32 := 16#32
  let v4091 : BitVec 1 := Scalar.cmpi .eq v4060 c16_i32_4378
  let c25_i32_4379 : BitVec 32 := 25#32
  let c15_i32_4376 : BitVec 32 := 15#32
  let v4089 : BitVec 1 := Scalar.cmpi .eq v4060 c15_i32_4376
  let c24_i32_4377 : BitVec 32 := 24#32
  let c14_i32_4374 : BitVec 32 := 14#32
  let v4087 : BitVec 1 := Scalar.cmpi .eq v4060 c14_i32_4374
  let c27_i32_4375 : BitVec 32 := 27#32
  let c13_i32_4372 : BitVec 32 := 13#32
  let v4085 : BitVec 1 := Scalar.cmpi .eq v4060 c13_i32_4372
  let c28_i32_4373 : BitVec 32 := 28#32
  let c12_i32_4370 : BitVec 32 := 12#32
  let v4083 : BitVec 1 := Scalar.cmpi .eq v4060 c12_i32_4370
  let c31_i32_4371 : BitVec 32 := 31#32
  let c11_i32_4368 : BitVec 32 := 11#32
  let v4081 : BitVec 1 := Scalar.cmpi .eq v4060 c11_i32_4368
  let c23_i32_4369 : BitVec 32 := 23#32
  let c10_i32_4366 : BitVec 32 := 10#32
  let v4079 : BitVec 1 := Scalar.cmpi .eq v4060 c10_i32_4366
  let c20_i32_4367 : BitVec 32 := 20#32
  let c9_i32_4364 : BitVec 32 := 9#32
  let v4077 : BitVec 1 := Scalar.cmpi .eq v4060 c9_i32_4364
  let c19_i32_4365 : BitVec 32 := 19#32
  let c8_i32_4362 : BitVec 32 := 8#32
  let v4075 : BitVec 1 := Scalar.cmpi .eq v4060 c8_i32_4362
  let c16_i32_4363 : BitVec 32 := 16#32
  let c7_i32_4360 : BitVec 32 := 7#32
  let v4073 : BitVec 1 := Scalar.cmpi .eq v4060 c7_i32_4360
  let c8_i32_4361 : BitVec 32 := 8#32
  let c6_i32_4358 : BitVec 32 := 6#32
  let v4071 : BitVec 1 := Scalar.cmpi .eq v4060 c6_i32_4358
  let c11_i32_4359 : BitVec 32 := 11#32
  let c5_i32_4356 : BitVec 32 := 5#32
  let v4069 : BitVec 1 := Scalar.cmpi .eq v4060 c5_i32_4356
  let c12_i32_4357 : BitVec 32 := 12#32
  let c4_i32_4354 : BitVec 32 := 4#32
  let v4067 : BitVec 1 := Scalar.cmpi .eq v4060 c4_i32_4354
  let c15_i32_4355 : BitVec 32 := 15#32
  let c3_i32_4352 : BitVec 32 := 3#32
  let v4065 : BitVec 1 := Scalar.cmpi .eq v4060 c3_i32_4352
  let c7_i32_4353 : BitVec 32 := 7#32
  let c2_i32_4350 : BitVec 32 := 2#32
  let v4063 : BitVec 1 := Scalar.cmpi .eq v4060 c2_i32_4350
  let c4_i32_4351 : BitVec 32 := 4#32
  let c1_i32_4347 : BitVec 32 := 1#32
  let v4061 : BitVec 1 := Scalar.cmpi .eq v4060 c1_i32_4347
  let c3_i32_4348 : BitVec 32 := 3#32
  let c0_i32_4349 : BitVec 32 := 0#32
  let v4062 : BitVec 32 := Scalar.select v4061 c3_i32_4348 c0_i32_4349
  let v4064 : BitVec 32 := Scalar.select v4063 c4_i32_4351 v4062
  let v4066 : BitVec 32 := Scalar.select v4065 c7_i32_4353 v4064
  let v4068 : BitVec 32 := Scalar.select v4067 c15_i32_4355 v4066
  let v4070 : BitVec 32 := Scalar.select v4069 c12_i32_4357 v4068
  let v4072 : BitVec 32 := Scalar.select v4071 c11_i32_4359 v4070
  let v4074 : BitVec 32 := Scalar.select v4073 c8_i32_4361 v4072
  let v4076 : BitVec 32 := Scalar.select v4075 c16_i32_4363 v4074
  let v4078 : BitVec 32 := Scalar.select v4077 c19_i32_4365 v4076
  let v4080 : BitVec 32 := Scalar.select v4079 c20_i32_4367 v4078
  let v4082 : BitVec 32 := Scalar.select v4081 c23_i32_4369 v4080
  let v4084 : BitVec 32 := Scalar.select v4083 c31_i32_4371 v4082
  let v4086 : BitVec 32 := Scalar.select v4085 c28_i32_4373 v4084
  let v4088 : BitVec 32 := Scalar.select v4087 c27_i32_4375 v4086
  let v4090 : BitVec 32 := Scalar.select v4089 c24_i32_4377 v4088
  let v4092 : BitVec 32 := Scalar.select v4091 c25_i32_4379 v4090
  let v4094 : BitVec 32 := Scalar.select v4093 c26_i32_4381 v4092
  let v4096 : BitVec 32 := Scalar.select v4095 c29_i32_4383 v4094
  let v4098 : BitVec 32 := Scalar.select v4097 c30_i32_4385 v4096
  let v4100 : BitVec 32 := Scalar.select v4099 c22_i32_4387 v4098
  let v4102 : BitVec 32 := Scalar.select v4101 c21_i32_4389 v4100
  let v4104 : BitVec 32 := Scalar.select v4103 c18_i32_4391 v4102
  let v4106 : BitVec 32 := Scalar.select v4105 c17_i32_4393 v4104
  let v4108 : BitVec 32 := Scalar.select v4107 c9_i32_4395 v4106
  let v4110 : BitVec 32 := Scalar.select v4109 c10_i32_4397 v4108
  let v4112 : BitVec 32 := Scalar.select v4111 c13_i32_4399 v4110
  let v4114 : BitVec 32 := Scalar.select v4113 c14_i32_4401 v4112
  let v4116 : BitVec 32 := Scalar.select v4115 c6_i32_4403 v4114
  let v4118 : BitVec 32 := Scalar.select v4117 c5_i32_4405 v4116
  let v4120 : BitVec 32 := Scalar.select v4119 c2_i32_4407 v4118
  let v4122 : BitVec 32 := Scalar.select v4121 c1_i32_4409 v4120
  let c128_i32_4424 : BitVec 32 := 128#32
  let v4139 : BitVec 32 := Scalar.muli v4122 c128_i32_4424
  let c64_i32_4425 : BitVec 32 := 64#32
  let v4140 : BitVec 32 := Scalar.addi v4139 c64_i32_4425
  let v4141 : Index := Scalar.indexCast v4140
  let c0_4426 : Index := 0#32
  ![v4141.toNat, 0]
def k0_dev91 (d0 : Dev nD) : Nat :=
  let c0_i32_4436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4430 : BitVec 32 := 1#32
  let v4152 : BitVec 32 := Scalar.addi v2 c1_i32_4430
  let c32_i32_4431 : BitVec 32 := 32#32
  let v4153 : BitVec 32 := Scalar.remsi v4152 c32_i32_4431
  let c1_i32_4435 : BitVec 32 := 1#32
  let v4154 : BitVec 32 := Scalar.muli v4153 c1_i32_4435
  let v4155 : BitVec 32 := Scalar.addi c0_i32_4436 v4154
  v4155.toNat
def k0_dev92 (d0 : Dev nD) : Nat :=
  let c0_i32_4445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_4439 : BitVec 32 := 2#32
  let v4162 : BitVec 32 := Scalar.addi v2 c2_i32_4439
  let c32_i32_4440 : BitVec 32 := 32#32
  let v4163 : BitVec 32 := Scalar.remsi v4162 c32_i32_4440
  let c1_i32_4444 : BitVec 32 := 1#32
  let v4164 : BitVec 32 := Scalar.muli v4163 c1_i32_4444
  let v4165 : BitVec 32 := Scalar.addi c0_i32_4445 v4164
  v4165.toNat
def k0_dev93 (d0 : Dev nD) : Nat :=
  let c0_i32_4454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_4448 : BitVec 32 := 3#32
  let v4172 : BitVec 32 := Scalar.addi v2 c3_i32_4448
  let c32_i32_4449 : BitVec 32 := 32#32
  let v4173 : BitVec 32 := Scalar.remsi v4172 c32_i32_4449
  let c1_i32_4453 : BitVec 32 := 1#32
  let v4174 : BitVec 32 := Scalar.muli v4173 c1_i32_4453
  let v4175 : BitVec 32 := Scalar.addi c0_i32_4454 v4174
  v4175.toNat
def k0_dev94 (d0 : Dev nD) : Nat :=
  let c0_i32_4463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_4457 : BitVec 32 := 4#32
  let v4182 : BitVec 32 := Scalar.addi v2 c4_i32_4457
  let c32_i32_4458 : BitVec 32 := 32#32
  let v4183 : BitVec 32 := Scalar.remsi v4182 c32_i32_4458
  let c1_i32_4462 : BitVec 32 := 1#32
  let v4184 : BitVec 32 := Scalar.muli v4183 c1_i32_4462
  let v4185 : BitVec 32 := Scalar.addi c0_i32_4463 v4184
  v4185.toNat
def k0_dev95 (d0 : Dev nD) : Nat :=
  let c0_i32_4472 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_4466 : BitVec 32 := 5#32
  let v4192 : BitVec 32 := Scalar.addi v2 c5_i32_4466
  let c32_i32_4467 : BitVec 32 := 32#32
  let v4193 : BitVec 32 := Scalar.remsi v4192 c32_i32_4467
  let c1_i32_4471 : BitVec 32 := 1#32
  let v4194 : BitVec 32 := Scalar.muli v4193 c1_i32_4471
  let v4195 : BitVec 32 := Scalar.addi c0_i32_4472 v4194
  v4195.toNat
def k0_dev96 (d0 : Dev nD) : Nat :=
  let c0_i32_4481 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_4475 : BitVec 32 := 6#32
  let v4202 : BitVec 32 := Scalar.addi v2 c6_i32_4475
  let c32_i32_4476 : BitVec 32 := 32#32
  let v4203 : BitVec 32 := Scalar.remsi v4202 c32_i32_4476
  let c1_i32_4480 : BitVec 32 := 1#32
  let v4204 : BitVec 32 := Scalar.muli v4203 c1_i32_4480
  let v4205 : BitVec 32 := Scalar.addi c0_i32_4481 v4204
  v4205.toNat
def k0_dev97 (d0 : Dev nD) : Nat :=
  let c0_i32_4490 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_4484 : BitVec 32 := 7#32
  let v4212 : BitVec 32 := Scalar.addi v2 c7_i32_4484
  let c32_i32_4485 : BitVec 32 := 32#32
  let v4213 : BitVec 32 := Scalar.remsi v4212 c32_i32_4485
  let c1_i32_4489 : BitVec 32 := 1#32
  let v4214 : BitVec 32 := Scalar.muli v4213 c1_i32_4489
  let v4215 : BitVec 32 := Scalar.addi c0_i32_4490 v4214
  v4215.toNat
def k0_dev98 (d0 : Dev nD) : Nat :=
  let c0_i32_4499 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4493 : BitVec 32 := 8#32
  let v4222 : BitVec 32 := Scalar.addi v2 c8_i32_4493
  let c32_i32_4494 : BitVec 32 := 32#32
  let v4223 : BitVec 32 := Scalar.remsi v4222 c32_i32_4494
  let c1_i32_4498 : BitVec 32 := 1#32
  let v4224 : BitVec 32 := Scalar.muli v4223 c1_i32_4498
  let v4225 : BitVec 32 := Scalar.addi c0_i32_4499 v4224
  v4225.toNat
def k0_dev99 (d0 : Dev nD) : Nat :=
  let c0_i32_4508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_4502 : BitVec 32 := 9#32
  let v4232 : BitVec 32 := Scalar.addi v2 c9_i32_4502
  let c32_i32_4503 : BitVec 32 := 32#32
  let v4233 : BitVec 32 := Scalar.remsi v4232 c32_i32_4503
  let c1_i32_4507 : BitVec 32 := 1#32
  let v4234 : BitVec 32 := Scalar.muli v4233 c1_i32_4507
  let v4235 : BitVec 32 := Scalar.addi c0_i32_4508 v4234
  v4235.toNat
def k0_dev100 (d0 : Dev nD) : Nat :=
  let c0_i32_4517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_4511 : BitVec 32 := 10#32
  let v4242 : BitVec 32 := Scalar.addi v2 c10_i32_4511
  let c32_i32_4512 : BitVec 32 := 32#32
  let v4243 : BitVec 32 := Scalar.remsi v4242 c32_i32_4512
  let c1_i32_4516 : BitVec 32 := 1#32
  let v4244 : BitVec 32 := Scalar.muli v4243 c1_i32_4516
  let v4245 : BitVec 32 := Scalar.addi c0_i32_4517 v4244
  v4245.toNat
def k0_dev101 (d0 : Dev nD) : Nat :=
  let c0_i32_4526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_4520 : BitVec 32 := 11#32
  let v4252 : BitVec 32 := Scalar.addi v2 c11_i32_4520
  let c32_i32_4521 : BitVec 32 := 32#32
  let v4253 : BitVec 32 := Scalar.remsi v4252 c32_i32_4521
  let c1_i32_4525 : BitVec 32 := 1#32
  let v4254 : BitVec 32 := Scalar.muli v4253 c1_i32_4525
  let v4255 : BitVec 32 := Scalar.addi c0_i32_4526 v4254
  v4255.toNat
def k0_dev102 (d0 : Dev nD) : Nat :=
  let c0_i32_4535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_4529 : BitVec 32 := 12#32
  let v4262 : BitVec 32 := Scalar.addi v2 c12_i32_4529
  let c32_i32_4530 : BitVec 32 := 32#32
  let v4263 : BitVec 32 := Scalar.remsi v4262 c32_i32_4530
  let c1_i32_4534 : BitVec 32 := 1#32
  let v4264 : BitVec 32 := Scalar.muli v4263 c1_i32_4534
  let v4265 : BitVec 32 := Scalar.addi c0_i32_4535 v4264
  v4265.toNat
def k0_dev103 (d0 : Dev nD) : Nat :=
  let c0_i32_4544 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_4538 : BitVec 32 := 13#32
  let v4272 : BitVec 32 := Scalar.addi v2 c13_i32_4538
  let c32_i32_4539 : BitVec 32 := 32#32
  let v4273 : BitVec 32 := Scalar.remsi v4272 c32_i32_4539
  let c1_i32_4543 : BitVec 32 := 1#32
  let v4274 : BitVec 32 := Scalar.muli v4273 c1_i32_4543
  let v4275 : BitVec 32 := Scalar.addi c0_i32_4544 v4274
  v4275.toNat
def k0_dev104 (d0 : Dev nD) : Nat :=
  let c0_i32_4553 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_4547 : BitVec 32 := 14#32
  let v4282 : BitVec 32 := Scalar.addi v2 c14_i32_4547
  let c32_i32_4548 : BitVec 32 := 32#32
  let v4283 : BitVec 32 := Scalar.remsi v4282 c32_i32_4548
  let c1_i32_4552 : BitVec 32 := 1#32
  let v4284 : BitVec 32 := Scalar.muli v4283 c1_i32_4552
  let v4285 : BitVec 32 := Scalar.addi c0_i32_4553 v4284
  v4285.toNat
def k0_dev105 (d0 : Dev nD) : Nat :=
  let c0_i32_4562 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_4556 : BitVec 32 := 15#32
  let v4292 : BitVec 32 := Scalar.addi v2 c15_i32_4556
  let c32_i32_4557 : BitVec 32 := 32#32
  let v4293 : BitVec 32 := Scalar.remsi v4292 c32_i32_4557
  let c1_i32_4561 : BitVec 32 := 1#32
  let v4294 : BitVec 32 := Scalar.muli v4293 c1_i32_4561
  let v4295 : BitVec 32 := Scalar.addi c0_i32_4562 v4294
  v4295.toNat
def k0_dev106 (d0 : Dev nD) : Nat :=
  let c0_i32_4571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_4565 : BitVec 32 := 16#32
  let v4302 : BitVec 32 := Scalar.addi v2 c16_i32_4565
  let c32_i32_4566 : BitVec 32 := 32#32
  let v4303 : BitVec 32 := Scalar.remsi v4302 c32_i32_4566
  let c1_i32_4570 : BitVec 32 := 1#32
  let v4304 : BitVec 32 := Scalar.muli v4303 c1_i32_4570
  let v4305 : BitVec 32 := Scalar.addi c0_i32_4571 v4304
  v4305.toNat
def k0_dev107 (d0 : Dev nD) : Nat :=
  let c0_i32_4580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_4574 : BitVec 32 := 17#32
  let v4312 : BitVec 32 := Scalar.addi v2 c17_i32_4574
  let c32_i32_4575 : BitVec 32 := 32#32
  let v4313 : BitVec 32 := Scalar.remsi v4312 c32_i32_4575
  let c1_i32_4579 : BitVec 32 := 1#32
  let v4314 : BitVec 32 := Scalar.muli v4313 c1_i32_4579
  let v4315 : BitVec 32 := Scalar.addi c0_i32_4580 v4314
  v4315.toNat
def k0_dev108 (d0 : Dev nD) : Nat :=
  let c0_i32_4589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_4583 : BitVec 32 := 18#32
  let v4322 : BitVec 32 := Scalar.addi v2 c18_i32_4583
  let c32_i32_4584 : BitVec 32 := 32#32
  let v4323 : BitVec 32 := Scalar.remsi v4322 c32_i32_4584
  let c1_i32_4588 : BitVec 32 := 1#32
  let v4324 : BitVec 32 := Scalar.muli v4323 c1_i32_4588
  let v4325 : BitVec 32 := Scalar.addi c0_i32_4589 v4324
  v4325.toNat
def k0_dev109 (d0 : Dev nD) : Nat :=
  let c0_i32_4598 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_4592 : BitVec 32 := 19#32
  let v4332 : BitVec 32 := Scalar.addi v2 c19_i32_4592
  let c32_i32_4593 : BitVec 32 := 32#32
  let v4333 : BitVec 32 := Scalar.remsi v4332 c32_i32_4593
  let c1_i32_4597 : BitVec 32 := 1#32
  let v4334 : BitVec 32 := Scalar.muli v4333 c1_i32_4597
  let v4335 : BitVec 32 := Scalar.addi c0_i32_4598 v4334
  v4335.toNat
def k0_dev110 (d0 : Dev nD) : Nat :=
  let c0_i32_4607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_4601 : BitVec 32 := 20#32
  let v4342 : BitVec 32 := Scalar.addi v2 c20_i32_4601
  let c32_i32_4602 : BitVec 32 := 32#32
  let v4343 : BitVec 32 := Scalar.remsi v4342 c32_i32_4602
  let c1_i32_4606 : BitVec 32 := 1#32
  let v4344 : BitVec 32 := Scalar.muli v4343 c1_i32_4606
  let v4345 : BitVec 32 := Scalar.addi c0_i32_4607 v4344
  v4345.toNat
def k0_dev111 (d0 : Dev nD) : Nat :=
  let c0_i32_4616 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_4610 : BitVec 32 := 21#32
  let v4352 : BitVec 32 := Scalar.addi v2 c21_i32_4610
  let c32_i32_4611 : BitVec 32 := 32#32
  let v4353 : BitVec 32 := Scalar.remsi v4352 c32_i32_4611
  let c1_i32_4615 : BitVec 32 := 1#32
  let v4354 : BitVec 32 := Scalar.muli v4353 c1_i32_4615
  let v4355 : BitVec 32 := Scalar.addi c0_i32_4616 v4354
  v4355.toNat
def k0_dev112 (d0 : Dev nD) : Nat :=
  let c0_i32_4625 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_4619 : BitVec 32 := 22#32
  let v4362 : BitVec 32 := Scalar.addi v2 c22_i32_4619
  let c32_i32_4620 : BitVec 32 := 32#32
  let v4363 : BitVec 32 := Scalar.remsi v4362 c32_i32_4620
  let c1_i32_4624 : BitVec 32 := 1#32
  let v4364 : BitVec 32 := Scalar.muli v4363 c1_i32_4624
  let v4365 : BitVec 32 := Scalar.addi c0_i32_4625 v4364
  v4365.toNat
def k0_dev113 (d0 : Dev nD) : Nat :=
  let c0_i32_4634 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_4628 : BitVec 32 := 23#32
  let v4372 : BitVec 32 := Scalar.addi v2 c23_i32_4628
  let c32_i32_4629 : BitVec 32 := 32#32
  let v4373 : BitVec 32 := Scalar.remsi v4372 c32_i32_4629
  let c1_i32_4633 : BitVec 32 := 1#32
  let v4374 : BitVec 32 := Scalar.muli v4373 c1_i32_4633
  let v4375 : BitVec 32 := Scalar.addi c0_i32_4634 v4374
  v4375.toNat
def k0_dev114 (d0 : Dev nD) : Nat :=
  let c0_i32_4643 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_4637 : BitVec 32 := 24#32
  let v4382 : BitVec 32 := Scalar.addi v2 c24_i32_4637
  let c32_i32_4638 : BitVec 32 := 32#32
  let v4383 : BitVec 32 := Scalar.remsi v4382 c32_i32_4638
  let c1_i32_4642 : BitVec 32 := 1#32
  let v4384 : BitVec 32 := Scalar.muli v4383 c1_i32_4642
  let v4385 : BitVec 32 := Scalar.addi c0_i32_4643 v4384
  v4385.toNat
def k0_dev115 (d0 : Dev nD) : Nat :=
  let c0_i32_4652 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_4646 : BitVec 32 := 25#32
  let v4392 : BitVec 32 := Scalar.addi v2 c25_i32_4646
  let c32_i32_4647 : BitVec 32 := 32#32
  let v4393 : BitVec 32 := Scalar.remsi v4392 c32_i32_4647
  let c1_i32_4651 : BitVec 32 := 1#32
  let v4394 : BitVec 32 := Scalar.muli v4393 c1_i32_4651
  let v4395 : BitVec 32 := Scalar.addi c0_i32_4652 v4394
  v4395.toNat
def k0_dev116 (d0 : Dev nD) : Nat :=
  let c0_i32_4661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_4655 : BitVec 32 := 26#32
  let v4402 : BitVec 32 := Scalar.addi v2 c26_i32_4655
  let c32_i32_4656 : BitVec 32 := 32#32
  let v4403 : BitVec 32 := Scalar.remsi v4402 c32_i32_4656
  let c1_i32_4660 : BitVec 32 := 1#32
  let v4404 : BitVec 32 := Scalar.muli v4403 c1_i32_4660
  let v4405 : BitVec 32 := Scalar.addi c0_i32_4661 v4404
  v4405.toNat
def k0_dev117 (d0 : Dev nD) : Nat :=
  let c0_i32_4670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_4664 : BitVec 32 := 27#32
  let v4412 : BitVec 32 := Scalar.addi v2 c27_i32_4664
  let c32_i32_4665 : BitVec 32 := 32#32
  let v4413 : BitVec 32 := Scalar.remsi v4412 c32_i32_4665
  let c1_i32_4669 : BitVec 32 := 1#32
  let v4414 : BitVec 32 := Scalar.muli v4413 c1_i32_4669
  let v4415 : BitVec 32 := Scalar.addi c0_i32_4670 v4414
  v4415.toNat
def k0_dev118 (d0 : Dev nD) : Nat :=
  let c0_i32_4679 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_4673 : BitVec 32 := 28#32
  let v4422 : BitVec 32 := Scalar.addi v2 c28_i32_4673
  let c32_i32_4674 : BitVec 32 := 32#32
  let v4423 : BitVec 32 := Scalar.remsi v4422 c32_i32_4674
  let c1_i32_4678 : BitVec 32 := 1#32
  let v4424 : BitVec 32 := Scalar.muli v4423 c1_i32_4678
  let v4425 : BitVec 32 := Scalar.addi c0_i32_4679 v4424
  v4425.toNat
def k0_dev119 (d0 : Dev nD) : Nat :=
  let c0_i32_4688 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_4682 : BitVec 32 := 29#32
  let v4432 : BitVec 32 := Scalar.addi v2 c29_i32_4682
  let c32_i32_4683 : BitVec 32 := 32#32
  let v4433 : BitVec 32 := Scalar.remsi v4432 c32_i32_4683
  let c1_i32_4687 : BitVec 32 := 1#32
  let v4434 : BitVec 32 := Scalar.muli v4433 c1_i32_4687
  let v4435 : BitVec 32 := Scalar.addi c0_i32_4688 v4434
  v4435.toNat
def k0_dev120 (d0 : Dev nD) : Nat :=
  let c0_i32_4697 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_4691 : BitVec 32 := 30#32
  let v4442 : BitVec 32 := Scalar.addi v2 c30_i32_4691
  let c32_i32_4692 : BitVec 32 := 32#32
  let v4443 : BitVec 32 := Scalar.remsi v4442 c32_i32_4692
  let c1_i32_4696 : BitVec 32 := 1#32
  let v4444 : BitVec 32 := Scalar.muli v4443 c1_i32_4696
  let v4445 : BitVec 32 := Scalar.addi c0_i32_4697 v4444
  v4445.toNat
def k0_dev121 (d0 : Dev nD) : Nat :=
  let c0_i32_4706 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_4700 : BitVec 32 := 31#32
  let v4452 : BitVec 32 := Scalar.addi v2 c31_i32_4700
  let c32_i32_4701 : BitVec 32 := 32#32
  let v4453 : BitVec 32 := Scalar.remsi v4452 c32_i32_4701
  let c1_i32_4705 : BitVec 32 := 1#32
  let v4454 : BitVec 32 := Scalar.muli v4453 c1_i32_4705
  let v4455 : BitVec 32 := Scalar.addi c0_i32_4706 v4454
  v4455.toNat
abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Prog.lean ====
/-
# The kernel's body written by hop

The printed body is one long sequence of memory operations. Here it is written once per hop of the ring:
a prologue, sixteen hops of the same text, the exchange of the devices' maxima and the final scaling.
`body_eq` says that this is the printed body.
-/
module

public import proofs.«01_k».proof.KernelIdeal
public import Idealize.ShloMosaic.Lib.Pipeline.Regions

@[expose] public section

set_option backward.proofsInPublic true

noncomputable section

namespace Cert.Ring

open Cert.KernelIdeal
open Idealize.ShloMosaic Idealize.ShloMosaic.TcCoe Idealize.SL.Sem

/-! ## The two communication buffers, by slot and half -/

/-- One of the four streams: which way it goes (`left`) and which half of a chunk's rows it carries (`low`). -/
structure Strm where
  left : Bool
  low : Bool
deriving DecidableEq

instance : Fintype Strm := .ofEquiv (Bool × Bool) ⟨fun p => ⟨p.1, p.2⟩, fun σ => (σ.left, σ.low), fun _ => rfl, fun _ => rfl⟩

/-- A direction's stream of sixteen hops: upper halves to the right, lower halves to the left. -/
def major (d : Bool) : Strm := ⟨d, d⟩
/-- A direction's stream of fifteen hops. -/
def minor (d : Bool) : Strm := ⟨d, !d⟩

theorem squeeze_one : S1.Squeezes S_ := by decide
theorem squeeze_half : S1x64x4096.Squeezes S64x4096 := by decide
theorem squeeze_top : S1x8x128.Squeezes S8x128 := by decide

/-- The communication buffer of a direction. -/
def comm : Bool → Memref sig .tc .vmem S4x128x4096 .bf16
  | false => Memref.whole cc0_scratch0
  | true => Memref.whole cc0_scratch1

theorem comm_whole : ∀ d : Bool, (comm d).IsWhole
  | false => Memref.isWhole_whole _
  | true => Memref.isWhole_whole _

/-- The first row of a half. -/
def row0 : Bool → ℕ
  | false => 0
  | true => 64

theorem slot_inb (s : ℕ) (b : Bool) :
    ∀ a, (![s % 4, row0 b, 0] : Fin 3 → ℕ) a + S1x64x4096.size a ≤ S4x128x4096.size a := by
  have h : ∀ (t : Fin 4) (b : Bool) (a : Fin 3), (![t.val, row0 b, 0] : Fin 3 → ℕ) a + S1x64x4096.size a ≤ S4x128x4096.size a := by decide
  exact h ⟨s % 4, Nat.mod_lt _ (by decide)⟩ b

/-- Half `b` of slot `s`. -/
def slotRect (s : ℕ) (b : Bool) : Rect S4x128x4096 :=
  Rect.unit (s := S4x128x4096) ![s % 4, row0 b, 0] S1x64x4096.size (slot_inb s b)

theorem slotRect_words (s : ℕ) (b : Bool) : (slotRect s b).WholeWords (EltTy.packing .bf16) := by
  have h : ∀ (t : Fin 4) (b : Bool), (slotRect t.val b).WholeWords (EltTy.packing .bf16) := by decide
  have e : slotRect s b = slotRect (s % 4) b := by
    unfold slotRect; congr 2; simp [Nat.mod_mod]
  rw [e]; exact h ⟨s % 4, Nat.mod_lt _ (by decide)⟩ b

/-- A stream's share of slot `s` of its buffer: the matrix that one copy moves. -/
def half (σ : Strm) (s : ℕ) : Memref sig .tc .vmem S64x4096 .bf16 :=
  ((comm σ.left).slice (slotRect s σ.low) (fun _ => rfl)).squeeze S64x4096 squeeze_half

theorem half_words (σ : Strm) (s : ℕ) : (half σ s).view.WordExact :=
  ((comm_whole σ.left).wordExact_slice rfl _ (slotRect_words s σ.low)).reshape _ _

theorem one_inb (s : ℕ) : ∀ a, (![s % 4] : Fin 1 → ℕ) a + S1.size a ≤ S4.size a := by
  have h : ∀ (t : Fin 4) (a : Fin 1), (![t.val] : Fin 1 → ℕ) a + S1.size a ≤ S4.size a := by decide
  exact h ⟨s % 4, Nat.mod_lt _ (by decide)⟩

/-! ## The other buffers -/

/-- The result's staging buffer. -/
abbrev outM : Memref sig .tc .vmem S4096x256 .f32 := Memref.whole cc0_stg2_0
/-- The rounded columns. -/
abbrev colM : Memref sig .tc .vmem S4096x256 .bf16 := Memref.whole cc0_scratch2
/-- The device's own maximum. -/
abbrev maxM : Memref sig .tc .vmem S8x128 .f32 := Memref.whole cc0_scratch3
/-- The received maxima. -/
abbrev topsM : Memref sig .tc .vmem S32x8x128 .f32 := Memref.whole cc0_scratch4
abbrev xM : Memref sig .tc .vmem S128x4096 .f32 := Memref.whole cc0_stg0_0
abbrev wM : Memref sig .tc .vmem S4096x256 .f32 := Memref.whole cc0_stg1_0

theorem chunk_inb (s : ℕ) :
    ∀ a, (![s % 4, 0, 0] : Fin 3 → ℕ) a + S1x128x4096.size a ≤ S4x128x4096.size a := by
  have h : ∀ (t : Fin 4) (a : Fin 3), (![t.val, 0, 0] : Fin 3 → ℕ) a + S1x128x4096.size a ≤ S4x128x4096.size a := by decide
  exact h ⟨s % 4, Nat.mod_lt _ (by decide)⟩

/-- Slot `s`, both halves. -/
def chunkRect (s : ℕ) : Rect S4x128x4096 := Rect.unit (s := S4x128x4096) ![s % 4, 0, 0] S1x128x4096.size (chunk_inb s)

def fin15 (h : ℕ) : Fin 15 := ⟨h % 15, Nat.mod_lt _ (by decide)⟩

/-- Where the chunk that hop `h` brings from the left is written. -/
def outOffR (c : Dev nD) (h : ℕ) : Fin 2 → ℕ := k0_off2 c (BitVec.ofNat 32 (1 + (fin15 h).val))
/-- Where the chunk that hop `h` brings from the right is written. -/
def outOffL (c : Dev nD) (h : ℕ) : Fin 2 → ℕ := k0_off3 c (BitVec.ofNat 32 (1 + (fin15 h).val))

theorem tops_inb (o : ℕ) : ∀ a, (![o % 32, 0, 0] : Fin 3 → ℕ) a + S1x8x128.size a ≤ S32x8x128.size a := by
  have h : ∀ (t : Fin 32) (a : Fin 3), (![t.val, 0, 0] : Fin 3 → ℕ) a + S1x8x128.size a ≤ S32x8x128.size a := by decide
  exact h ⟨o % 32, Nat.mod_lt _ (by decide)⟩

/-- Slot `o` of the received maxima. -/
def topSlot (o : ℕ) : Memref sig .tc .vmem S8x128 .f32 :=
  (topsM.slice (Rect.unit (s := S32x8x128) ![o % 32, 0, 0] S1x8x128.size (tops_inb o)) (fun _ => rfl)).squeeze S8x128 squeeze_top

theorem topSlot_words (o : ℕ) : (topSlot o).view.WordExact := (View.wordExact_bits rfl).reshape _ _
theorem maxM_words : maxM.view.WordExact := (Memref.isWhole_whole _ : maxM.IsWhole).wordExact

theorem one32_inb (s : ℕ) : ∀ a, (![s % 32] : Fin 1 → ℕ) a + S1.size a ≤ S32.size a := by
  have h : ∀ (t : Fin 32) (a : Fin 1), (![t.val] : Fin 1 → ℕ) a + S1.size a ≤ S32.size a := by decide
  exact h ⟨s % 32, Nat.mod_lt _ (by decide)⟩

/-! ## The semaphores -/

variable [Facts]
open Facts₀ Facts

/-- The semaphores a stream's copies signal at the sender: one for each slot. -/
def sndArr : Strm → DmaSems sig S4
  | ⟨false, false⟩ => cc0_scratch5
  | ⟨false, true⟩ => cc0_scratch7
  | ⟨true, false⟩ => cc0_scratch9
  | ⟨true, true⟩ => cc0_scratch11

/-- The semaphores a stream's copies signal at the receiver: one for each slot. -/
def rcvArr : Strm → DmaSems sig S4
  | ⟨false, false⟩ => cc0_scratch6
  | ⟨false, true⟩ => cc0_scratch8
  | ⟨true, false⟩ => cc0_scratch10
  | ⟨true, true⟩ => cc0_scratch12

/-- The semaphore of slot `s` in an array of four. -/
def pick4 (a : DmaSems sig S4) (s : ℕ) : DmaSem sig :=
  ((a.slice (Rect.unit (s := S4) ![s % 4] S1.size (one_inb s))).squeeze S_ squeeze_one).sem

def sndSem (σ : Strm) (s : ℕ) : DmaSem sig := pick4 (sndArr σ) s
def rcvSem (σ : Strm) (s : ℕ) : DmaSem sig := pick4 (rcvArr σ) s

/-- The credit semaphore of a direction. -/
def credSem : Bool → Sem sig
  | false => cc0_scratch15.sem
  | true => cc0_scratch16.sem

/-- The semaphore `s` in an array of 32. -/
def pick32 (a : DmaSems sig S32) (s : ℕ) : DmaSem sig :=
  ((a.slice (Rect.unit (s := S32) ![s % 32] S1.size (one32_inb s))).squeeze S_ squeeze_one).sem

def topSnd (o : ℕ) : DmaSem sig := pick32 cc0_scratch13 o
def topRcv (o : ℕ) : DmaSem sig := pick32 cc0_scratch14 o

variable {F : FTy → Type} [FloatOps F]

/-! ## The devices named -/

/-- Where hop `h` of the right-going stream of upper halves is sent. -/
def tgtRA (c : Dev nD) : ℕ → Dev nD
  | 0 => ⟨k0_dev3 c, k0_dev3_lt c⟩
  | 1 => ⟨k0_dev9 c, k0_dev9_lt c⟩
  | 2 => ⟨k0_dev15 c, k0_dev15_lt c⟩
  | 3 => ⟨k0_dev21 c, k0_dev21_lt c⟩
  | 4 => ⟨k0_dev27 c, k0_dev27_lt c⟩
  | 5 => ⟨k0_dev33 c, k0_dev33_lt c⟩
  | 6 => ⟨k0_dev39 c, k0_dev39_lt c⟩
  | 7 => ⟨k0_dev45 c, k0_dev45_lt c⟩
  | 8 => ⟨k0_dev51 c, k0_dev51_lt c⟩
  | 9 => ⟨k0_dev57 c, k0_dev57_lt c⟩
  | 10 => ⟨k0_dev63 c, k0_dev63_lt c⟩
  | 11 => ⟨k0_dev69 c, k0_dev69_lt c⟩
  | 12 => ⟨k0_dev75 c, k0_dev75_lt c⟩
  | 13 => ⟨k0_dev81 c, k0_dev81_lt c⟩
  | 14 => ⟨k0_dev85 c, k0_dev85_lt c⟩
  | 15 => ⟨k0_dev89 c, k0_dev89_lt c⟩
  | _ => c

/-- Where hop `h` of the right-going stream of lower halves is sent. -/
def tgtRB (c : Dev nD) : ℕ → Dev nD
  | 0 => ⟨k0_dev4 c, k0_dev4_lt c⟩
  | 1 => ⟨k0_dev10 c, k0_dev10_lt c⟩
  | 2 => ⟨k0_dev16 c, k0_dev16_lt c⟩
  | 3 => ⟨k0_dev22 c, k0_dev22_lt c⟩
  | 4 => ⟨k0_dev28 c, k0_dev28_lt c⟩
  | 5 => ⟨k0_dev34 c, k0_dev34_lt c⟩
  | 6 => ⟨k0_dev40 c, k0_dev40_lt c⟩
  | 7 => ⟨k0_dev46 c, k0_dev46_lt c⟩
  | 8 => ⟨k0_dev52 c, k0_dev52_lt c⟩
  | 9 => ⟨k0_dev58 c, k0_dev58_lt c⟩
  | 10 => ⟨k0_dev64 c, k0_dev64_lt c⟩
  | 11 => ⟨k0_dev70 c, k0_dev70_lt c⟩
  | 12 => ⟨k0_dev76 c, k0_dev76_lt c⟩
  | 13 => ⟨k0_dev82 c, k0_dev82_lt c⟩
  | 14 => ⟨k0_dev86 c, k0_dev86_lt c⟩
  | _ => c

/-- Where hop `h` of the left-going stream of lower halves is sent. -/
def tgtLB (c : Dev nD) : ℕ → Dev nD
  | 0 => ⟨k0_dev5 c, k0_dev5_lt c⟩
  | 1 => ⟨k0_dev11 c, k0_dev11_lt c⟩
  | 2 => ⟨k0_dev17 c, k0_dev17_lt c⟩
  | 3 => ⟨k0_dev23 c, k0_dev23_lt c⟩
  | 4 => ⟨k0_dev29 c, k0_dev29_lt c⟩
  | 5 => ⟨k0_dev35 c, k0_dev35_lt c⟩
  | 6 => ⟨k0_dev41 c, k0_dev41_lt c⟩
  | 7 => ⟨k0_dev47 c, k0_dev47_lt c⟩
  | 8 => ⟨k0_dev53 c, k0_dev53_lt c⟩
  | 9 => ⟨k0_dev59 c, k0_dev59_lt c⟩
  | 10 => ⟨k0_dev65 c, k0_dev65_lt c⟩
  | 11 => ⟨k0_dev71 c, k0_dev71_lt c⟩
  | 12 => ⟨k0_dev77 c, k0_dev77_lt c⟩
  | 13 => ⟨k0_dev83 c, k0_dev83_lt c⟩
  | 14 => ⟨k0_dev87 c, k0_dev87_lt c⟩
  | 15 => ⟨k0_dev90 c, k0_dev90_lt c⟩
  | _ => c

/-- Where hop `h` of the left-going stream of upper halves is sent. -/
def tgtLA (c : Dev nD) : ℕ → Dev nD
  | 0 => ⟨k0_dev6 c, k0_dev6_lt c⟩
  | 1 => ⟨k0_dev12 c, k0_dev12_lt c⟩
  | 2 => ⟨k0_dev18 c, k0_dev18_lt c⟩
  | 3 => ⟨k0_dev24 c, k0_dev24_lt c⟩
  | 4 => ⟨k0_dev30 c, k0_dev30_lt c⟩
  | 5 => ⟨k0_dev36 c, k0_dev36_lt c⟩
  | 6 => ⟨k0_dev42 c, k0_dev42_lt c⟩
  | 7 => ⟨k0_dev48 c, k0_dev48_lt c⟩
  | 8 => ⟨k0_dev54 c, k0_dev54_lt c⟩
  | 9 => ⟨k0_dev60 c, k0_dev60_lt c⟩
  | 10 => ⟨k0_dev66 c, k0_dev66_lt c⟩
  | 11 => ⟨k0_dev72 c, k0_dev72_lt c⟩
  | 12 => ⟨k0_dev78 c, k0_dev78_lt c⟩
  | 13 => ⟨k0_dev84 c, k0_dev84_lt c⟩
  | 14 => ⟨k0_dev88 c, k0_dev88_lt c⟩
  | _ => c

/-- Whom the `h`-th credit of the right-going streams goes to. -/
def tgtCR (c : Dev nD) : ℕ → Dev nD
  | 0 => ⟨k0_dev7 c, k0_dev7_lt c⟩
  | 1 => ⟨k0_dev13 c, k0_dev13_lt c⟩
  | 2 => ⟨k0_dev19 c, k0_dev19_lt c⟩
  | 3 => ⟨k0_dev25 c, k0_dev25_lt c⟩
  | 4 => ⟨k0_dev31 c, k0_dev31_lt c⟩
  | 5 => ⟨k0_dev37 c, k0_dev37_lt c⟩
  | 6 => ⟨k0_dev43 c, k0_dev43_lt c⟩
  | 7 => ⟨k0_dev49 c, k0_dev49_lt c⟩
  | 8 => ⟨k0_dev55 c, k0_dev55_lt c⟩
  | 9 => ⟨k0_dev61 c, k0_dev61_lt c⟩
  | 10 => ⟨k0_dev67 c, k0_dev67_lt c⟩
  | 11 => ⟨k0_dev73 c, k0_dev73_lt c⟩
  | 12 => ⟨k0_dev79 c, k0_dev79_lt c⟩
  | _ => c

/-- Whom the `h`-th credit of the left-going streams goes to. -/
def tgtCL (c : Dev nD) : ℕ → Dev nD
  | 0 => ⟨k0_dev8 c, k0_dev8_lt c⟩
  | 1 => ⟨k0_dev14 c, k0_dev14_lt c⟩
  | 2 => ⟨k0_dev20 c, k0_dev20_lt c⟩
  | 3 => ⟨k0_dev26 c, k0_dev26_lt c⟩
  | 4 => ⟨k0_dev32 c, k0_dev32_lt c⟩
  | 5 => ⟨k0_dev38 c, k0_dev38_lt c⟩
  | 6 => ⟨k0_dev44 c, k0_dev44_lt c⟩
  | 7 => ⟨k0_dev50 c, k0_dev50_lt c⟩
  | 8 => ⟨k0_dev56 c, k0_dev56_lt c⟩
  | 9 => ⟨k0_dev62 c, k0_dev62_lt c⟩
  | 10 => ⟨k0_dev68 c, k0_dev68_lt c⟩
  | 11 => ⟨k0_dev74 c, k0_dev74_lt c⟩
  | 12 => ⟨k0_dev80 c, k0_dev80_lt c⟩
  | _ => c

/-- Where the `o`-th copy of the device's maximum goes. -/
def tgtAM (c : Dev nD) : ℕ → Dev nD
  | 1 => ⟨k0_dev91 c, k0_dev91_lt c⟩
  | 2 => ⟨k0_dev92 c, k0_dev92_lt c⟩
  | 3 => ⟨k0_dev93 c, k0_dev93_lt c⟩
  | 4 => ⟨k0_dev94 c, k0_dev94_lt c⟩
  | 5 => ⟨k0_dev95 c, k0_dev95_lt c⟩
  | 6 => ⟨k0_dev96 c, k0_dev96_lt c⟩
  | 7 => ⟨k0_dev97 c, k0_dev97_lt c⟩
  | 8 => ⟨k0_dev98 c, k0_dev98_lt c⟩
  | 9 => ⟨k0_dev99 c, k0_dev99_lt c⟩
  | 10 => ⟨k0_dev100 c, k0_dev100_lt c⟩
  | 11 => ⟨k0_dev101 c, k0_dev101_lt c⟩
  | 12 => ⟨k0_dev102 c, k0_dev102_lt c⟩
  | 13 => ⟨k0_dev103 c, k0_dev103_lt c⟩
  | 14 => ⟨k0_dev104 c, k0_dev104_lt c⟩
  | 15 => ⟨k0_dev105 c, k0_dev105_lt c⟩
  | 16 => ⟨k0_dev106 c, k0_dev106_lt c⟩
  | 17 => ⟨k0_dev107 c, k0_dev107_lt c⟩
  | 18 => ⟨k0_dev108 c, k0_dev108_lt c⟩
  | 19 => ⟨k0_dev109 c, k0_dev109_lt c⟩
  | 20 => ⟨k0_dev110 c, k0_dev110_lt c⟩
  | 21 => ⟨k0_dev111 c, k0_dev111_lt c⟩
  | 22 => ⟨k0_dev112 c, k0_dev112_lt c⟩
  | 23 => ⟨k0_dev113 c, k0_dev113_lt c⟩
  | 24 => ⟨k0_dev114 c, k0_dev114_lt c⟩
  | 25 => ⟨k0_dev115 c, k0_dev115_lt c⟩
  | 26 => ⟨k0_dev116 c, k0_dev116_lt c⟩
  | 27 => ⟨k0_dev117 c, k0_dev117_lt c⟩
  | 28 => ⟨k0_dev118 c, k0_dev118_lt c⟩
  | 29 => ⟨k0_dev119 c, k0_dev119_lt c⟩
  | 30 => ⟨k0_dev120 c, k0_dev120_lt c⟩
  | 31 => ⟨k0_dev121 c, k0_dev121_lt c⟩
  | _ => c

/-- The target of a stream's hop `h`. -/
def tgt : Strm → Dev nD → ℕ → Dev nD
  | ⟨false, false⟩ => tgtRA
  | ⟨false, true⟩ => tgtRB
  | ⟨true, false⟩ => tgtLA
  | ⟨true, true⟩ => tgtLB

/-- Whom a direction's credits go to. -/
def tgtC : Bool → Dev nD → ℕ → Dev nD
  | false => tgtCR
  | true => tgtCL

/-! ## The steps -/

variable (F) in
/-- A program of one TensorCore. -/
abbrev TProg (α : Type) : Type _ := Prog (TpuEff nD τ sig (Elt F) Λ₀ .tc) α

/-- Start hop `h` of a stream: slot `h` of the device onto slot `h + 1` of the next one. -/
def startHop (σ : Strm) (c : Dev nD) (h : ℕ) : TProg F PUnit :=
  Prog.lift (.enqueueDma (half σ h) (.remote (Dev.tc (tgt σ c h)) (half σ (h + 1)) (.dma (sndSem σ h)))
    (.dma (rcvSem σ (h + 1))) (half_words σ h) (half_words σ (h + 1)) ⟨⟨rfl, Or.inl rfl⟩, trivial⟩)

/-- Wait until hop `h` of a stream has left its slot. -/
def waitSent (σ : Strm) (h : ℕ) : TProg F PUnit :=
  Prog.lift (.waitDma2 (sndSem σ h) (half σ (h + 1)) (half σ h) (half_words σ (h + 1)) (half_words σ h))

/-- Wait until hop `h` of a stream has landed. -/
def waitLanded (σ : Strm) (h : ℕ) : TProg F PUnit :=
  Prog.lift (.waitDma2 (rcvSem σ (h + 1)) (half σ h) (half σ (h + 1)) (half_words σ h) (half_words σ (h + 1)))

/-- Give the `h`-th credit of a direction. -/
def giveCredit (d : Bool) (c : Dev nD) (h : ℕ) : TProg F PUnit :=
  semSignalWord (tgtC d c h) (credSem d) 1#32

/-- Take a credit of a direction. -/
def takeCredit (d : Bool) : TProg F PUnit :=
  semWaitWord (credSem d) 1#32

/-! ## The arithmetic of a chunk -/

/-- A chunk of rows against the device's columns. -/
def gemm (x : FVec F S128x4096 .bf16) (w : Vec F S4096x256 .bf16) : FVec F S128x256 .f32 :=
  matmul dot_S128x4096_S4096x256_S128x256_1_0_0_1_n_n none x w (constant S128x256 .f32 0x00000000#32)

/-- A half of a chunk against the device's columns. -/
def gemmHalf (x : FVec F S64x4096 .bf16) (w : Vec F S4096x256 .bf16) : FVec F S64x256 .f32 :=
  matmul dot_S64x4096_S4096x256_S64x256_1_0_0_1_n_n none x w (constant S64x256 .f32 0x00000000#32)

/-- The largest element of a chunk's product. -/
def top (y : FVec F S128x256 .f32) : F .f32 :=
  extractAt ![0, 0, 0] (shapeCast S1x1x1 (multiReduction .maximumf [1, 2] S1 (shapeCast S1x128x256 y shapeCasts_S128x256_S1x128x256)
    0xFF800000#32 reduces_S1x128x256_S1 (.inl rfl) rfl) shapeCasts_S1_S1x1x1) inpos_S1x1x1_p0_0_0

/-- The largest element of half a chunk's product. -/
def topHalf (y : FVec F S64x256 .f32) : F .f32 :=
  extractAt ![0, 0, 0] (shapeCast S1x1x1 (multiReduction .maximumf [1, 2] S1 (shapeCast S1x64x256 y shapeCasts_S64x256_S1x64x256)
    0xFF800000#32 reduces_S1x64x256_S1 (.inl rfl) rfl) shapeCasts_S1_S1x1x1) inpos_S1x1x1_p0_0_0

/-- The device's own rows, rounded. -/
def ownRows (x : Vec F S128x4096 .f32) : FVec F S128x4096 .bf16 :=
  truncf .bf16 (shapeCast S128x4096 x shapeCasts_S128x4096_S128x4096) bitsLt_bf16_f32

/-- The device's own rows as a slot's contents. -/
def ownSlot (x : Vec F S128x4096 .f32) : FVec F S1x128x4096 .bf16 :=
  shapeCast S1x128x4096 (ownRows x) shapeCasts_S128x4096_S1x128x4096

/-- The device's columns, rounded. -/
def ownCols (w : Vec F S4096x256 .f32) : FVec F S4096x256 .bf16 :=
  shapeCast S4096x256 (truncf .bf16 (shapeCast S4096x256 w shapeCasts_S4096x256_S4096x256) bitsLt_bf16_f32) shapeCasts_S4096x256_S4096x256

/-- A slot's contents as a matrix. -/
def unslot (x : Vec F S1x128x4096 .bf16) : FVec F S128x4096 .bf16 := shapeCast S128x4096 x shapeCasts_S1x128x4096_S128x4096

/-- Half a slot's contents as a matrix. -/
def unslotHalf (x : Vec F S1x64x4096 .bf16) : FVec F S64x4096 .bf16 := shapeCast S64x4096 x shapeCasts_S1x64x4096_S64x4096

/-- A maximum spread over the tile that is exchanged. -/
def spread (a : F .f32) : FVec F S8x128 .f32 := shapeCast S8x128 (broadcast S8x128 a) shapeCasts_S8x128_S8x128

/-- The maximum over all devices, from the device's own and the 31 received. -/
def topAll (a : F .f32) (v : Vec F S31x8x128 .f32) : F .f32 :=
  Scalar.maximumf a (extractAt ![0, 0, 0, 0] (shapeCast S1x1x1x1 (multiReduction .maximumf [1, 2, 3] S1
    (shapeCast S1x31x8x128 v shapeCasts_S31x8x128_S1x31x8x128) 0xFF800000#32 reduces_S1x31x8x128_S1 (.inl rfl) rfl)
    shapeCasts_S1_S1x1x1x1) inpos_S1x1x1x1_p0_0_0_0)

/-- The result's scaling: round to 127 steps of the maximum, clip, scale back. -/
def finish (g : F .f32) (y : Vec F S4096x256 .f32) : FVec F S4096x256 .f32 :=
  mulf (minimumf (broadcast S4096x256 (Scalar.ofBits .f32 0x42FE0000#32)) (maximumf (broadcast S4096x256 (Scalar.ofBits .f32 0x00000000#32))
    (roundeven (mulf (shapeCast S4096x256 y shapeCasts_S4096x256_S4096x256) (broadcast S4096x256 (Scalar.divf (Scalar.ofBits .f32 0x42FE0000#32) g))))))
    (broadcast S4096x256 (Scalar.divf g (Scalar.ofBits .f32 0x42FE0000#32)))

/-! ## The chunks' products -/

def loadCols : TProg F (Vec F S4096x256 .bf16) :=
  Prog.lift (.load colM (Rect.unit (s := S4096x256) ![0, 0] S4096x256.size inb_S4096x256_S4096x256_0_0).toLoadRect (View.loadsAt_vmem h_S4096x256))

/-- Load a slot, both halves. -/
def loadChunk (d : Bool) (s : ℕ) : TProg F (Vec F S1x128x4096 .bf16) :=
  Prog.lift (.load (comm d) (chunkRect s).toLoadRect (View.loadsAt_vmem h_S1x128x4096))

/-- Load half of a slot. -/
def loadHalf (d : Bool) (s : ℕ) (b : Bool) : TProg F (Vec F S1x64x4096 .bf16) :=
  Prog.lift (.load (comm d) (slotRect s b).toLoadRect (View.loadsAt_vmem h_S1x64x4096))

/-- Write rows of the result. -/
def putRows (off : Fin 2 → ℕ) (hoff : ∀ a, off a + S128x256.size a ≤ S4096x256.size a) (y : FVec F S128x256 .f32) : TProg F PUnit := do
  let _ : Vec F S128x256 .f32 ← Prog.lift (.load outM (Rect.unit (s := S4096x256) off S128x256.size hoff).toLoadRect (View.loadsAt_vmem h_S128x256))
  Prog.lift (.store outM (Rect.unit (s := S4096x256) off S128x256.size hoff) y Finset.univ (View.stores_vmem_bits_univ h_S128x256 rfl) (.inl rfl))

/-- Write half a chunk's rows of the result. -/
def putHalf (off : Fin 2 → ℕ) (hoff : ∀ a, off a + S64x256.size a ≤ S4096x256.size a) (y : FVec F S64x256 .f32) : TProg F PUnit := do
  let _ : Vec F S64x256 .f32 ← Prog.lift (.load outM (Rect.unit (s := S4096x256) off S64x256.size hoff).toLoadRect (View.loadsAt_vmem h_S64x256))
  Prog.lift (.store outM (Rect.unit (s := S4096x256) off S64x256.size hoff) y Finset.univ (View.stores_vmem_bits_univ h_S64x256 rfl) (.inl rfl))

/-- The product of the chunk in slot `s` of a direction, written at `off`, and the maximum so far. -/
def chunkStep (d : Bool) (s : ℕ) (off : Fin 2 → ℕ) (hoff : ∀ a, off a + S128x256.size a ≤ S4096x256.size a) (a : F .f32) : TProg F (F .f32) := do
  let x ← loadChunk d s
  let w ← loadCols
  putRows off hoff (gemm (unslot x) w)
  pure (Scalar.maximumf a (top (gemm (unslot x) w)))

/-- The same for half of a chunk. -/
def halfStep (d : Bool) (s : ℕ) (b : Bool) (off : Fin 2 → ℕ) (hoff : ∀ a, off a + S64x256.size a ≤ S4096x256.size a) (a : F .f32) : TProg F (F .f32) := do
  let x ← loadHalf d s b
  let w ← loadCols
  putHalf off hoff (gemmHalf (unslotHalf x) w)
  pure (Scalar.maximumf a (topHalf (gemmHalf (unslotHalf x) w)))

/-! ## The body -/

/-- Do a step when a condition on the hop holds. -/
def when' (b : Bool) (p : TProg F PUnit) : TProg F PUnit := if b then p else pure ⟨⟩

/-- The first part of hop `h` of a direction: its copies have left; a credit for the slot that is free again. -/
def sentDir (d : Bool) (c : Dev nD) (h : ℕ) : TProg F PUnit := do
  waitSent (major d) h
  when' (h < 15) (waitSent (minor d) h)
  when' (h < 13) (giveCredit d c h)

/-- The second part: its copies have landed, and the next hop of each starts. -/
def landDir (d : Bool) (c : Dev nD) (h : ℕ) : TProg F PUnit := do
  waitLanded (major d) h
  when' (h < 15) (do
    when' (2 ≤ h) (takeCredit d)
    startHop (major d) c (h + 1)
    waitLanded (minor d) h
    when' (h < 14) (startHop (minor d) c (h + 1)))

/-- One hop of all four streams. -/
def hopPart (c : Dev nD) (h : ℕ) : TProg F PUnit := do
  sentDir false c h
  sentDir true c h
  landDir false c h
  landDir true c h

/-- The first fifteen hops, each with the products of the two chunks it brought. -/
def hops (c : Dev nD) : ℕ → ℕ → F .f32 → TProg F (F .f32)
  | 0, _, a => pure a
  | n + 1, h, a => do
    hopPart c h
    let a ← chunkStep false (h + 1) (outOffR c h) (k0_off2_inb c (fin15 h)) a
    let a ← chunkStep true (h + 1) (outOffL c h) (k0_off3_inb c (fin15 h)) a
    hops c n (h + 1) a

/-- Send the device's maximum to the `o`-th device after it. -/
def startTop (c : Dev nD) (o : ℕ) : TProg F PUnit :=
  Prog.lift (.enqueueDma maxM (.remote (Dev.tc (tgtAM c o)) (topSlot o) (.dma (topSnd o)))
    (.dma (topRcv o)) maxM_words (topSlot_words o) ⟨⟨rfl, Or.inl rfl⟩, trivial⟩)

def waitTopSent (o : ℕ) : TProg F PUnit :=
  Prog.lift (.waitDma2 (topSnd o) (topSlot o) maxM (topSlot_words o) maxM_words)

def waitTopLanded (o : ℕ) : TProg F PUnit :=
  Prog.lift (.waitDma2 (topRcv o) maxM (topSlot o) maxM_words (topSlot_words o))

/-- Send the maximum to `n` devices from the `o`-th on. -/
def startTops (c : Dev nD) : ℕ → ℕ → TProg F PUnit
  | 0, _ => pure ⟨⟩
  | n + 1, o => do startTop c o; startTops c n (o + 1)

/-- Wait for `n` copies each way from the `o`-th on. -/
def waitTops : ℕ → ℕ → TProg F PUnit
  | 0, _ => pure ⟨⟩
  | n + 1, o => do waitTopSent o; waitTopLanded o; waitTops n (o + 1)

/-- The handshake with both neighbours. -/
def meet (c : Dev nD) : TProg F PUnit := do
  semSignalWord (⟨k0_dev1 c, k0_dev1_lt c⟩ : Dev nD) (sig.barrier 0 rfl) 1#32
  semSignalWord (⟨k0_dev2 c, k0_dev2_lt c⟩ : Dev nD) (sig.barrier 0 rfl) 1#32
  semWaitWord (sig.barrier 0 rfl) 2#32

/-- Round the columns. -/
def fillCols : TProg F PUnit := do
  let w : Vec F S4096x256 .f32 ← Prog.lift (.load wM (Rect.unit (s := S4096x256) ![0, 0] S4096x256.size inb_S4096x256_S4096x256_0_0).toLoadRect (View.loadsAt_vmem h_S4096x256))
  let _ ← loadCols
  Prog.lift (.store colM (Rect.unit (s := S4096x256) ![0, 0] S4096x256.size inb_S4096x256_S4096x256_0_0) (ownCols w) Finset.univ
    (View.stores_vmem h_S4096x256 ((Memref.isWhole_whole _ : colM.IsWhole).storeExact_slice rfl _ packedbf16_S4096x256_S4096x256_0_0) (fun _ => rfl)) (.inl rfl))

/-- Put the device's rows in slot 0 of a direction. -/
def fillSlot (d : Bool) (x : Vec F S128x4096 .f32) : TProg F PUnit := do
  let _ ← loadChunk d 0
  Prog.lift (.store (comm d) (chunkRect 0) (ownSlot x) Finset.univ
    (View.stores_vmem h_S1x128x4096 ((comm_whole d).storeExact_slice rfl _ packedbf16_S4x128x4096_S1x128x4096_0_0_0) (fun _ => rfl)) (.inl rfl))

/-- Round the rows, and put them in slot 0 of both directions. -/
def fillSlots : TProg F (Vec F S128x4096 .f32) := do
  let x : Vec F S128x4096 .f32 ← Prog.lift (.load xM (Rect.unit (s := S128x4096) ![0, 0] S128x4096.size inb_S128x4096_S128x4096_0_0).toLoadRect (View.loadsAt_vmem h_S128x4096))
  fillSlot false x
  fillSlot true x
  pure x

/-- The first hop of every stream. -/
def startAll (c : Dev nD) : TProg F PUnit := do
  startHop (major false) c 0
  startHop (minor false) c 0
  startHop (major true) c 0
  startHop (minor true) c 0

/-- The device's own rows' product. -/
def ownStep (c : Dev nD) (x : Vec F S128x4096 .f32) : TProg F (F .f32) := do
  let w ← loadCols
  putRows (k0_off1 c) (k0_off1_inb c) (gemm (ownRows x) w)
  pure (Scalar.maximumf (top (gemm (ownRows x) w)) (Scalar.ofBits .f32 0x00000000#32))

/-- The last hop: each direction brings one half of the farthest chunk. -/
def lastHop (c : Dev nD) (a : F .f32) : TProg F (F .f32) := do
  hopPart c 15
  let a ← halfStep false 0 false (k0_off4 c) (k0_off4_inb c) a
  halfStep true 0 true (k0_off5 c) (k0_off5_inb c) a

/-- Write the device's maximum where the copies read it. -/
def putTop (a : F .f32) : TProg F PUnit := do
  let _ : Vec F S8x128 .f32 ← Prog.lift (.load maxM (Rect.unit (s := S8x128) ![0, 0] S8x128.size inb_S8x128_S8x128_0_0).toLoadRect (View.loadsAt_vmem h_S8x128))
  Prog.lift (.store maxM (Rect.unit (s := S8x128) ![0, 0] S8x128.size inb_S8x128_S8x128_0_0) (spread a) Finset.univ (View.stores_vmem_bits_univ h_S8x128 rfl) (.inl rfl))

def loadOut : TProg F (Vec F S4096x256 .f32) :=
  Prog.lift (.load outM (Rect.unit (s := S4096x256) ![0, 0] S4096x256.size inb_S4096x256_S4096x256_0_0).toLoadRect (View.loadsAt_vmem h_S4096x256))

/-- Scale the result. -/
def scaleOut (a : F .f32) : TProg F PUnit := do
  let v : Vec F S31x8x128 .f32 ← Prog.lift (.load topsM (Rect.unit (s := S32x8x128) ![1, 0, 0] S31x8x128.size inb_S32x8x128_S31x8x128_1_0_0).toLoadRect (View.loadsAt_vmem h_S31x8x128))
  let y ← loadOut
  let _ ← loadOut
  Prog.lift (.store outM (Rect.unit (s := S4096x256) ![0, 0] S4096x256.size inb_S4096x256_S4096x256_0_0) (finish (topAll a v) y) Finset.univ (View.stores_vmem_bits_univ h_S4096x256 rfl) (.inl rfl))

/-- The body on device `c`. -/
def body (c : Dev nD) : TProg F PUnit := do
  meet c
  fillCols
  let x ← fillSlots
  startAll c
  let a ← ownStep c x
  let a ← hops c 15 0 a
  let a ← lastHop c a
  putTop a
  startTops c 31 1
  waitTops 31 1
  scaleOut a

set_option maxRecDepth 65536 in
/-- The printed body is the body by hop. -/
theorem body_eq :
    cc0_body (F := F) xM (Memref.isWhole_whole _) wM (Memref.isWhole_whole _) outM (Memref.isWhole_whole _)
      (Memref.whole cc0_scratch0) (Memref.isWhole_whole _) (Memref.whole cc0_scratch1) (Memref.isWhole_whole _)
      colM (Memref.isWhole_whole _) maxM (Memref.isWhole_whole _) topsM (Memref.isWhole_whole _)
      cc0_scratch5 cc0_scratch6 cc0_scratch7 cc0_scratch8 cc0_scratch9 cc0_scratch10 cc0_scratch11 cc0_scratch12
      cc0_scratch13 cc0_scratch14 cc0_scratch15 cc0_scratch16
    = (Prog.lift .deviceId >>= fun c => body c) := by
  chain_rfl

end Cert.Ring

end
-- ==== Proof.Topo.lean ====
/-
# Who is whose neighbour

The 32 devices stand in a ring. The kernel computes its neighbours and the rows it writes by arithmetic on the
device's number; here each of those numbers is the neighbour, or the origin of a chunk, that it stands for.
-/
module

public import proofs.«01_k».proof.Proof.Prog

@[expose] public section

set_option backward.proofsInPublic true

noncomputable section

namespace Cert.Ring

open Cert.KernelIdeal
open Idealize.ShloMosaic

/-- The device at a place of the ring. -/
def ringAt : Fin 32 → Fin 32 :=
  ![0, 3, 4, 7, 15, 12, 11, 8, 16, 19, 20, 23, 31, 28, 27, 24, 25, 26, 29, 30, 22, 21, 18, 17, 9, 10, 13, 14, 6, 5, 2, 1]

/-- The place of a device in the ring. -/
def placeOf : Fin 32 → Fin 32 :=
  ![0, 31, 30, 1, 2, 29, 28, 3, 7, 24, 25, 6, 5, 26, 27, 4, 8, 23, 22, 9, 10, 21, 20, 11, 15, 16, 17, 14, 13, 18, 19, 12]

/-- The next device to the right. -/
def rgt : Dev nD ≃ Dev nD where
  toFun c := ringAt (placeOf c + 1)
  invFun c := ringAt (placeOf c - 1)
  left_inv := by unfold Function.LeftInverse; decide +kernel
  right_inv := by unfold Function.RightInverse Function.LeftInverse; decide +kernel

/-- The next device in a direction: `true` is to the left. -/
def nb : Bool → (Dev nD ≃ Dev nD)
  | false => rgt
  | true => rgt.symm

theorem nb_not : ∀ d, nb (!d) = (nb d).symm
  | false => rfl
  | true => (Equiv.symm_symm rgt).symm

/-- The device whose rows are the `i`-th to pass through `c` in a direction. -/
def src (d : Bool) : ℕ → Dev nD → Dev nD
  | 0, c => c
  | i + 1, c => src d i ((nb d).symm c)

/-- The `o`-th device after `c` by number. -/
def shift (o : ℕ) : Dev nD ≃ Dev nD where
  toFun c := ⟨(c.val + o) % 32, Nat.mod_lt _ (by decide)⟩
  invFun c := ⟨(c.val + 31 * o) % 32, Nat.mod_lt _ (by decide)⟩
  left_inv c := Fin.ext (by have h : c.val < 32 := c.isLt; show ((c.val + o) % 32 + 31 * o) % 32 = c.val; omega)
  right_inv c := Fin.ext (by have h : c.val < 32 := c.isLt; show ((c.val + 31 * o) % 32 + o) % 32 = c.val; omega)

/-- How many hops a stream makes. -/
def Strm.len : Strm → ℕ
  | ⟨false, false⟩ => 16
  | ⟨false, true⟩ => 15
  | ⟨true, true⟩ => 16
  | ⟨true, false⟩ => 15

variable [Facts]
open Facts₀ Facts

theorem tgtRA_eq (c : Dev nD) : ∀ h, h < 16 → tgtRA c h = nb false c
  | 0, _ => Fin.ext ((by decide +kernel : ∀ d : Dev nD, k0_dev3 d = (nb false d).val) c)
  | 1, _ => Fin.ext ((by decide +kernel : ∀ d : Dev nD, k0_dev9 d = (nb false d).val) c)
  | 2, _ => Fin.ext ((by decide +kernel : ∀ d : Dev nD, k0_dev15 d = (nb false d).val) c)
  | 3, _ => Fin.ext ((by decide +kernel : ∀ d : Dev nD, k0_dev21 d = (nb false d).val) c)
  | 4, _ => Fin.ext ((by decide +kernel : ∀ d : Dev nD, k0_dev27 d = (nb false d).val) c)
  | 5, _ => Fin.ext ((by decide +kernel : ∀ d : Dev nD, k0_dev33 d = (nb false d).val) c)
  | 6, _ => Fin.ext ((by decide +kernel : ∀ d : Dev nD, k0_dev39 d = (nb false d).val) c)
  | 7, _ => Fin.ext ((by decide +kernel : ∀ d : Dev nD, k0_dev45 d = (nb false d).val) c)
  | 8, _ => Fin.ext ((by decide +kernel : ∀ d : Dev nD, k0_dev51 d = (nb false d).val) c)
  | 9, _ => Fin.ext ((by decide +kernel : ∀ d : Dev nD, k0_dev57 d = (nb false d).val) c)
  | 10, _ => Fin.ext ((by decide +kernel : ∀ d : Dev nD, k0_dev63 d = (nb false d).val) c)
  | 11, _ => Fin.ext ((by decide +kernel : ∀ d : Dev nD, k0_dev69 d = (nb false d).val) c)
  | 12, _ => Fin.ext ((by decide +kernel : ∀ d : Dev nD, k0_dev75 d = (nb false d).val) c)
  | 13, _ => Fin.ext ((by decide +kernel : ∀ d : Dev nD, k0_dev81 d = (nb false d).val) c)
  | 14, _ => Fin.ext ((by decide +kernel : ∀ d : Dev nD, k0_dev85 d = (nb false d).val) c)
  | 15, _ => Fin.ext ((by decide +kernel : ∀ d : Dev nD, k0_dev89 d = (nb false d).val) c)
  | h + 16, e => absurd e (by omega)

theorem tgtRB_eq (c : Dev nD) : ∀ h, h < 15 → tgtRB c h = nb false c
  | 0, _ => Fin.ext ((by decide +kernel : ∀ d : Dev nD, k0_dev4 d = (nb false d).val) c)
  | 1, _ => Fin.ext ((by decide +kernel : ∀ d : Dev nD, k0_dev10 d = (nb false d).val) c)
  | 2, _ => Fin.ext ((by decide +kernel : ∀ d : Dev nD, k0_dev16 d = (nb false d).val) c)
  | 3, _ => Fin.ext ((by decide +kernel : ∀ d : Dev nD, k0_dev22 d = (nb false d).val) c)
  | 4, _ => Fin.ext ((by decide +kernel : ∀ d : Dev nD, k0_dev28 d = (nb false d).val) c)
  | 5, _ => Fin.ext ((by decide +kernel : ∀ d : Dev nD, k0_dev34 d = (nb false d).val) c)
  | 6, _ => Fin.ext ((by decide +kernel : ∀ d : Dev nD, k0_dev40 d = (nb false d).val) c)
  | 7, _ => Fin.ext ((by decide +kernel : ∀ d : Dev nD, k0_dev46 d = (nb false d).val) c)
  | 8, _ => Fin.ext ((by decide +kernel : ∀ d : Dev nD, k0_dev52 d = (nb false d).val) c)
  | 9, _ => Fin.ext ((by decide +kernel : ∀ d : Dev nD, k0_dev58 d = (nb false d).val) c)
  | 10, _ => Fin.ext ((by decide +kernel : ∀ d : Dev nD, k0_dev64 d = (nb false d).val) c)
  | 11, _ => Fin.ext ((by decide +kernel : ∀ d : Dev nD, k0_dev70 d = (nb false d).val) c)
  | 12, _ => Fin.ext ((by decide +kernel : ∀ d : Dev nD, k0_dev76 d = (nb false d).val) c)
  | 13, _ => Fin.ext ((by decide +kernel : ∀ d : Dev nD, k0_dev82 d = (nb false d).val) c)
  | 14, _ => Fin.ext ((by decide +kernel : ∀ d : Dev nD, k0_dev86 d = (nb false d).val) c)
  | h + 15, e => absurd e (by omega)

theorem tgtLB_eq (c : Dev nD) : ∀ h, h < 16 → tgtLB c h = nb true c
  | 0, _ => Fin.ext ((by decide +kernel : ∀ d : Dev nD, k0_dev5 d = (nb true d).val) c)
  | 1, _ => Fin.ext ((by decide +kernel : ∀ d : Dev nD, k0_dev11 d = (nb true d).val) c)
  | 2, _ => Fin.ext ((by decide +kernel : ∀ d : Dev nD, k0_dev17 d = (nb true d).val) c)
  | 3, _ => Fin.ext ((by decide +kernel : ∀ d : Dev nD, k0_dev23 d = (nb true d).val) c)
  | 4, _ => Fin.ext ((by decide +kernel : ∀ d : Dev nD, k0_dev29 d = (nb true d).val) c)
  | 5, _ => Fin.ext ((by decide +kernel : ∀ d : Dev nD, k0_dev35 d = (nb true d).val) c)
  | 6, _ => Fin.ext ((by decide +kernel : ∀ d : Dev nD, k0_dev41 d = (nb true d).val) c)
  | 7, _ => Fin.ext ((by decide +kernel : ∀ d : Dev nD, k0_dev47 d = (nb true d).val) c)
  | 8, _ => Fin.ext ((by decide +kernel : ∀ d : Dev nD, k0_dev53 d = (nb true d).val) c)
  | 9, _ => Fin.ext ((by decide +kernel : ∀ d : Dev nD, k0_dev59 d = (nb true d).val) c)
  | 10, _ => Fin.ext ((by decide +kernel : ∀ d : Dev nD, k0_dev65 d = (nb true d).val) c)
  | 11, _ => Fin.ext ((by decide +kernel : ∀ d : Dev nD, k0_dev71 d = (nb true d).val) c)
  | 12, _ => Fin.ext ((by decide +kernel : ∀ d : Dev nD, k0_dev77 d = (nb true d).val) c)
  | 13, _ => Fin.ext ((by decide +kernel : ∀ d : Dev nD, k0_dev83 d = (nb true d).val) c)
  | 14, _ => Fin.ext ((by decide +kernel : ∀ d : Dev nD, k0_dev87 d = (nb true d).val) c)
  | 15, _ => Fin.ext ((by decide +kernel : ∀ d : Dev nD, k0_dev90 d = (nb true d).val) c)
  | h + 16, e => absurd e (by omega)

theorem tgtLA_eq (c : Dev nD) : ∀ h, h < 15 → tgtLA c h = nb true c
  | 0, _ => Fin.ext ((by decide +kernel : ∀ d : Dev nD, k0_dev6 d = (nb true d).val) c)
  | 1, _ => Fin.ext ((by decide +kernel : ∀ d : Dev nD, k0_dev12 d = (nb true d).val) c)
  | 2, _ => Fin.ext ((by decide +kernel : ∀ d : Dev nD, k0_dev18 d = (nb true d).val) c)
  | 3, _ => Fin.ext ((by decide +kernel : ∀ d : Dev nD, k0_dev24 d = (nb true d).val) c)
  | 4, _ => Fin.ext ((by decide +kernel : ∀ d : Dev nD, k0_dev30 d = (nb true d).val) c)
  | 5, _ => Fin.ext ((by decide +kernel : ∀ d : Dev nD, k0_dev36 d = (nb true d).val) c)
  | 6, _ => Fin.ext ((by decide +kernel : ∀ d : Dev nD, k0_dev42 d = (nb true d).val) c)
  | 7, _ => Fin.ext ((by decide +kernel : ∀ d : Dev nD, k0_dev48 d = (nb true d).val) c)
  | 8, _ => Fin.ext ((by decide +kernel : ∀ d : Dev nD, k0_dev54 d = (nb true d).val) c)
  | 9, _ => Fin.ext ((by decide +kernel : ∀ d : Dev nD, k0_dev60 d = (nb true d).val) c)
  | 10, _ => Fin.ext ((by decide +kernel : ∀ d : Dev nD, k0_dev66 d = (nb true d).val) c)
  | 11, _ => Fin.ext ((by decide +kernel : ∀ d : Dev nD, k0_dev72 d = (nb true d).val) c)
  | 12, _ => Fin.ext ((by decide +kernel : ∀ d : Dev nD, k0_dev78 d = (nb true d).val) c)
  | 13, _ => Fin.ext ((by decide +kernel : ∀ d : Dev nD, k0_dev84 d = (nb true d).val) c)
  | 14, _ => Fin.ext ((by decide +kernel : ∀ d : Dev nD, k0_dev88 d = (nb true d).val) c)
  | h + 15, e => absurd e (by omega)

theorem tgtCR_eq (c : Dev nD) : ∀ h, h < 13 → tgtCR c h = nb true c
  | 0, _ => Fin.ext ((by decide +kernel : ∀ d : Dev nD, k0_dev7 d = (nb true d).val) c)
  | 1, _ => Fin.ext ((by decide +kernel : ∀ d : Dev nD, k0_dev13 d = (nb true d).val) c)
  | 2, _ => Fin.ext ((by decide +kernel : ∀ d : Dev nD, k0_dev19 d = (nb true d).val) c)
  | 3, _ => Fin.ext ((by decide +kernel : ∀ d : Dev nD, k0_dev25 d = (nb true d).val) c)
  | 4, _ => Fin.ext ((by decide +kernel : ∀ d : Dev nD, k0_dev31 d = (nb true d).val) c)
  | 5, _ => Fin.ext ((by decide +kernel : ∀ d : Dev nD, k0_dev37 d = (nb true d).val) c)
  | 6, _ => Fin.ext ((by decide +kernel : ∀ d : Dev nD, k0_dev43 d = (nb true d).val) c)
  | 7, _ => Fin.ext ((by decide +kernel : ∀ d : Dev nD, k0_dev49 d = (nb true d).val) c)
  | 8, _ => Fin.ext ((by decide +kernel : ∀ d : Dev nD, k0_dev55 d = (nb true d).val) c)
  | 9, _ => Fin.ext ((by decide +kernel : ∀ d : Dev nD, k0_dev61 d = (nb true d).val) c)
  | 10, _ => Fin.ext ((by decide +kernel : ∀ d : Dev nD, k0_dev67 d = (nb true d).val) c)
  | 11, _ => Fin.ext ((by decide +kernel : ∀ d : Dev nD, k0_dev73 d = (nb true d).val) c)
  | 12, _ => Fin.ext ((by decide +kernel : ∀ d : Dev nD, k0_dev79 d = (nb true d).val) c)
  | h + 13, e => absurd e (by omega)

theorem tgtCL_eq (c : Dev nD) : ∀ h, h < 13 → tgtCL c h = nb false c
  | 0, _ => Fin.ext ((by decide +kernel : ∀ d : Dev nD, k0_dev8 d = (nb false d).val) c)
  | 1, _ => Fin.ext ((by decide +kernel : ∀ d : Dev nD, k0_dev14 d = (nb false d).val) c)
  | 2, _ => Fin.ext ((by decide +kernel : ∀ d : Dev nD, k0_dev20 d = (nb false d).val) c)
  | 3, _ => Fin.ext ((by decide +kernel : ∀ d : Dev nD, k0_dev26 d = (nb false d).val) c)
  | 4, _ => Fin.ext ((by decide +kernel : ∀ d : Dev nD, k0_dev32 d = (nb false d).val) c)
  | 5, _ => Fin.ext ((by decide +kernel : ∀ d : Dev nD, k0_dev38 d = (nb false d).val) c)
  | 6, _ => Fin.ext ((by decide +kernel : ∀ d : Dev nD, k0_dev44 d = (nb false d).val) c)
  | 7, _ => Fin.ext ((by decide +kernel : ∀ d : Dev nD, k0_dev50 d = (nb false d).val) c)
  | 8, _ => Fin.ext ((by decide +kernel : ∀ d : Dev nD, k0_dev56 d = (nb false d).val) c)
  | 9, _ => Fin.ext ((by decide +kernel : ∀ d : Dev nD, k0_dev62 d = (nb false d).val) c)
  | 10, _ => Fin.ext ((by decide +kernel : ∀ d : Dev nD, k0_dev68 d = (nb false d).val) c)
  | 11, _ => Fin.ext ((by decide +kernel : ∀ d : Dev nD, k0_dev74 d = (nb false d).val) c)
  | 12, _ => Fin.ext ((by decide +kernel : ∀ d : Dev nD, k0_dev80 d = (nb false d).val) c)
  | h + 13, e => absurd e (by omega)

theorem tgtAM_eq (c : Dev nD) : ∀ h, 1 ≤ h → h < 32 → tgtAM c h = shift h c
  | 0, h, _ => absurd h (by decide)
  | 1, _, _ => Fin.ext ((by decide +kernel : ∀ d : Dev nD, k0_dev91 d = (shift 1 d).val) c)
  | 2, _, _ => Fin.ext ((by decide +kernel : ∀ d : Dev nD, k0_dev92 d = (shift 2 d).val) c)
  | 3, _, _ => Fin.ext ((by decide +kernel : ∀ d : Dev nD, k0_dev93 d = (shift 3 d).val) c)
  | 4, _, _ => Fin.ext ((by decide +kernel : ∀ d : Dev nD, k0_dev94 d = (shift 4 d).val) c)
  | 5, _, _ => Fin.ext ((by decide +kernel : ∀ d : Dev nD, k0_dev95 d = (shift 5 d).val) c)
  | 6, _, _ => Fin.ext ((by decide +kernel : ∀ d : Dev nD, k0_dev96 d = (shift 6 d).val) c)
  | 7, _, _ => Fin.ext ((by decide +kernel : ∀ d : Dev nD, k0_dev97 d = (shift 7 d).val) c)
  | 8, _, _ => Fin.ext ((by decide +kernel : ∀ d : Dev nD, k0_dev98 d = (shift 8 d).val) c)
  | 9, _, _ => Fin.ext ((by decide +kernel : ∀ d : Dev nD, k0_dev99 d = (shift 9 d).val) c)
  | 10, _, _ => Fin.ext ((by decide +kernel : ∀ d : Dev nD, k0_dev100 d = (shift 10 d).val) c)
  | 11, _, _ => Fin.ext ((by decide +kernel : ∀ d : Dev nD, k0_dev101 d = (shift 11 d).val) c)
  | 12, _, _ => Fin.ext ((by decide +kernel : ∀ d : Dev nD, k0_dev102 d = (shift 12 d).val) c)
  | 13, _, _ => Fin.ext ((by decide +kernel : ∀ d : Dev nD, k0_dev103 d = (shift 13 d).val) c)
  | 14, _, _ => Fin.ext ((by decide +kernel : ∀ d : Dev nD, k0_dev104 d = (shift 14 d).val) c)
  | 15, _, _ => Fin.ext ((by decide +kernel : ∀ d : Dev nD, k0_dev105 d = (shift 15 d).val) c)
  | 16, _, _ => Fin.ext ((by decide +kernel : ∀ d : Dev nD, k0_dev106 d = (shift 16 d).val) c)
  | 17, _, _ => Fin.ext ((by decide +kernel : ∀ d : Dev nD, k0_dev107 d = (shift 17 d).val) c)
  | 18, _, _ => Fin.ext ((by decide +kernel : ∀ d : Dev nD, k0_dev108 d = (shift 18 d).val) c)
  | 19, _, _ => Fin.ext ((by decide +kernel : ∀ d : Dev nD, k0_dev109 d = (shift 19 d).val) c)
  | 20, _, _ => Fin.ext ((by decide +kernel : ∀ d : Dev nD, k0_dev110 d = (shift 20 d).val) c)
  | 21, _, _ => Fin.ext ((by decide +kernel : ∀ d : Dev nD, k0_dev111 d = (shift 21 d).val) c)
  | 22, _, _ => Fin.ext ((by decide +kernel : ∀ d : Dev nD, k0_dev112 d = (shift 22 d).val) c)
  | 23, _, _ => Fin.ext ((by decide +kernel : ∀ d : Dev nD, k0_dev113 d = (shift 23 d).val) c)
  | 24, _, _ => Fin.ext ((by decide +kernel : ∀ d : Dev nD, k0_dev114 d = (shift 24 d).val) c)
  | 25, _, _ => Fin.ext ((by decide +kernel : ∀ d : Dev nD, k0_dev115 d = (shift 25 d).val) c)
  | 26, _, _ => Fin.ext ((by decide +kernel : ∀ d : Dev nD, k0_dev116 d = (shift 26 d).val) c)
  | 27, _, _ => Fin.ext ((by decide +kernel : ∀ d : Dev nD, k0_dev117 d = (shift 27 d).val) c)
  | 28, _, _ => Fin.ext ((by decide +kernel : ∀ d : Dev nD, k0_dev118 d = (shift 28 d).val) c)
  | 29, _, _ => Fin.ext ((by decide +kernel : ∀ d : Dev nD, k0_dev119 d = (shift 29 d).val) c)
  | 30, _, _ => Fin.ext ((by decide +kernel : ∀ d : Dev nD, k0_dev120 d = (shift 30 d).val) c)
  | 31, _, _ => Fin.ext ((by decide +kernel : ∀ d : Dev nD, k0_dev121 d = (shift 31 d).val) c)
  | h + 32, _, e => absurd e (by omega)

theorem tgt_eq (σ : Strm) (c : Dev nD) (h : ℕ) (hh : h < σ.len) : tgt σ c h = nb σ.left c := by
  rcases σ with ⟨l, b⟩
  cases l <;> cases b
  · exact tgtRA_eq c h hh
  · exact tgtRB_eq c h hh
  · exact tgtLA_eq c h hh
  · exact tgtLB_eq c h hh

theorem tgtC_eq (d : Bool) (c : Dev nD) (h : ℕ) (hh : h < 13) : tgtC d c h = nb (!d) c := by
  cases d
  · exact tgtCR_eq c h hh
  · exact tgtCL_eq c h hh

theorem meet_left (c : Dev nD) : (⟨k0_dev1 c, k0_dev1_lt c⟩ : Dev nD) = nb true c :=
  Fin.ext ((by decide +kernel : ∀ d : Dev nD, k0_dev1 d = (nb true d).val) c)

theorem meet_right (c : Dev nD) : (⟨k0_dev2 c, k0_dev2_lt c⟩ : Dev nD) = nb false c :=
  Fin.ext ((by decide +kernel : ∀ d : Dev nD, k0_dev2 d = (nb false d).val) c)

/-! ## Where the products are written -/

omit [Facts] in
theorem off1_eq (c : Dev nD) : k0_off1 c = ![128 * c.val, 0] :=
  (by decide +kernel : ∀ c : Dev nD, k0_off1 c = ![128 * c.val, 0]) c

omit [Facts] in
theorem outOffR_eq (c : Dev nD) (h : ℕ) (hh : h < 15) : outOffR c h = ![128 * (src false (h + 1) c).val, 0] :=
  (by decide +kernel : ∀ c : Dev nD, ∀ h : Fin 15, outOffR c h.val = ![128 * (src false (h.val + 1) c).val, 0]) c ⟨h, hh⟩

omit [Facts] in
theorem outOffL_eq (c : Dev nD) (h : ℕ) (hh : h < 15) : outOffL c h = ![128 * (src true (h + 1) c).val, 0] :=
  (by decide +kernel : ∀ c : Dev nD, ∀ h : Fin 15, outOffL c h.val = ![128 * (src true (h.val + 1) c).val, 0]) c ⟨h, hh⟩

omit [Facts] in
theorem off4_eq (c : Dev nD) : k0_off4 c = ![128 * (src false 16 c).val, 0] :=
  (by decide +kernel : ∀ c : Dev nD, k0_off4 c = ![128 * (src false 16 c).val, 0]) c

omit [Facts] in
theorem off5_eq (c : Dev nD) : k0_off5 c = ![128 * (src true 16 c).val + 64, 0] :=
  (by decide +kernel : ∀ c : Dev nD, k0_off5 c = ![128 * (src true 16 c).val + 64, 0]) c

omit [Facts] in
/-- The farthest device is the same both ways round. -/
theorem src_far (c : Dev nD) : src true 16 c = src false 16 c :=
  (by decide +kernel : ∀ c : Dev nD, src true 16 c = src false 16 c) c

end Cert.Ring

end
-- ==== Proof.Given.lean ====
/- The facts the two programs' texts are read under: every rectangle lies in its buffer, every target device
   exists, every semaphore number is in range. Each holds by evaluation. -/
module

public import proofs.«01_k».proof.KernelIdeal
public import proofs.«01_k».proof.Kernel
public import Idealize.ShloMosaic.Lib.Decide
public import Idealize.ShloMosaic.Lib.Exec

@[expose] public section

set_option maxRecDepth 100000
set_option synthInstance.maxSize 4096
set_option Elab.async false

open Idealize.ShloMosaic Idealize.SL.Sem

namespace Cert.KernelIdeal.Given

instance facts₀ : Facts₀ := by
  constructor
  all_goals try first | decide | decide +kernel | (intro j; match j with | 0 => exact Memref.isWhole_whole _)
  all_goals first | decide | decide +kernel

instance facts : Facts := by
  constructor
  all_goals first | decide | decide +kernel

end Cert.KernelIdeal.Given

namespace Cert.Kernel.Given

instance facts₀ : Facts₀ := by
  constructor
  all_goals try first | decide | decide +kernel | (intro j; match j with | 0 => exact Memref.isWhole_whole _)
  all_goals first | decide | decide +kernel

instance facts : Facts := by
  constructor
  all_goals first | decide | decide +kernel

end Cert.Kernel.Given
-- ==== Proof.Cells.lean ====
/-
# What is owed to whom

Every increment of a semaphore in the kernel has a name, a `Duty`. For each: who receives it, at which semaphore,
in which round of that semaphore, how much, and its place in the order in which the devices wait.
-/
module

public import proofs.«01_k».proof.Proof.Topo
public import proofs.«01_k».proof.Proof.Given

@[expose] public section

set_option backward.proofsInPublic true

noncomputable section

namespace Cert.Ring

open Cert.KernelIdeal
open Idealize.ShloMosaic Idealize.ShloMosaic.TcCoe

/-- The increments of semaphores, named from the device that makes them. -/
inductive Duty where
  /-- the signal to the neighbour in a direction at the start -/
  | bar (d : Bool)
  /-- the `j`-th credit of a direction's streams, to the device they come from -/
  | cred (d : Bool) (j : ℕ)
  /-- hop `h` of a stream has left -/
  | snd (σ : Strm) (h : ℕ)
  /-- hop `h` of a stream has landed -/
  | rcv (σ : Strm) (h : ℕ)
  /-- the `o`-th copy of the maximum has left -/
  | topSnd (o : ℕ)
  /-- the `o`-th copy of the maximum has landed -/
  | topRcv (o : ℕ)
deriving DecidableEq

namespace Duty

/-- Whose semaphore device `c` increments. -/
def peer : Duty → (Dev nD ≃ Dev nD)
  | bar d => nb d
  | cred d _ => nb (!d)
  | snd _ _ => Equiv.refl _
  | rcv σ _ => nb σ.left
  | topSnd _ => Equiv.refl _
  | topRcv o => shift o

def sem : Duty → SemLoc sig
  | bar _ => .reg (sig.barrier 0 rfl)
  | cred d _ => .reg (credSem d)
  | snd σ h => .dma (sndSem σ h)
  | rcv σ h => .dma (rcvSem σ (h + 1))
  | topSnd o => .dma (Ring.topSnd o)
  | topRcv o => .dma (Ring.topRcv o)

/-- The round of its semaphore that a duty belongs to: a slot's semaphore has one for each use of the slot. -/
def rnd : Duty → ℕ
  | snd _ h => h / 4
  | rcv _ h => h / 4
  | _ => 0

/-- What a hop's copy credits. -/
def hopN : ℕ := (half (major false) 0).view.dmaCredit
/-- What a copy of the maximum credits. -/
def topN : ℕ := maxM.view.dmaCredit

def amt : Duty → ℕ
  | bar _ => 1
  | cred _ _ => 1
  | snd _ _ => hopN
  | rcv _ _ => hopN
  | topSnd _ => topN
  | topRcv _ => topN

/-- The place in the order of waiting: a device waits only for what comes before everything it still owes. -/
def lvl : Duty → ℕ
  | bar _ => 1
  | cred _ j => 2 * j + 2
  | snd _ _ => 0
  | rcv _ h => 2 * h + 3
  | topSnd _ => 0
  | topRcv _ => 100

/-- The increments that are made. -/
def live : Duty → Prop
  | bar _ => True
  | cred _ j => j < 13
  | snd σ h => h < σ.len
  | rcv σ h => h < σ.len
  | topSnd o => 1 ≤ o ∧ o < 32
  | topRcv o => 1 ≤ o ∧ o < 32

/-- The increments of other devices' semaphores. -/
def away : Duty → Prop
  | snd _ _ => False
  | topSnd _ => False
  | x => x.live

instance : DecidablePred live := fun x => by cases x <;> unfold live <;> infer_instance
instance : DecidablePred away := fun x => by cases x <;> unfold away live <;> infer_instance

theorem hopN_pos : 0 < hopN := View.dmaCredit_pos _ (by decide)
theorem topN_pos : 0 < topN := View.dmaCredit_pos _ (by decide)

theorem amt_pos (x : Duty) : 0 < x.amt := by
  cases x <;> first | exact Nat.one_pos | exact hopN_pos | exact topN_pos

/-- All the increments one device makes. -/
def all : Finset Duty :=
  Finset.univ.image bar ∪ (Finset.univ ×ˢ Finset.range 13).image (fun p => cred p.1 p.2)
    ∪ (Finset.univ ×ˢ Finset.range 16).image (fun p => snd p.1 p.2) ∪ (Finset.univ ×ˢ Finset.range 16).image (fun p => rcv p.1 p.2)
    ∪ (Finset.range 32).image topSnd ∪ (Finset.range 32).image topRcv

theorem len_le (σ : Strm) : σ.len ≤ 16 := by
  rcases σ with ⟨l, b⟩; cases l <;> cases b <;> decide

theorem len_ge (σ : Strm) : 15 ≤ σ.len := by
  rcases σ with ⟨l, b⟩; cases l <;> cases b <;> decide

theorem mem_all (x : Duty) (h : x.live) : x ∈ all := by
  have hl := len_le
  unfold all
  cases x <;> simp only [Finset.mem_union, Finset.mem_image, Finset.mem_univ, Finset.mem_product, Finset.mem_range, true_and, Prod.exists,
    reduceCtorEq, and_false, exists_false, exists_const, or_false, false_or, bar.injEq, cred.injEq, snd.injEq, rcv.injEq, topSnd.injEq, topRcv.injEq,
    exists_eq] <;> simp only [live] at h
  case cred d j => exact ⟨d, j, h, rfl, rfl⟩
  case snd σ k => exact ⟨σ, k, by have := hl σ; omega, rfl, rfl⟩
  case rcv σ k => exact ⟨σ, k, by have := hl σ; omega, rfl, rfl⟩
  case topSnd o => exact ⟨o, h.2, rfl⟩
  case topRcv o => exact ⟨o, h.2, rfl⟩

/-- The increments of other devices' semaphores, all together. -/
def aways : Finset Duty := all.filter away

theorem away_live (x : Duty) (h : x.away) : x.live := by cases x <;> first | exact h | exact h.elim

theorem mem_aways {x : Duty} : x ∈ aways ↔ x.away := by
  unfold aways
  rw [Finset.mem_filter]
  exact ⟨fun h => h.2, fun h => ⟨mem_all x (away_live x h), h⟩⟩

end Duty

/-! ## The semaphores by number -/

/-- A number for each stream. -/
def Strm.no : Strm → ℕ
  | ⟨false, false⟩ => 0
  | ⟨false, true⟩ => 1
  | ⟨true, false⟩ => 2
  | ⟨true, true⟩ => 3

theorem Strm.no_inj : ∀ σ σ' : Strm, σ.no = σ'.no → σ = σ' := by decide
theorem Strm.no_lt (σ : Strm) : σ.no < 4 := by rcases σ with ⟨l, b⟩; cases l <;> cases b <;> decide

/-- A number for each semaphore. -/
def semNo : SemLoc sig → ℕ
  | .reg q => q.val
  | .dma q => q.val + 10

theorem pick4_mod (a : DmaSems sig S4) (s : ℕ) : pick4 a s = pick4 a (s % 4) := by
  have h : ∀ (f g : Fin 1 → ℕ) (hf : ∀ i, f i + S1.size i ≤ S4.size i) (hg : ∀ i, g i + S1.size i ≤ S4.size i), f = g →
      ((a.slice (Rect.unit (s := S4) f S1.size hf)).squeeze S_ squeeze_one).sem
        = ((a.slice (Rect.unit (s := S4) g S1.size hg)).squeeze S_ squeeze_one).sem := by
    intro f g hf hg e; subst e; rfl
  exact h _ _ _ _ (by rw [Nat.mod_mod])

theorem pick32_mod (a : DmaSems sig S32) (s : ℕ) : pick32 a s = pick32 a (s % 32) := by
  have h : ∀ (f g : Fin 1 → ℕ) (hf : ∀ i, f i + S1.size i ≤ S32.size i) (hg : ∀ i, g i + S1.size i ≤ S32.size i), f = g →
      ((a.slice (Rect.unit (s := S32) f S1.size hf)).squeeze S_ squeeze_one).sem
        = ((a.slice (Rect.unit (s := S32) g S1.size hg)).squeeze S_ squeeze_one).sem := by
    intro f g hf hg e; subst e; rfl
  exact h _ _ _ _ (by rw [Nat.mod_mod])

theorem sndSem_mod (σ : Strm) (s : ℕ) : sndSem σ s = sndSem σ (s % 4) := pick4_mod _ _
theorem rcvSem_mod (σ : Strm) (s : ℕ) : rcvSem σ s = rcvSem σ (s % 4) := pick4_mod _ _
theorem topSnd_mod (o : ℕ) : topSnd o = topSnd (o % 32) := pick32_mod _ _
theorem topRcv_mod (o : ℕ) : topRcv o = topRcv (o % 32) := pick32_mod _ _

theorem sndSem_add4 (σ : Strm) (s : ℕ) : sndSem σ (s + 4) = sndSem σ s := by
  rw [sndSem_mod, sndSem_mod σ s, Nat.add_mod_right]
theorem rcvSem_add4 (σ : Strm) (s : ℕ) : rcvSem σ (s + 4) = rcvSem σ s := by
  rw [rcvSem_mod, rcvSem_mod σ s, Nat.add_mod_right]

theorem sndSem_val (σ : Strm) (s : ℕ) : (sndSem σ s).val = 3 + 8 * σ.no + s % 4 := by
  rw [sndSem_mod]
  exact (by decide +kernel : ∀ (σ : Strm) (t : Fin 4), (sndSem σ t.val).val = 3 + 8 * σ.no + t.val) σ ⟨s % 4, Nat.mod_lt _ (by decide)⟩

theorem rcvSem_val (σ : Strm) (s : ℕ) : (rcvSem σ s).val = 7 + 8 * σ.no + s % 4 := by
  rw [rcvSem_mod]
  exact (by decide +kernel : ∀ (σ : Strm) (t : Fin 4), (rcvSem σ t.val).val = 7 + 8 * σ.no + t.val) σ ⟨s % 4, Nat.mod_lt _ (by decide)⟩

theorem topSnd_val (o : ℕ) : (topSnd o).val = 35 + o % 32 := by
  rw [topSnd_mod]
  exact (by decide +kernel : ∀ t : Fin 32, (topSnd t.val).val = 35 + t.val) ⟨o % 32, Nat.mod_lt _ (by decide)⟩

theorem topRcv_val (o : ℕ) : (topRcv o).val = 67 + o % 32 := by
  rw [topRcv_mod]
  exact (by decide +kernel : ∀ t : Fin 32, (topRcv t.val).val = 67 + t.val) ⟨o % 32, Nat.mod_lt _ (by decide)⟩

theorem credSem_val (d : Bool) : (credSem d).val = if d then 1 else 0 := by cases d <;> rfl

/-- The number of the semaphore of each duty. -/
def Duty.code : Duty → ℕ
  | bar _ => 2
  | cred d _ => if d then 1 else 0
  | snd σ h => 13 + 8 * σ.no + h % 4
  | rcv σ h => 17 + 8 * σ.no + (h + 1) % 4
  | topSnd o => 45 + o % 32
  | topRcv o => 77 + o % 32

theorem semNo_sem (x : Duty) : semNo x.sem = x.code := by
  cases x with
  | bar d => rfl
  | cred d j => exact credSem_val d
  | snd σ h => show (sndSem σ h).val + 10 = 13 + 8 * σ.no + h % 4; rw [sndSem_val]; omega
  | rcv σ h => show (rcvSem σ (h + 1)).val + 10 = 17 + 8 * σ.no + (h + 1) % 4; rw [rcvSem_val]; omega
  | topSnd o => show (Ring.topSnd o).val + 10 = 45 + o % 32; rw [topSnd_val]; omega
  | topRcv o => show (Ring.topRcv o).val + 10 = 77 + o % 32; rw [topRcv_val]; omega

theorem code_eq {x y : Duty} (h : x.sem = y.sem) : x.code = y.code := by rw [← semNo_sem, ← semNo_sem, h]

/-- The duties of one round of a semaphore. -/
def dutiesAt (sm : SemLoc sig) (r : ℕ) : Finset Duty := Duty.all.filter fun x => x.live ∧ x.sem = sm ∧ x.rnd = r

theorem mem_dutiesAt {sm : SemLoc sig} {r : ℕ} {x : Duty} : x ∈ dutiesAt sm r ↔ x.live ∧ x.sem = sm ∧ x.rnd = r := by
  unfold dutiesAt
  rw [Finset.mem_filter]
  exact ⟨fun h => h.2, fun h => ⟨Duty.mem_all x h.1, h⟩⟩

theorem Duty.mem_own (x : Duty) (h : x.live) : x ∈ dutiesAt x.sem x.rnd := mem_dutiesAt.mpr ⟨h, rfl, rfl⟩

theorem snd_sem_add4 (σ : Strm) (h : ℕ) : (Duty.snd σ (h + 4)).sem = (Duty.snd σ h).sem := congrArg SemLoc.dma (sndSem_add4 σ h)
theorem rcv_sem_add4 (σ : Strm) (h : ℕ) : (Duty.rcv σ (h + 4)).sem = (Duty.rcv σ h).sem := congrArg SemLoc.dma (rcvSem_add4 σ (h + 1))

theorem sem_snd {x : Duty} {σ : Strm} {h : ℕ} (e : x.sem = (Duty.snd σ h).sem) : ∃ h', x = .snd σ h' ∧ h' % 4 = h % 4 := by
  have hc := code_eq e
  have h4 := Strm.no_lt
  cases x <;> simp only [Duty.code] at hc
  case snd σ' h' =>
    have := h4 σ; have := h4 σ'
    refine ⟨h', ?_, by omega⟩
    rw [Strm.no_inj σ' σ (by omega)]
  case rcv σ' h' => have := h4 σ; have := h4 σ'; omega
  all_goals (have := h4 σ; (try split at hc) <;> omega)

theorem sem_rcv {x : Duty} {σ : Strm} {h : ℕ} (e : x.sem = (Duty.rcv σ h).sem) : ∃ h', x = .rcv σ h' ∧ h' % 4 = h % 4 := by
  have hc := code_eq e
  have h4 := Strm.no_lt
  cases x <;> simp only [Duty.code] at hc
  case rcv σ' h' =>
    have := h4 σ; have := h4 σ'
    refine ⟨h', ?_, by omega⟩
    rw [Strm.no_inj σ' σ (by omega)]
  case snd σ' h' => have := h4 σ; have := h4 σ'; omega
  all_goals (have := h4 σ; (try split at hc) <;> omega)

theorem sem_topSnd {x : Duty} {o : ℕ} (e : x.sem = (Duty.topSnd o).sem) : ∃ o', x = .topSnd o' ∧ o' % 32 = o % 32 := by
  have hc := code_eq e
  have h4 := Strm.no_lt
  cases x <;> simp only [Duty.code] at hc
  case topSnd o' => exact ⟨o', rfl, by omega⟩
  case snd σ' h' => have := h4 σ'; omega
  case rcv σ' h' => have := h4 σ'; omega
  all_goals ((try split at hc) <;> omega)

theorem sem_topRcv {x : Duty} {o : ℕ} (e : x.sem = (Duty.topRcv o).sem) : ∃ o', x = .topRcv o' ∧ o' % 32 = o % 32 := by
  have hc := code_eq e
  have h4 := Strm.no_lt
  cases x <;> simp only [Duty.code] at hc
  case topRcv o' => exact ⟨o', rfl, by omega⟩
  case snd σ' h' => have := h4 σ'; omega
  case rcv σ' h' => have := h4 σ'; omega
  all_goals ((try split at hc) <;> omega)

theorem sem_cred {x : Duty} {d : Bool} {j : ℕ} (e : x.sem = (Duty.cred d j).sem) : ∃ j', x = .cred d j' := by
  have hc := code_eq e
  have h4 := Strm.no_lt
  cases x <;> simp only [Duty.code] at hc
  case cred d' j' => exact ⟨j', by cases d <;> cases d' <;> simp_all⟩
  all_goals split at hc <;> omega

theorem sem_bar {x : Duty} {d : Bool} (e : x.sem = (Duty.bar d).sem) : ∃ d', x = .bar d' := by
  have hc := code_eq e
  have h4 := Strm.no_lt
  cases x <;> simp only [Duty.code] at hc
  case bar d' => exact ⟨d', rfl⟩
  case cred d' j' => split at hc <;> omega
  all_goals omega

theorem duties_snd (σ : Strm) (h : ℕ) (hh : h < σ.len) : dutiesAt (Duty.snd σ h).sem (h / 4) = {.snd σ h} := by
  ext x
  rw [mem_dutiesAt, Finset.mem_singleton]
  constructor
  · rintro ⟨_, hs, hr⟩
    obtain ⟨h', rfl, e⟩ := sem_snd hs
    simp only [Duty.rnd] at hr
    rw [show h' = h by omega]
  · rintro rfl; exact ⟨hh, rfl, rfl⟩

theorem duties_rcv (σ : Strm) (h : ℕ) (hh : h < σ.len) : dutiesAt (Duty.rcv σ h).sem (h / 4) = {.rcv σ h} := by
  ext x
  rw [mem_dutiesAt, Finset.mem_singleton]
  constructor
  · rintro ⟨_, hs, hr⟩
    obtain ⟨h', rfl, e⟩ := sem_rcv hs
    simp only [Duty.rnd] at hr
    rw [show h' = h by omega]
  · rintro rfl; exact ⟨hh, rfl, rfl⟩

theorem duties_topSnd (o : ℕ) (h : 1 ≤ o ∧ o < 32) : dutiesAt (Duty.topSnd o).sem 0 = {.topSnd o} := by
  ext x
  rw [mem_dutiesAt, Finset.mem_singleton]
  constructor
  · rintro ⟨hl, hs, hr⟩
    obtain ⟨h', rfl, e⟩ := sem_topSnd hs
    simp only [Duty.live] at hl
    rw [show h' = o by omega]
  · rintro rfl; exact ⟨h, rfl, rfl⟩

theorem duties_topRcv (o : ℕ) (h : 1 ≤ o ∧ o < 32) : dutiesAt (Duty.topRcv o).sem 0 = {.topRcv o} := by
  ext x
  rw [mem_dutiesAt, Finset.mem_singleton]
  constructor
  · rintro ⟨hl, hs, hr⟩
    obtain ⟨h', rfl, e⟩ := sem_topRcv hs
    simp only [Duty.live] at hl
    rw [show h' = o by omega]
  · rintro rfl; exact ⟨h, rfl, rfl⟩

theorem duties_cred (d : Bool) (j : ℕ) : dutiesAt (Duty.cred d j).sem 0 = (Finset.range 13).image (Duty.cred d) := by
  ext x
  rw [mem_dutiesAt, Finset.mem_image]
  constructor
  · rintro ⟨hl, hs, hr⟩
    obtain ⟨j', rfl⟩ := sem_cred hs
    exact ⟨j', Finset.mem_range.mpr hl, rfl⟩
  · rintro ⟨j', hj, rfl⟩; exact ⟨Finset.mem_range.mp hj, rfl, rfl⟩

theorem duties_bar (d : Bool) : dutiesAt (Duty.bar d).sem 0 = {.bar false, .bar true} := by
  ext x
  rw [mem_dutiesAt, Finset.mem_insert, Finset.mem_singleton]
  constructor
  · rintro ⟨hl, hs, hr⟩
    obtain ⟨d', rfl⟩ := sem_bar hs
    cases d' <;> simp
  · rintro (rfl | rfl) <;> exact ⟨trivial, rfl, rfl⟩

/-! ## No duties left -/

theorem none_snd (σ : Strm) (h r : ℕ) (hh : σ.len ≤ h) (hr : h / 4 ≤ r) : dutiesAt (Duty.snd σ h).sem r = ∅ := by
  refine Finset.eq_empty_of_forall_notMem fun x hx => ?_
  obtain ⟨hl, hs, hr'⟩ := mem_dutiesAt.mp hx
  obtain ⟨h', rfl, e⟩ := sem_snd hs
  simp only [Duty.live, Duty.rnd] at hl hr'
  omega

theorem none_rcv (σ : Strm) (h r : ℕ) (hh : σ.len ≤ h) (hr : h / 4 ≤ r) : dutiesAt (Duty.rcv σ h).sem r = ∅ := by
  refine Finset.eq_empty_of_forall_notMem fun x hx => ?_
  obtain ⟨hl, hs, hr'⟩ := mem_dutiesAt.mp hx
  obtain ⟨h', rfl, e⟩ := sem_rcv hs
  simp only [Duty.live, Duty.rnd] at hl hr'
  omega

theorem none_later (x : Duty) (hx : ∀ σ h, x ≠ .snd σ h) (hx' : ∀ σ h, x ≠ .rcv σ h) (r : ℕ) (hr : 1 ≤ r) : dutiesAt x.sem r = ∅ := by
  refine Finset.eq_empty_of_forall_notMem fun y hy => ?_
  obtain ⟨hl, hs, hr'⟩ := mem_dutiesAt.mp hy
  cases y with
  | snd σ h => obtain ⟨h', e, -⟩ := sem_snd hs.symm; exact hx σ h' e
  | rcv σ h => obtain ⟨h', e, -⟩ := sem_rcv hs.symm; exact hx' σ h' e
  | _ => simp only [Duty.rnd] at hr'; omega

theorem none_topSnd_zero (r : ℕ) : dutiesAt (Duty.topSnd 0).sem r = ∅ := by
  refine Finset.eq_empty_of_forall_notMem fun y hy => ?_
  obtain ⟨hl, hs, hr'⟩ := mem_dutiesAt.mp hy
  obtain ⟨h', rfl, e⟩ := sem_topSnd hs
  simp only [Duty.live] at hl
  omega

theorem none_topRcv_zero (r : ℕ) : dutiesAt (Duty.topRcv 0).sem r = ∅ := by
  refine Finset.eq_empty_of_forall_notMem fun y hy => ?_
  obtain ⟨hl, hs, hr'⟩ := mem_dutiesAt.mp hy
  obtain ⟨h', rfl, e⟩ := sem_topRcv hs
  simp only [Duty.live] at hl
  omega

end Cert.Ring

end
-- ==== Proof.Geo.lean ====
/-
# The regions of the buffers

The four streams' shares of the slots, the slots, and the blocks of received maxima: where their elements lie in
the buffers, and what the buffers hold when a device's rows lie in them.
-/
module

public import proofs.«01_k».proof.Proof.Topo
public import Idealize.ShloMosaic.Lib.Pipeline.Kit
public import Idealize.ShloMosaic.Lib.Pipeline.ValueKit

@[expose] public section

set_option backward.proofsInPublic true

noncomputable section

namespace Cert.Ring

open Cert.KernelIdeal
open Idealize.ShloMosaic Idealize.ShloMosaic.TcCoe

/-! ## Periods -/

theorem slotRect_mod (s : ℕ) (b : Bool) : slotRect (s % 4) b = slotRect s b := by
  unfold slotRect
  congr 2
  simp

theorem half_mod (σ : Strm) (s : ℕ) : half σ (s % 4) = half σ s := by
  have key : ∀ (o o' : ℕ) (ho : ∀ a, (![o, row0 σ.low, 0] : Fin 3 → ℕ) a + S1x64x4096.size a ≤ S4x128x4096.size a)
      (ho' : ∀ a, (![o', row0 σ.low, 0] : Fin 3 → ℕ) a + S1x64x4096.size a ≤ S4x128x4096.size a), o = o' →
      ((comm σ.left).slice (Rect.unit (s := S4x128x4096) ![o, row0 σ.low, 0] S1x64x4096.size ho) (fun _ => rfl)).squeeze S64x4096 squeeze_half
        = ((comm σ.left).slice (Rect.unit (s := S4x128x4096) ![o', row0 σ.low, 0] S1x64x4096.size ho') (fun _ => rfl)).squeeze S64x4096 squeeze_half := by
    rintro o o' ho ho' rfl; rfl
  exact key _ _ _ _ (Nat.mod_mod _ _)

theorem half_congr (σ : Strm) {s s' : ℕ} (h : s % 4 = s' % 4) : half σ s = half σ s' := by
  rw [← half_mod σ s, ← half_mod σ s', h]

theorem half_add4 (σ : Strm) (s : ℕ) : half σ (s + 4) = half σ s := half_congr σ (Nat.add_mod_right s 4)

theorem chunkRect_mod (s : ℕ) : chunkRect (s % 4) = chunkRect s := by
  unfold chunkRect
  congr 2
  simp

/-! ## Contents -/

/-- Contents that a view reads alike are alike where the view lies. -/
theorem eq_of_read {κ : Kind} {sp : Space} {s : Shape} {e : EltTy} {Val : EltTy → Type} (v : View sig κ sp s e) {f g : v.ty.Contents Val}
    (h : v.read Val f = v.read Val g) : ∀ i ∈ v.set, f i = g i := by
  intro i hi
  obtain ⟨y, -, rfl⟩ := Finset.mem_map.mp hi
  have := congrFun h y
  rw [View.read_apply, View.read_apply] at this
  exact (cast_bijective _).injective this

variable [Facts] {F : FTy → Type} [FloatOps F]

/-- The index of a slot's contents that an element of the buffer holds. -/
def inSlot (i : S4x128x4096.Idx) : S1x128x4096.Idx
  | ⟨0, _⟩ => ⟨0, Nat.one_pos⟩
  | ⟨1, _⟩ => i 1
  | ⟨2, _⟩ => i 2

/-- Rows in every slot of a buffer. -/
def rowsOf (x : Vec F S128x4096 .f32) : S4x128x4096.Idx → Elt F .bf16 := fun i => ownSlot x (inSlot i)

/-- The buffer of a direction with the same rows in every slot. -/
def commF (d : Bool) (x : Vec F S128x4096 .f32) : (comm d).view.ty.Contents (Elt F) :=
  match d with
  | false => rowsOf x
  | true => rowsOf x

theorem commF_read (d : Bool) (x : Vec F S128x4096 .f32) : (comm d).view.read (Elt F) (commF d x) = rowsOf x := by
  cases d <;> rfl

theorem rowsOf_congr (x : Vec F S128x4096 .f32) {i i' : S4x128x4096.Idx} (h1 : (i 1 : ℕ) = i' 1) (h2 : (i 2 : ℕ) = i' 2) :
    rowsOf x i = rowsOf x i' := by
  unfold rowsOf
  congr 1
  funext a
  match a with
  | ⟨0, _⟩ => rfl
  | ⟨1, _⟩ => exact Fin.ext h1
  | ⟨2, _⟩ => exact Fin.ext h2

/-- Half the rows, as a part of a slot. -/
def halfOf (b : Bool) (x : Vec F S128x4096 .f32) : Vec F S1x64x4096 .bf16 := fun j => rowsOf x ((slotRect 0 b).emb j)

theorem slot_read_rows (s : ℕ) (b : Bool) (x : Vec F S128x4096 .f32) (j : S1x64x4096.Idx) : rowsOf x ((slotRect s b).emb j) = halfOf b x j :=
  rowsOf_congr x rfl rfl

theorem half_read (σ : Strm) (s : ℕ) (x : Vec F S128x4096 .f32) :
    (half σ s).view.read (Elt F) (commF σ.left x) = fun j => halfOf σ.low x (Shape.reshapeEquiv (squeeze_half.numel_eq) j) := by
  funext j
  rw [← slot_read_rows s]
  exact congrFun (commF_read σ.left x) _

/-- What a hop writes, where the sender's slot holds the rows. -/
theorem landed_eq (σ : Strm) (s s' : ℕ) (x : Vec F S128x4096 .f32) (fd : (half σ s').view.ty.Contents (Elt F)) :
    ∀ i ∈ (half σ s').view.set,
      (half σ s').view.write (Elt F) fd ((half σ s).view.read (Elt F) (commF σ.left x)) Finset.univ i = commF σ.left x i := by
  apply eq_of_read
  rw [View.read_write_univ, half_read, half_read]

/-! ### Loads of a slot -/

theorem chunk_rows (s : ℕ) (x : Vec F S128x4096 .f32) (j : S1x128x4096.Idx) : rowsOf x ((chunkRect s).emb j) = ownSlot x j := by
  unfold rowsOf
  congr 1
  funext a
  match a with
  | ⟨0, _⟩ => exact Fin.ext (by have : (j 0).val < 1 := (j 0).isLt; show 0 = (j 0).val; omega)
  | ⟨1, _⟩ => exact Fin.ext (by show 0 + 1 * (j 1 : ℕ) = (j 1 : ℕ); omega)
  | ⟨2, _⟩ => exact Fin.ext (by show 0 + 1 * (j 2 : ℕ) = (j 2 : ℕ); omega)

theorem chunk_readAt (d : Bool) (s : ℕ) (x : Vec F S128x4096 .f32) :
    (comm d).view.readAt (Elt F) (chunkRect s).toLoadRect (commF d x) = ownSlot x := by
  funext j
  exact (congrFun (commF_read d x) _).trans (chunk_rows s x j)

theorem half_readAt (d : Bool) (s : ℕ) (b : Bool) (x : Vec F S128x4096 .f32) :
    (comm d).view.readAt (Elt F) (slotRect s b).toLoadRect (commF d x) = halfOf b x := by
  funext j
  exact (congrFun (commF_read d x) _).trans (slot_read_rows s b x j)

/-- A slot written with the rows holds them. -/
theorem fill_eq (d : Bool) (s : ℕ) (x : Vec F S128x4096 .f32) (f : (comm d).view.ty.Contents (Elt F)) :
    ∀ i ∈ ((comm d).access (chunkRect s)).set, ((comm d).access (chunkRect s)).write (Elt F) f (ownSlot x) Finset.univ i = commF d x i := by
  apply eq_of_read
  exact (View.read_write_univ _ _).trans (chunk_readAt d s x).symm

/-! ### A slot is its two halves -/

theorem half_set (σ : Strm) (s : ℕ) : (half σ s).view.set = ((comm σ.left).access (slotRect s σ.low)).set :=
  View.set_reshape _ _

theorem mem_chunk {s : ℕ} {i : S4x128x4096.Idx} : i ∈ (chunkRect s).set ↔ (i 0 : ℕ) = s % 4 := by
  unfold chunkRect
  rw [Rect.mem_set_unit]
  have h1 := (i 1).isLt
  have h2 := (i 2).isLt
  constructor
  · intro h
    have := h 0
    simp [Shape.size] at this
    omega
  · intro h a
    match a with
    | ⟨0, _⟩ => simp [h]
    | ⟨1, _⟩ => simpa using h1
    | ⟨2, _⟩ => simpa using h2

theorem mem_slot {s : ℕ} {b : Bool} {i : S4x128x4096.Idx} :
    i ∈ (slotRect s b).set ↔ (i 0 : ℕ) = s % 4 ∧ row0 b ≤ (i 1 : ℕ) ∧ (i 1 : ℕ) < row0 b + 64 := by
  unfold slotRect
  rw [Rect.mem_set_unit]
  have h2 := (i 2).isLt
  constructor
  · intro h
    have h0 := h 0
    have h1 := h 1
    simp at h0 h1
    omega
  · rintro ⟨h0, h1, h1'⟩ a
    match a with
    | ⟨0, _⟩ => simp [h0]
    | ⟨1, _⟩ => exact ⟨h1, h1'⟩
    | ⟨2, _⟩ => simpa using h2

theorem slot_disj (s : ℕ) : Disjoint (slotRect s false).set (slotRect s true).set := by
  rw [Finset.disjoint_left]
  intro i h h'
  rw [mem_slot] at h h'
  simp [row0] at h h'
  omega

theorem slot_union (s : ℕ) : (slotRect s false).set ∪ (slotRect s true).set = (chunkRect s).set := by
  ext i
  rw [Finset.mem_union, mem_slot, mem_slot, mem_chunk]
  have h1 : (i 1 : ℕ) < 128 := (i 1).isLt
  simp [row0]
  omega

theorem chunk_disj {s s' : ℕ} (h : s % 4 ≠ s' % 4) : Disjoint (chunkRect s).set (chunkRect s').set := by
  rw [Finset.disjoint_left]
  intro i h1 h2
  rw [mem_chunk] at h1 h2
  omega

theorem chunk_univ : (chunkRect 0).set ∪ (chunkRect 1).set ∪ (chunkRect 2).set ∪ (chunkRect 3).set = Finset.univ := by
  ext i
  simp only [Finset.mem_union, mem_chunk, Finset.mem_univ, iff_true]
  have h1 : (i 0 : ℕ) < 4 := (i 0).isLt
  omega

theorem half_set_nonempty (σ : Strm) (s : ℕ) : (half σ s).view.set.Nonempty :=
  ⟨_, (half σ s).view.emb_mem_set (fun a => ⟨0, by revert a; decide⟩)⟩

/-! ## The received maxima -/

theorem topSlot_set (o : ℕ) : (topSlot o).view.set = (Rect.unit (s := S32x8x128) ![o % 32, 0, 0] S1x8x128.size (tops_inb o)).set :=
  (View.set_reshape _ _).trans (View.set_slice_whole _ _)

theorem mem_top {o : ℕ} {i : S32x8x128.Idx} : i ∈ (Rect.unit (s := S32x8x128) ![o % 32, 0, 0] S1x8x128.size (tops_inb o)).set ↔ (i 0 : ℕ) = o % 32 := by
  rw [Rect.mem_set_unit]
  have h1 := (i 1).isLt
  have h2 := (i 2).isLt
  constructor
  · intro h
    have := h 0
    simp at this
    omega
  · intro h a
    match a with
    | ⟨0, _⟩ => simp [h]
    | ⟨1, _⟩ => simpa using h1
    | ⟨2, _⟩ => simpa using h2

theorem topSlot_nonempty (o : ℕ) : (topSlot o).view.set.Nonempty :=
  ⟨_, (topSlot o).view.emb_mem_set (fun a => ⟨0, by revert a; decide⟩)⟩

theorem spread_eq (a : F .f32) : spread a = fun _ => a := rfl

/-- The received maxima on device `c`, one for each block, of the values `T` of the devices. -/
def topsF (T : Dev nD → F .f32) (c : Dev nD) : topsM.view.ty.Contents (Elt F) :=
  fun i : S32x8x128.Idx => T ((shift (i 0).val).symm c)

theorem landedTop_eq (T : Dev nD → F .f32) (c : Dev nD) (o : ℕ) (fd : (topSlot o).view.ty.Contents (Elt F)) :
    ∀ i ∈ (topSlot o).view.set,
      (topSlot o).view.write (Elt F) fd (maxM.view.read (Elt F) (fun _ => T c)) Finset.univ i = topsF T (shift (o % 32) c) i := by
  intro i hi
  have h0 : ((show S32x8x128.Idx from i) 0 : ℕ) = o % 32 := by
    rw [topSlot_set] at hi
    exact mem_top.mp hi
  refine (eq_of_read (topSlot o).view (g := fun _ => T c) ?_ i hi).trans ?_
  · rw [View.read_write_univ]; rfl
  · unfold topsF
    rw [h0, Equiv.symm_apply_apply]

end Cert.Ring

end
-- ==== Proof.Proto.lean ====
/-
# The protocol: what each increment of a semaphore hands over

A copy that leaves hands the sender its slot back. A copy that lands hands the receiver the slot, holding the rows of
the device the stream's hop brings, and the knowledge that this device has entered the kernel. A credit hands over
which of the giver's slots are free again. The signal at the start hands over that the signalling device has entered,
which means that its slots 1 to 3 and its blocks of received maxima are free.

A slot that another device writes lies in an invariant while nobody uses it; the counts of its releases and writes are
ghost state (`Release`).
-/
module

public import proofs.«01_k».proof.Proof.Cells
public import proofs.«01_k».proof.Proof.Geo
public import Idealize.ShloMosaic.Lib.Pipeline.Launch
public import Idealize.ShloMosaic.Lib.Pipeline.Kit
public import Idealize.ShloMosaic.Lib.Release
public import Idealize.ShloMosaic.Lib.Tactic

@[expose] public section

set_option backward.proofsInPublic true

noncomputable section

namespace Cert.Ring

open Cert.KernelIdeal Cert.KernelIdeal.Given
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

/-! ## The ghost state -/

/-- The places other devices write: a stream's share of a slot, a block of received maxima. -/
inductive Spot where
  | comm (σ : Strm) (s : ℕ)
  | top (o : ℕ)
deriving DecidableEq

abbrev Key : Type := Dev nD × Spot

abbrev UB : Type := URounds (GSem nD τ sig) Duty × USlots Key
abbrev UU : Type := UR sig nD τ × UB

variable {F : FTy → Type} [FloatOps F]

local notation "𝕄" => MT nD τ sig ℕ (Elt F) ℕ UU ℕ

abbrev EP : Emb (UR sig nD τ) (MT nD τ sig ℕ (Elt F) ℕ UU ℕ) := embL
abbrev ER : Emb (URounds (GSem nD τ sig) Duty) (MT nD τ sig ℕ (Elt F) ℕ UU ℕ) := (Emb.inl : Emb _ UB).trans embR
abbrev ES : Emb (USlots Key) (MT nD τ sig ℕ (Elt F) ℕ UU ℕ) := (Emb.inr : Emb _ UB).trans embR

/-- Device `c`'s semaphore for a duty. -/
abbrev cell (c : Dev nD) (x : Duty) : GSem nD τ sig := ((c : Thread nD τ), x.sem)

/-- What lies in a place's invariant: the place, holding anything. -/
def spot : Key → sProp 𝕄
  | (c, .comm σ s) => slot ((half σ s).view.loc (c : Thread nD τ)) (half σ s).view.set
  | (c, .top o) => slot ((topSlot o).view.loc (c : Thread nD τ)) (topSlot o).view.set

instance spot_storable (k : Key) : BI.Storable (upEmb : UEmb _ 𝕄) (spot (F := F) k) := by
  rcases k with ⟨c, σ | o⟩ <;> unfold spot <;> infer_instance

theorem spot_false (k : Key) : iprop(spot (F := F) k ∗ spot k) ⊢ (False : sProp 𝕄) := by
  rcases k with ⟨c, σ | o⟩
  · exact slot_slot_false (half_set_nonempty _ _)
  · exact slot_slot_false (topSlot_nonempty _)

/-- The slot hop `h` of a stream is written to. -/
abbrev land (c : Dev nD) (σ : Strm) (h : ℕ) : Key := (c, .comm σ ((h + 1) % 4))

/-- The places. -/
def spots : Finset Spot :=
  (Finset.univ ×ˢ Finset.range 4).image (fun p : Strm × ℕ => Spot.comm p.1 p.2) ∪ (Finset.Ico 1 32).image Spot.top

def keys : Finset Key := Finset.univ ×ˢ spots

theorem mem_comm (c : Dev nD) (σ : Strm) (s : ℕ) : ((c, .comm σ (s % 4)) : Key) ∈ keys := by
  unfold keys spots
  simp only [Finset.mem_product, Finset.mem_univ, true_and, Finset.mem_union, Finset.mem_image, Finset.mem_range, Prod.exists]
  exact Or.inl ⟨σ, s % 4, Nat.mod_lt _ (by decide), rfl⟩

theorem mem_topKey (c : Dev nD) (o : ℕ) (h1 : 1 ≤ o) (h2 : o < 32) : ((c, .top o) : Key) ∈ keys := by
  unfold keys spots
  simp only [Finset.mem_product, Finset.mem_univ, true_and, Finset.mem_union, Finset.mem_image, Finset.mem_Ico]
  exact Or.inr ⟨o, ⟨h1, h2⟩, rfl⟩

/-! ## What is handed over -/

/-- Device `e`'s slot for hop `h` of a stream is free for it. -/
def freeFor (e : Dev nD) (σ : Strm) (h : ℕ) : sProp 𝕄 :=
  iprop(released ES (land e σ h) (h / 4 + 1) ∗ reached ER (cell e (.rcv σ h)) (h / 4))

/-- The same, for a hop there is. -/
def freeIf (e : Dev nD) (σ : Strm) (h : ℕ) : sProp 𝕄 := if h < σ.len then freeFor e σ h else iprop(emp)

/-- Device `e` has entered the kernel. -/
def entered (e : Dev nD) : sProp 𝕄 :=
  iprop(bigSep Finset.univ (fun σ : Strm => bigSep (Finset.range 3) (fun h => freeFor e σ h))
    ∗ bigSep (Finset.Ico 1 32) (fun o => released ES ((e, .top o) : Key) 1))

/-- What the `j`-th credit from device `e` says: the slots that are free for the hops `j + 3` of the direction. -/
def grant (d : Bool) (e : Dev nD) (j : ℕ) : sProp 𝕄 := iprop(freeIf e ⟨d, false⟩ (j + 3) ∗ freeIf e ⟨d, true⟩ (j + 3))

instance freeFor_persistent (e : Dev nD) (σ : Strm) (h : ℕ) : BI.Persistent (freeFor (F := F) e σ h) := by unfold freeFor; infer_instance
instance freeIf_persistent (e : Dev nD) (σ : Strm) (h : ℕ) : BI.Persistent (freeIf (F := F) e σ h) := by unfold freeIf; split <;> infer_instance
instance entered_persistent (e : Dev nD) : BI.Persistent (entered (F := F) e) := by unfold entered; infer_instance
instance grant_persistent (d : Bool) (e : Dev nD) (j : ℕ) : BI.Persistent (grant (F := F) d e j) := by unfold grant; infer_instance
instance freeFor_storable (e : Dev nD) (σ : Strm) (h : ℕ) : BI.Storable (upEmb : UEmb _ 𝕄) (freeFor (F := F) e σ h) := by unfold freeFor; infer_instance
instance freeIf_storable (e : Dev nD) (σ : Strm) (h : ℕ) : BI.Storable (upEmb : UEmb _ 𝕄) (freeIf (F := F) e σ h) := by
  unfold freeIf; split <;> infer_instance
instance entered_storable (e : Dev nD) : BI.Storable (upEmb : UEmb _ 𝕄) (entered (F := F) e) := by unfold entered; infer_instance
instance grant_storable (d : Bool) (e : Dev nD) (j : ℕ) : BI.Storable (upEmb : UEmb _ 𝕄) (grant (F := F) d e j) := by unfold grant; infer_instance

/-- What is left of a buffer's share after `n` readers have taken theirs. -/
def restQ : ℕ → PosShare TreeShare
  | 0 => fullShare
  | n + 1 => (restQ n).right
/-- The `n`-th reader's share. -/
def tokQ (n : ℕ) : PosShare TreeShare := (restQ n).left

variable (X : Dev nD → Vec F S128x4096 .f32) (T : Dev nD → F .f32)

/-- The contents of the buffer a stream's slot lies in, with the rows `x` in every slot. -/
def chunkF (c : Dev nD) (σ : Strm) (i : ℕ) (x : Vec F S128x4096 .f32) : Buf (Elt F) ((half σ i).view.loc (c : Thread nD τ)) := commF σ.left x

/-- The buffer of received maxima, filled. -/
def topGotF (c : Dev nD) (o : ℕ) : Buf (Elt F) ((topSlot o).view.loc (c : Thread nD τ)) := topsF T c

/-- A stream's share of its slot `i` on device `c`, holding the rows of the device `i` hops before it. -/
def chunk (c : Dev nD) (σ : Strm) (i : ℕ) (q : PosShare TreeShare) : sProp 𝕄 :=
  (half σ i).view.loc (c : Thread nD τ) ↦[(half σ i).view.set]{q} chunkF c σ i (X (src σ.left i c))

instance chunk_storable (c : Dev nD) (σ : Strm) (i : ℕ) (q) : BI.Storable (upEmb : UEmb _ 𝕄) (chunk X c σ i q) := by unfold chunk; infer_instance

/-- A block of received maxima on device `c`, holding the maximum of the device `o` before it. -/
def topGot (c : Dev nD) (o : ℕ) : sProp 𝕄 :=
  (topSlot o).view.loc (c : Thread nD τ) ↦[(topSlot o).view.set]{fullShare} topGotF T c o
instance topGot_storable (c : Dev nD) (o : ℕ) : BI.Storable (upEmb : UEmb _ 𝕄) (topGot T c o) := by unfold topGot; infer_instance

/-- Device `c`'s maximum in the buffer it is sent from. -/
def topOwn (c : Dev nD) (q : PosShare TreeShare) : sProp 𝕄 :=
  maxM.view.loc (c : Thread nD τ) ↦[maxM.view.set]{q} (fun _ => T c)
instance topOwn_storable (c : Dev nD) (q) : BI.Storable (upEmb : UEmb _ 𝕄) (topOwn T c q) := by unfold topOwn; infer_instance

/-- What a duty hands the device `c` whose semaphore it increments. -/
def pay (c : Dev nD) : Duty → sProp 𝕄
  | .bar d => entered ((nb d).symm c)
  | .cred d j => bigSep (Finset.range (j + 1)) (fun i => grant d ((nb (!d)).symm c) i)
  | .snd σ h => chunk X c σ h fullShare.left
  | .rcv σ h => iprop(chunk X c σ (h + 1) fullShare ∗ entered (src σ.left (h + 1) c))
  | .topSnd o => topOwn T c (tokQ o)
  | .topRcv o => topGot T c o

/-- The schedule of all semaphores. -/
def Rd : Rounds.Schedule (GSem nD τ sig) Duty 𝕄 where
  duties g r := dutiesAt g.2 r
  unitless _ := False
  amount _ _ x := x.amt
  payload g _ x := pay X T g.1.1 x
  amount_pos _ _ x _ := x.amt_pos

instance Rd_storable (g : GSem nD τ sig) (r : ℕ) (x : Duty) : BI.Storable (upEmb : UEmb _ 𝕄) ((Rd X T).payload g r x) := by
  show BI.Storable upEmb (pay X T g.1.1 x)
  cases x <;> unfold pay <;> infer_instance

/-! ## What is owed -/

/-- What device `c` owes while the increments `S` are still to be made. -/
def debt (c : Dev nD) (S : Finset Duty) : CellTallies nD τ sig ℕ := ∑ x ∈ S, tallyAt (cell (x.peer c) x) x.lvl x.amt

theorem debt_erase (c : Dev nD) {S : Finset Duty} {x : Duty} (h : x ∈ S) :
    debt c S = debt c (S.erase x) + tallyAt (cell (x.peer c) x) x.lvl x.amt := by
  unfold debt
  exact (Finset.sum_erase_add _ _ h).symm

theorem debt_pos {c : Dev nD} {S : Finset Duty} {g : GSem nD τ sig} {u : ℕ} (h : 0 < debt c S g u) :
    ∃ x ∈ S, g = cell (x.peer c) x ∧ u = x.lvl := by
  unfold debt at h
  rw [Finset.sum_apply, Finsupp.finset_sum_apply] at h
  obtain ⟨x, hx, hp⟩ := Finset.exists_ne_zero_of_sum_ne_zero (Nat.pos_iff_ne_zero.mp h)
  refine ⟨x, hx, ?_⟩
  rw [tallyAt_apply] at hp
  by_contra hn
  exact hp (if_neg hn)

/-- Every index is its own place in the order. -/
def lv (_ : GSem nD τ sig) (i : ℕ) : ℕ := i
def L (g : GSem nD τ sig) : Finset ℕ := if g.1.2 = .tc then Finset.range 101 else ∅

theorem L_of_ne (g : GSem nD τ sig) (h : g.1.2 ≠ .tc) : L g = ∅ := if_neg h
theorem L_tc (c : Dev nD) (sm : SemLoc sig) : L ((c : Thread nD τ), sm) = Finset.range 101 := if_pos rfl

theorem away_lvl {x : Duty} (h : x ∈ Duty.aways) : 1 ≤ x.lvl ∧ x.lvl ≤ 100 := by
  rw [Duty.mem_aways] at h
  cases x <;> simp only [Duty.away, Duty.live, Duty.lvl] at h ⊢
  case cred d j => omega
  case rcv σ k => have := Duty.len_le σ; omega
  all_goals omega

theorem mayWait (c : Dev nD) (sm : SemLoc sig) (n : ℕ) (S : Finset Duty) (hS : S ⊆ Duty.aways) (hn : n ≤ 100) (h : ∀ x ∈ S, n < x.lvl) :
    (levAts L lv : sProp 𝕄) ⊢ MayWait (c : Thread nD τ) sm n (debt c S) :=
  MayOwe.of_cut (L := L) (lev := lv) n
    (fun p hp => by rw [Finset.mem_singleton.mp hp, L_tc]; exact Finset.mem_range.mpr (by show n < 101; omega))
    (fun g u hg => by
      obtain ⟨x, hx, rfl, rfl⟩ := debt_pos hg
      rw [L_tc]
      have := away_lvl (hS hx)
      exact Finset.mem_range.mpr (by omega))
    (fun p hp => by rw [Finset.mem_singleton.mp hp]; exact le_refl n)
    (fun g u hg => by
      obtain ⟨x, hx, rfl, rfl⟩ := debt_pos hg
      exact h x hx)

/-- Device `c` still owes the increments `S`. -/
def OW (c : Dev nD) (S : Finset Duty) : sProp 𝕄 := iprop(⌜S ⊆ Duty.aways⌝ ∗ ∃ W, owes (c : Thread nD τ) (debt c S) W)

/-! ## The invariants -/

variable (κ : GSem nD τ sig → ℕ) (ιs : Key → ℕ)

/-- All semaphores' and places' invariants, that every semaphore has reached round 0, and the order of waiting. -/
def Invs : sProp 𝕄 :=
  iprop(bigSep (Finset.univ : Finset (Dev nD)) (fun c => bigSep Duty.all (fun x => iprop(cellInv ER (Rd X T) (κ (cell c x)) (cell c x) ∗ reached ER (cell c x) 0)))
    ∗ bigSep keys (fun k => slotInv ES (ιs k) k (spot k))
    ∗ levAts L lv)

instance Invs_persistent : BI.Persistent (Invs X T κ ιs) := by unfold Invs; infer_instance

theorem elim_at {I : Type} [DecidableEq I] {s : Finset I} {i : I} (hi : i ∈ s) (Φ : I → sProp 𝕄) : bigSep s Φ ⊢ Φ i := bigSep_elim hi

theorem Invs_at (c : Dev nD) (x : Duty) (hx : x.live) :
    bigSep (Finset.univ : Finset (Dev nD)) (fun c => bigSep Duty.all (fun x => iprop(cellInv ER (Rd X T) (κ (cell c x)) (cell c x) ∗ reached ER (cell c x) 0)))
      ⊢ iprop(cellInv ER (Rd X T) (κ (cell c x)) (cell c x) ∗ reached ER (cell c x) 0) :=
  (bigSep_elim (Finset.mem_univ c)).trans (bigSep_elim (Duty.mem_all x hx))

theorem Invs_cell (c : Dev nD) {x : Duty} (hx : x.live) : Invs X T κ ιs ⊢ cellInv ER (Rd X T) (κ (cell c x)) (cell c x) := by
  unfold Invs
  iintro ⟨H, -, -⟩
  ihave H := (Invs_at X T κ c x hx) $$ H
  icases H with ⟨H, -⟩
  iexact H

theorem Invs_reached (c : Dev nD) {x : Duty} (hx : x.live) : Invs X T κ ιs ⊢ reached ER (cell c x) 0 := by
  unfold Invs
  iintro ⟨H, -, -⟩
  ihave H := (Invs_at X T κ c x hx) $$ H
  icases H with ⟨-, H⟩
  iexact H

theorem Invs_slot {k : Key} (hk : k ∈ keys) : Invs X T κ ιs ⊢ slotInv ES (ιs k) k (spot k) := by
  unfold Invs
  iintro ⟨-, H, -⟩
  iapply (elim_at hk (fun k => slotInv ES (ιs k) k (spot (F := F) k)))
  iexact H

theorem Invs_wait (c : Dev nD) (sm : SemLoc sig) (n : ℕ) (S : Finset Duty) (hS : S ⊆ Duty.aways) (hn : n ≤ 100) (h : ∀ x ∈ S, n < x.lvl) :
    Invs X T κ ιs ⊢ MayWait (c : Thread nD τ) sm n (debt c S) := by
  unfold Invs
  iintro ⟨-, -, H⟩
  iapply (mayWait c sm n S hS hn h)
  iexact H

end Cert.Ring

end
-- ==== Proof.Ops.lean ====
/-
# The operations on semaphores and the copies, one by one
-/
module

public import proofs.«01_k».proof.Proof.Proto

@[expose] public section

set_option backward.proofsInPublic true

noncomputable section

namespace Cert.Ring

open Cert.KernelIdeal Cert.KernelIdeal.Given
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

def 𝒱₀ : Variants := Variants.none

/-- Running a program of device `c`'s TensorCore ends with `Q`. -/
abbrev Run {α : Type} (c : Dev nD) (p : TProg F α) (Q : α → sProp 𝕄) : sProp 𝕄 :=
  wp frame (wpE (defs₀ (F := F)) 𝒱₀ (c : Thread nD τ) none) Set.univ p Q

/-- A step whose effect is known, then the rest. -/
theorem run_step {α β : Type} {c : Dev nD} {p : TProg F α} {f : α → TProg F β} {P : sProp 𝕄} {Q : α → sProp 𝕄} {Q' : β → sProp 𝕄}
    (hp : P ⊢ Run c p Q) : P ⊢ iprop((∀ a, Q a -∗ Run c (f a) Q') -∗ Run c (p >>= f) Q') := by
  iintro HP Hk
  iapply (Entails.of_eq (wp_bind ..).symm)
  iapply (wp_wand_r)
  isplitl [HP]
  · iapply hp; iexact HP
  · iexact Hk

/-- The last step. -/
theorem run_last {α : Type} {c : Dev nD} {p : TProg F α} {P : sProp 𝕄} {Q Q' : α → sProp 𝕄}
    (hp : P ⊢ Run c p Q) : P ⊢ iprop((∀ a, Q a -∗ Q' a) -∗ Run c p Q') := by
  iintro HP Hk
  iapply (wp_wand_r)
  isplitl [HP]
  · iapply hp; iexact HP
  · iexact Hk

theorem run_pure {α : Type} {c : Dev nD} (a : α) {Q : α → sProp 𝕄} : Q a ⊢ Run c (pure a) Q := by
  exact fupd_intro.trans (Entails.of_eq (wp_pure ..).symm)

section Ops

variable (X : Dev nD → Vec F S128x4096 .f32) (T : Dev nD → F .f32) (κ : GSem nD τ sig → ℕ) (ιs : Key → ℕ)

theorem sem_reached (c : Dev nD) {x : Duty} (hx : x.live) (h0 : x.rnd = 0) : Invs X T κ ιs ⊢ reached ER (cell c x) x.rnd := by
  rw [h0]; exact Invs_reached X T κ ιs c hx

/-- A signal to another device's semaphore. -/
theorem give_run (c : Dev nD) (x : Duty) (hx : x.live) (h0 : x.rnd = 0) (sem : Sem sig) (hs : x.sem = .reg sem) (k : ℕ) (hk : x.amt = k)
    {S : Finset Duty} (hS : x ∈ S) :
    iprop(Invs X T κ ιs ∗ OW c S ∗ dutyTok ER (cell (x.peer c) x) 0 x ∗ pay X T (x.peer c) x)
      ⊢ Run c (Prog.lift (.semSignal (x.peer c : Thread nD τ) sem k)) (fun _ => OW c (S.erase x)) := by
  have hc := Invs_cell X T κ ιs (x.peer c) hx
  have hr := Invs_reached X T κ ιs (x.peer c) hx
  have hm : x ∈ (Rd X T).duties (cell (x.peer c) x) 0 := by
    have := x.mem_own hx
    rw [h0] at this
    exact this
  rw [show pay X T (x.peer c) x = (Rd X T).payload (cell (x.peer c) x) 0 x from rfl]
  unfold cell OW at *
  rw [hs] at hc hr hm ⊢
  iintro ⟨#HI, HO, Ht, HP⟩
  icases HO with ⟨%hsub, %W, HO⟩
  ihave #Hc := hc $$ HI
  ihave #Hr := hr $$ HI
  iapply (Rounds.wp_signal 𝒱₀ ER (Rd X T) (c : Thread nD τ) none (dst := (x.peer c : Thread nD τ)) (κ := κ ((x.peer c : Thread nD τ), .reg sem)) (d := x) hm hk
    x.lvl (O₀ := debt c S) (debt c (S.erase x)) (by rw [debt_erase c hS]; unfold cell; rw [hs, hk])) $$ [Hc HO Ht HP Hr]
  · isplitr; · iexact Hc
    isplitl [HO]; · iexact HO
    isplitl [Ht]; · iexact Ht
    isplitl [HP]; · iexact HP
    iexact Hr
  iintro HO
  iapply (run_pure)
  isplitr
  · ipureintro; exact (Finset.erase_subset _ _).trans hsub
  iexists W
  iexact HO

/-- A wait for the one increment of a round. -/
theorem take_run (c : Dev nD) (x : Duty) (hx : x.live) (hd : dutiesAt x.sem x.rnd = {x}) (w : TpuEff nD τ sig (Elt F) Λ₀ .tc PUnit)
    (hw : ∀ K : PUnit → sProp 𝕄, wpE (defs₀ (F := F)) 𝒱₀ (c : Thread nD τ) none Set.univ w K = waitSpec (c : Thread nD τ) Set.univ x.sem x.amt K)
    (hl : x.lvl ≤ 100) {S : Finset Duty} (hS : ∀ y ∈ S, x.lvl < y.lvl) :
    iprop(Invs X T κ ιs ∗ OW c S ∗ cred (tallyAt (cell c x) x.lvl x.amt) ∗ atPos ER (cell c x) x.rnd ∅ 0)
      ⊢ Run c (Prog.lift w) (fun _ => iprop(OW c S ∗ atPos ER (cell c x) (x.rnd + 1) ∅ 0 ∗ reached ER (cell c x) (x.rnd + 1) ∗ pay X T c x)) := by
  iintro ⟨#HI, HO, Hc, Hp⟩
  unfold OW
  icases HO with ⟨%hsub, %W, HO⟩
  ihave #Hi := (Invs_cell X T κ ιs c hx) $$ HI
  ihave #Hw := (Invs_wait X T κ ιs c x.sem x.lvl S hsub hl hS) $$ HI
  have hd' : (Rd X T).duties (cell c x) x.rnd = {x} := hd
  have he : (0 : ℕ) + x.amt = (Rd X T).expect (cell c x) x.rnd := by
    unfold Schedule.expect Schedule.amountOf
    rw [hd', Finset.sum_singleton]
    exact Nat.zero_add _
  iapply (Rounds.wp_wait_rest_token 𝒱₀ ER (Rd X T) (c : Thread nD τ) none (κ := κ (cell c x)) hw (Set.mem_univ _) x.lvl (O := debt c S) (W := W) (R := x.rnd) (m := 0) (T := ∅) he)
    $$ [HO Hc Hp]
  · isplitr; · iexact Hi
    isplitl [Hc]; · iexact Hc
    isplitl [HO]; · iexact HO
    isplitr; · iexact Hw
    iexact Hp
  iintro ⟨HO, Hp, Hr, HP⟩
  iapply (run_pure)
  isplitl [HO]
  · isplitr
    · ipureintro; exact hsub
    iexists _
    iexact HO
  isplitl [Hp]; · iexact Hp
  isplitl [Hr]; · iexact Hr
  iapply (Entails.of_eq (show bigSep ((Rd X T).duties (cell c x) x.rnd \ ∅) (fun d => (Rd X T).payload (cell c x) x.rnd d) = pay X T c x by
    rw [Finset.sdiff_empty, hd', bigSep_singleton]; rfl))
  iexact HP

theorem snd_live {σ : Strm} {h : ℕ} (hh : h < σ.len) : (Duty.snd σ h).live := hh
theorem rcv_live {σ : Strm} {h : ℕ} (hh : h < σ.len) : (Duty.rcv σ h).live := hh

theorem spot_land (e : Dev nD) (σ : Strm) (h : ℕ) :
    (spot (F := F) (land e σ h) : sProp 𝕄) = slot ((half σ (h + 1)).view.loc (e : Thread nD τ)) (half σ (h + 1)).view.set := by
  unfold land spot
  simp only
  rw [half_mod]

theorem hop_credit (σ : Strm) (s : ℕ) : (half σ s).view.dmaCredit = Duty.hopN := rfl

/-- The start of a hop to a device named. -/
def startTo (e : Dev nD) (σ : Strm) (h : ℕ) : TProg F PUnit :=
  Prog.lift (.enqueueDma (half σ h) (.remote (Dev.tc e) (half σ (h + 1)) (.dma (sndSem σ h)))
    (.dma (rcvSem σ (h + 1))) (half_words σ h) (half_words σ (h + 1)) ⟨⟨rfl, Or.inl rfl⟩, trivial⟩)

theorem startHop_to (σ : Strm) (c : Dev nD) (h : ℕ) (e : Dev nD) (he : tgt σ c h = e) : startHop (F := F) σ c h = startTo e σ h := by
  subst he; rfl

/-- A wait for a hop's copy. -/
theorem hop_wait (c : Dev nD) (σ : Strm) (s s' : ℕ) (sm : DmaSem sig) (K : PUnit → sProp 𝕄) :
    wpE (defs₀ (F := F)) 𝒱₀ (c : Thread nD τ) none Set.univ (.waitDma2 sm (half σ s') (half σ s) (half_words σ s') (half_words σ s)) K
      = waitSpec (c : Thread nD τ) Set.univ (.dma sm) Duty.hopN K := by
  rw [wpE_waitDma2_eq, hop_credit]

theorem own_mem (e : Dev nD) (x : Duty) (hx : x.live) : x ∈ (Rd X T).duties (cell e x) x.rnd := Duty.mem_own x hx

theorem landed_pay (c : Dev nD) (σ : Strm) (h : ℕ) (fd : Buf (Elt F) ((half σ (h + 1)).view.loc (nb σ.left c : Thread nD τ))) :
    iprop(((half σ (h + 1)).view.loc (nb σ.left c : Thread nD τ) ↦[(half σ (h + 1)).view.set]{fullShare}
        ((half σ (h + 1)).view.write (Elt F) fd ((half σ h).view.read (Elt F) (chunkF c σ h (X (src σ.left h c)))) Finset.univ)) ∗ entered (src σ.left h c))
      ⊢ iprop(chunk X (nb σ.left c) σ (h + 1) fullShare ∗ entered (src σ.left (h + 1) (nb σ.left c))) := by
  have e : src σ.left (h + 1) (nb σ.left c) = src σ.left h c := congrArg (src σ.left h) (Equiv.symm_apply_apply _ _)
  unfold chunk
  rw [e]
  exact sep_mono_left (Entails.of_eq (pointsTo_congr (landed_eq σ h (h + 1) _ fd)))

/-- Start a hop. -/
theorem start_run (c : Dev nD) (σ : Strm) (h : ℕ) (hh : h < σ.len) {S : Finset Duty} (hS : Duty.rcv σ h ∈ S) :
    iprop(Invs X T κ ιs ∗ chunk X c σ h fullShare.left ∗ writeTok ES (land (nb σ.left c) σ h) (h / 4 + 1) ∗ freeFor (nb σ.left c) σ h
        ∗ entered (src σ.left h c) ∗ OW c S ∗ dutyTok ER (cell c (.snd σ h)) (h / 4) (.snd σ h) ∗ reached ER (cell c (.snd σ h)) (h / 4)
        ∗ dutyTok ER (cell (nb σ.left c) (.rcv σ h)) (h / 4) (.rcv σ h))
      ⊢ Run c (startHop σ c h) (fun _ => iprop(OW c (S.erase (.rcv σ h)) ∗ cred (tallyAt (cell c (.snd σ h)) 0 Duty.hopN))) := by
  rw [startHop_to σ c h _ (tgt_eq σ c h hh)]
  unfold startTo
  have hd₁ : Duty.snd σ h ∈ (Rd X T).duties (cell c (.snd σ h)) (h / 4) := own_mem X T c (.snd σ h) (snd_live hh)
  have hd₂ : Duty.rcv σ h ∈ (Rd X T).duties (cell (nb σ.left c) (.rcv σ h)) (h / 4) := own_mem X T (nb σ.left c) (.rcv σ h) (rcv_live hh)
  iintro ⟨#HI, Hch, Hw, #Hf, #He, HO, Ht₁, Hr₁, Ht₂⟩
  unfold OW freeFor
  icases HO with ⟨%hsub, %W, HO⟩
  icases Hf with ⟨#Hf, #Hr₂⟩
  ihave #Hc₁ := (Invs_cell X T κ ιs c (snd_live hh)) $$ HI
  ihave #Hc₂ := (Invs_cell X T κ ιs (nb σ.left c) (rcv_live hh)) $$ HI
  ihave #Hs := (Invs_slot X T κ ιs (mem_comm (nb σ.left c) σ (h + 1))) $$ HI
  iapply (fupd_wp)
  imod (slot_take ES (Set.mem_univ _) (h / 4 + 1)) $$ [Hw] with Hd
  · isplitr; · iexact Hs
    isplitr; · iexact Hf
    iexact Hw
  ihave Hd := (Entails.of_eq (spot_land (F := F) (nb σ.left c) σ h)) $$ Hd
  unfold slot
  icases Hd with ⟨%fd, Hd⟩
  imodintro
  unfold chunk
  iapply (Rounds.wp_send_pointsTo_with 𝒱₀ ER (Rd X T) (c : Thread nD τ) none (κ₁ := κ (cell c (.snd σ h))) (κ₂ := κ (cell (nb σ.left c) (.rcv σ h)))
    (r₁ := h / 4) (r₂ := h / 4) (d₁ := .snd σ h) (d₂ := .rcv σ h) (fd := fd) hd₁ hd₂ (2 * h + 3) 0 Duty.hopN (hop_credit σ (h + 1)) rfl rfl (debt c (S.erase (.rcv σ h)))
    (O₀ := debt c S) (debt_erase c hS) (W := W) .rfl (landed_pay X c σ h fd)) $$ [Hch Hd HO Ht₁ Hr₁ Ht₂]
  · isplitr; · iexact Hc₁
    isplitr; · iexact Hc₂
    isplitl [Hch]; · iexact Hch
    isplitl [Hd]
    · isplitl [Hd]; · iexact Hd
      iexact He
    isplitl [HO]; · iexact HO
    isplitl [Ht₁]; · iexact Ht₁
    isplitl [Hr₁]; · iexact Hr₁
    isplitl [Ht₂]; · iexact Ht₂
    iexact Hr₂
  iintro ⟨Hc, HO⟩
  iapply (run_pure)
  isplitl [HO]
  · isplitr
    · ipureintro; exact (Finset.erase_subset _ _).trans hsub
    iexists W
    iexact HO
  iexact Hc

theorem aways_pos {S : Finset Duty} (hS : S ⊆ Duty.aways) : ∀ y ∈ S, 0 < y.lvl := fun y hy => (away_lvl (hS hy)).1

/-- Wait until a hop has left. -/
theorem sent_run (c : Dev nD) (σ : Strm) (h : ℕ) (hh : h < σ.len) {S : Finset Duty} (hS : S ⊆ Duty.aways) :
    iprop(Invs X T κ ιs ∗ OW c S ∗ cred (tallyAt (cell c (.snd σ h)) 0 Duty.hopN) ∗ atPos ER (cell c (.snd σ h)) (h / 4) ∅ 0)
      ⊢ Run c (waitSent σ h) (fun _ => iprop(OW c S ∗ atPos ER (cell c (.snd σ h)) (h / 4 + 1) ∅ 0 ∗ reached ER (cell c (.snd σ h)) (h / 4 + 1)
        ∗ chunk X c σ h fullShare.left)) :=
  take_run X T κ ιs c (.snd σ h) (snd_live hh) (duties_snd σ h hh) _ (hop_wait c σ h (h + 1) _) (Nat.zero_le _) (aways_pos hS)

/-- Wait until a hop has landed. -/
theorem landed_run (c : Dev nD) (σ : Strm) (h : ℕ) (hh : h < σ.len) {S : Finset Duty} (hS : ∀ y ∈ S, 2 * h + 3 < y.lvl) :
    iprop(Invs X T κ ιs ∗ OW c S ∗ cred (tallyAt (cell c (.rcv σ h)) (2 * h + 3) Duty.hopN) ∗ atPos ER (cell c (.rcv σ h)) (h / 4) ∅ 0)
      ⊢ Run c (waitLanded σ h) (fun _ => iprop(OW c S ∗ atPos ER (cell c (.rcv σ h)) (h / 4 + 1) ∅ 0 ∗ reached ER (cell c (.rcv σ h)) (h / 4 + 1)
        ∗ chunk X c σ (h + 1) fullShare ∗ entered (src σ.left (h + 1) c))) :=
  take_run X T κ ιs c (.rcv σ h) (rcv_live hh) (duties_rcv σ h hh) _ (hop_wait c σ (h + 1) h _)
    (by have := Duty.len_le σ; show 2 * h + 3 ≤ 100; omega) hS

/-- Give a credit. -/
theorem credit_run (c : Dev nD) (d : Bool) (j : ℕ) (hj : j < 13) {S : Finset Duty} (hS : Duty.cred d j ∈ S) :
    iprop(Invs X T κ ιs ∗ OW c S ∗ dutyTok ER (cell (nb (!d) c) (.cred d j)) 0 (.cred d j) ∗ bigSep (Finset.range (j + 1)) (fun i => grant d c i))
      ⊢ Run c (giveCredit d c j) (fun _ => OW c (S.erase (.cred d j))) := by
  unfold giveCredit
  rw [tgtC_eq d c j hj]
  have e : pay X T (nb (!d) c) (.cred d j) = bigSep (Finset.range (j + 1)) (fun i => grant d c i) := by
    show bigSep (Finset.range (j + 1)) (fun i => grant d ((nb (!d)).symm (nb (!d) c)) i) = _
    rw [Equiv.symm_apply_apply]
  rw [← e]
  exact give_run X T κ ιs c (.cred d j) hj rfl (credSem d) rfl _ rfl hS

end Ops

end Cert.Ring

end
-- ==== Proof.Strand.lean ====
/-
# One stream's ring of slots

What a device holds for one stream while the hops pass: its places in the rounds of the semaphores, its rights to
write the neighbour's slots, the slots that hold rows. One hop takes the stream from `Head k` through `Mid k` (hop
`k` has left), `After k` (its slot is given back) and `Got (k + 1)` (the next rows are there) to `Head (k + 1)`.
-/
module

public import proofs.«01_k».proof.Proof.Ops
public import Idealize.SL.BI.BigOpNat

@[expose] public section

set_option backward.proofsInPublic true

noncomputable section

namespace Cert.Ring

open Cert.KernelIdeal Cert.KernelIdeal.Given
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## Windows -/

theorem pop (Φ : ℕ → sProp 𝕄) {n m : ℕ} (h : n < m) : bigSep (Finset.Ico n m) Φ ⊢ iprop(Φ n ∗ bigSep (Finset.Ico (n + 1) m) Φ) :=
  Entails.of_eq (bigSep_Ico_succ_bot h Φ)

theorem push (Φ : ℕ → sProp 𝕄) {n m : ℕ} (h : n ≤ m) : iprop(bigSep (Finset.Ico n m) Φ ∗ Φ m) ⊢ bigSep (Finset.Ico n (m + 1)) Φ :=
  sep_comm.trans (Entails.of_eq (bigSep_Ico_succ_top h Φ).symm)

theorem none_left (Φ : ℕ → sProp 𝕄) {n m : ℕ} (h : m ≤ n) : (iprop(emp) : sProp 𝕄) ⊢ bigSep (Finset.Ico n m) Φ := by
  rw [Finset.Ico_eq_empty_of_le h]
  exact Entails.of_eq bigSep_empty.symm

/-! ## The time of each payment -/

/-- A stream's place in the order the hops are started. -/
def Strm.at : Strm → ℕ
  | ⟨false, false⟩ => 0
  | ⟨false, true⟩ => 1
  | ⟨true, true⟩ => 2
  | ⟨true, false⟩ => 3

theorem Strm.at_lt (σ : Strm) : σ.at < 4 := by rcases σ with ⟨l, b⟩; cases l <;> cases b <;> decide
theorem Strm.at_inj : ∀ σ σ' : Strm, σ.at = σ'.at → σ = σ' := by decide

/-- When a device makes an increment, counted along its program. -/
def Duty.time : Duty → ℕ
  | bar d => if d then 0 else 1
  | rcv σ i => 4 + 8 * i + σ.at
  | cred d j => 8 + 8 * j + (if d then 1 else 0)
  | topRcv o => 1000 + o
  | _ => 0

theorem Duty.time_inj {x y : Duty} (hx : x.away) (hy : y.away) (h : x.time = y.time) : x = y := by
  have h4 := Strm.at_lt
  have hl := len_le
  cases x <;> cases y <;> simp only [away, live, time] at hx hy h
  case bar.bar d d' => cases d <;> cases d' <;> simp at h ⊢
  case bar.cred d d' j => cases d <;> cases d' <;> simp at h <;> omega
  case cred.bar d' j d => cases d <;> cases d' <;> simp at h <;> omega
  case bar.rcv d σ i => cases d <;> simp at h <;> omega
  case rcv.bar σ i d => cases d <;> simp at h <;> omega
  case bar.topRcv d o => cases d <;> simp at h <;> omega
  case topRcv.bar o d => cases d <;> simp at h <;> omega
  case cred.cred d j d' j' =>
    have : j = j' := by split at h <;> split at h <;> omega
    subst this
    cases d <;> cases d' <;> simp at h ⊢
  case cred.rcv d j σ i => have := h4 σ; split at h <;> omega
  case rcv.cred σ i d j => have := h4 σ; split at h <;> omega
  case cred.topRcv d j o => split at h <;> omega
  case topRcv.cred o d j => split at h <;> omega
  case rcv.rcv σ i σ' i' =>
    have := h4 σ; have := h4 σ'
    have hi : i = i' := by omega
    subst hi
    rw [Strm.at_inj σ σ' (by omega)]
  case rcv.topRcv σ i o => have := hl σ; have := h4 σ; omega
  case topRcv.rcv o σ i => have := hl σ; have := h4 σ; omega
  case topRcv.topRcv o o' => rw [show o = o' by omega]

/-- The increments still to be made at a time. -/
def Duty.due (t : ℕ) : Finset Duty := Duty.aways.filter (fun x => t ≤ x.time)

theorem Duty.mem_due {t : ℕ} {x : Duty} : x ∈ due t ↔ x.away ∧ t ≤ x.time := by
  unfold due; rw [Finset.mem_filter, mem_aways]

theorem Duty.due_erase {t : ℕ} {x : Duty} (hx : x.away) (ht : x.time = t) : (due t).erase x = due (t + 1) := by
  ext y
  rw [Finset.mem_erase, mem_due, mem_due]
  constructor
  · rintro ⟨hne, hy, h⟩
    refine ⟨hy, ?_⟩
    have : y.time ≠ x.time := fun e => hne (time_inj hy hx e)
    omega
  · rintro ⟨hy, h⟩
    exact ⟨fun e => by subst e; omega, hy, by omega⟩

theorem Duty.due_eq {t t' : ℕ} (h : ∀ x : Duty, x.away → (t ≤ x.time ↔ t' ≤ x.time)) : due t = due t' := by
  ext y
  rw [mem_due, mem_due]
  exact and_congr_right fun hy => h y hy

theorem Duty.due_sub (t : ℕ) : due t ⊆ aways := Finset.filter_subset _ _

/-! ## A stream's holdings -/

section Strand

variable (X : Dev nD → Vec F S128x4096 .f32) (T : Dev nD → F .f32) (κ : GSem nD τ sig → ℕ) (ιs : Key → ℕ) (c : Dev nD) (σ : Strm)

def posS (i : ℕ) : sProp 𝕄 := iprop(atPos ER (cell c (.snd σ i)) (i / 4) ∅ 0 ∗ reached ER (cell c (.snd σ i)) (i / 4))
def posR (i : ℕ) : sProp 𝕄 := iprop(atPos ER (cell c (.rcv σ i)) (i / 4) ∅ 0 ∗ reached ER (cell c (.rcv σ i)) (i / 4))
def rdr (i : ℕ) : sProp 𝕄 := readerAt ES (land c σ i) (i / 4)
def sup (i : ℕ) : sProp 𝕄 :=
  iprop(dutyTok ER (cell c (.snd σ i)) (i / 4) (.snd σ i) ∗ dutyTok ER (cell (nb σ.left c) (.rcv σ i)) (i / 4) (.rcv σ i)
    ∗ writeTok ES (land (nb σ.left c) σ i) (i / 4 + 1))
def supR (i : ℕ) : sProp 𝕄 := cred (tallyAt (cell c (.rcv σ i)) (2 * i + 3) Duty.hopN)

/-- The stream's holdings with `s` hops sent, `r` landed, `f` slots given back, and the hops from `u` on still to start. -/
def Base (s r f u : ℕ) : sProp 𝕄 :=
  iprop(bigSep (Finset.Ico s (s + 4)) (posS c σ) ∗ bigSep (Finset.Ico r (r + 4)) (posR c σ)
    ∗ bigSep (Finset.Ico (min (f + 3) σ.len) (min (f + 3) σ.len + 4)) (rdr c σ)
    ∗ bigSep (Finset.Ico u σ.len) (sup c σ) ∗ bigSep (Finset.Ico r σ.len) (supR c σ)
    ∗ bigSep (Finset.Ico (σ.len - 3) f) (fun i => chunk X c σ i fullShare))

/-- Hop `k` has started. -/
def Head (k : ℕ) : sProp 𝕄 :=
  iprop(Base X c σ k k k (k + 1) ∗ chunk X c σ k fullShare.right
    ∗ (if k < σ.len then cred (tallyAt (cell c (.snd σ k)) 0 Duty.hopN) else chunk X c σ k fullShare.left))

/-- Hop `k` has left. -/
def Mid (k : ℕ) : sProp 𝕄 := iprop(Base X c σ (k + 1) k k (k + 1) ∗ chunk X c σ k fullShare)
/-- Its slot is given back. -/
def After (k : ℕ) : sProp 𝕄 := Base X c σ (k + 1) k (k + 1) (k + 1)
/-- The rows of hop `k - 1` have landed. -/
def Got (k : ℕ) : sProp 𝕄 := iprop(Base X c σ k k k k ∗ chunk X c σ k fullShare)

theorem chunk_halves (k : ℕ) : chunk X c σ k fullShare ⊣⊢ iprop(chunk X c σ k fullShare.left ∗ chunk X c σ k fullShare.right) := by
  unfold chunk
  exact pointsTo_share (PosShare.mem_left_op_right fullShare)

theorem posS_next (k : ℕ) :
    iprop(atPos ER (cell c (.snd σ k)) (k / 4 + 1) ∅ 0 ∗ reached ER (cell c (.snd σ k)) (k / 4 + 1)) ⊢ (posS c σ (k + 4) : sProp 𝕄) := by
  unfold posS cell
  rw [snd_sem_add4, Nat.add_div_right k (by decide)]

theorem posR_next (k : ℕ) :
    iprop(atPos ER (cell c (.rcv σ k)) (k / 4 + 1) ∅ 0 ∗ reached ER (cell c (.rcv σ k)) (k / 4 + 1)) ⊢ (posR c σ (k + 4) : sProp 𝕄) := by
  unfold posR cell
  rw [rcv_sem_add4, Nat.add_div_right k (by decide)]

/-- Wait until hop `k` has left. -/
theorem head_sent (k t : ℕ) (hk : k < σ.len) :
    iprop(Invs X T κ ιs ∗ OW c (Duty.due t) ∗ Head X c σ k) ⊢ Run c (waitSent σ k) (fun _ => iprop(OW c (Duty.due t) ∗ Mid X c σ k)) := by
  unfold Head Mid Base
  rw [if_pos hk]
  iintro ⟨#HI, HO, ⟨HpS, HpR, Hrd, Hsu, HsR, HK⟩, Hc, Hcr⟩
  ihave HpS := (pop (posS c σ) (show k < k + 4 by omega)) $$ HpS
  icases HpS with ⟨Hp, HpS⟩
  unfold posS
  icases Hp with ⟨Hp, -⟩
  iapply (run_last (sent_run X T κ ιs c σ k hk (Duty.due_sub t))) $$ [HO Hcr Hp]
  · isplitr; · iexact HI
    isplitl [HO]; · iexact HO
    isplitl [Hcr]; · iexact Hcr
    iexact Hp
  iintro %_ ⟨HO, Hp, Hr, Hl⟩
  isplitl [HO]; · iexact HO
  isplitr [Hc Hl]
  · isplitl [HpS Hp Hr]
    · iapply (push (posS c σ) (show k + 1 ≤ k + 4 by omega))
      isplitl [HpS]; · iexact HpS
      iapply (posS_next c σ k)
      isplitl [Hp]; · iexact Hp
      iexact Hr
    isplitl [HpR]; · iexact HpR
    isplitl [Hrd]; · iexact Hrd
    isplitl [Hsu]; · iexact Hsu
    isplitl [HsR]; · iexact HsR
    iexact HK
  iapply (chunk_halves X c σ k).2
  isplitl [Hl]; · iexact Hl
  iexact Hc

theorem land_add4 (e : Dev nD) (h : ℕ) : land e σ (h + 4) = land e σ h := by
  show (e, Spot.comm σ ((h + 4 + 1) % 4)) = (e, Spot.comm σ ((h + 1) % 4))
  rw [show (h + 4 + 1) % 4 = (h + 1) % 4 by omega]

theorem land_back (e : Dev nD) (k : ℕ) : land e σ (k + 3) = (e, Spot.comm σ (k % 4)) := by
  show (e, Spot.comm σ ((k + 3 + 1) % 4)) = _
  rw [show (k + 3 + 1) % 4 = k % 4 by omega]

/-- Give a slot back. -/
theorem slot_back (e : Dev nD) (i k : ℕ) (hi : land e σ i = (e, Spot.comm σ (k % 4))) (q : PosShare TreeShare)
    (f : Buf (Elt F) ((half σ k).view.loc (e : Thread nD τ))) :
    iprop(Invs X T κ ιs ∗ rdr e σ i ∗ ((half σ k).view.loc (e : Thread nD τ) ↦[(half σ k).view.set]{fullShare} f))
      ⊢ |={Set.univ}=> iprop(rdr e σ (i + 4) ∗ released ES (land e σ i) (i / 4 + 1) : sProp 𝕄) := by
  have hs : (((half σ k).view.loc (e : Thread nD τ) ↦[(half σ k).view.set]{fullShare} f) : sProp 𝕄) ⊢ spot ((e, Spot.comm σ (k % 4)) : Key) := by
    unfold spot slot
    simp only
    rw [half_mod]
    iintro H
    iexists f
    iexact H
  unfold rdr
  rw [land_add4, Nat.add_div_right i (by decide), hi]
  iintro ⟨#HI, Hr, Hf⟩
  ihave #Hs := (Invs_slot X T κ ιs (mem_comm e σ k)) $$ HI
  iapply (slot_release ES (Set.mem_univ _) (spot_false (F := F) (e, Spot.comm σ (k % 4))) (i / 4))
  isplitr; · iexact Hs
  isplitl [Hr]; · iexact Hr
  iapply hs
  iexact Hf

/-- After hop `k` its slot is given back for hop `k + 3`, if there is one. -/
theorem mid_after (k : ℕ) (hk : k < σ.len) :
    iprop(Invs X T κ ιs ∗ Mid X c σ k) ⊢ |={Set.univ}=> iprop(After X c σ k ∗ freeIf c σ (k + 3) : sProp 𝕄) := by
  unfold Mid After Base freeIf
  by_cases h : k + 3 < σ.len
  · rw [if_pos h, show min (k + 3) σ.len = k + 3 by omega, show min (k + 1 + 3) σ.len = k + 3 + 1 by omega]
    unfold freeFor chunk
    iintro ⟨#HI, ⟨HpS, HpR, Hrd, Hsu, HsR, HK⟩, Hc⟩
    ihave Hrd := (pop (rdr c σ) (show k + 3 < k + 3 + 4 by omega)) $$ Hrd
    icases Hrd with ⟨Hr, Hrd⟩
    imod (slot_back X T κ ιs σ c (k + 3) k (land_back σ c k) fullShare _) $$ [Hr Hc] with ⟨Hr, #Hrel⟩
    · isplitr; · iexact HI
      isplitl [Hr]; · iexact Hr
      iexact Hc
    ihave HpR := (Entails.of_eq (bigSep_Ico_succ_top (show k ≤ k + 3 by omega) (posR c σ))) $$ HpR
    unfold posR
    icases HpR with ⟨⟨Hp, #Hre⟩, HpR⟩
    imodintro
    isplitl
    · isplitl [HpS]; · iexact HpS
      isplitl [HpR Hp]
      · iapply (push (posR c σ) (show k ≤ k + 3 by omega))
        isplitl [HpR]; · iexact HpR
        unfold posR
        isplitl [Hp]; · iexact Hp
        iexact Hre
      isplitl [Hrd Hr]
      · iapply (push (rdr c σ) (show k + 3 + 1 ≤ k + 3 + 4 by omega))
        isplitl [Hrd]; · iexact Hrd
        iexact Hr
      isplitl [Hsu]; · iexact Hsu
      isplitl [HsR]; · iexact HsR
      iapply (none_left (fun i => (half σ i).view.loc (c : Thread nD τ) ↦[(half σ i).view.set]{fullShare} chunkF c σ i (X (src σ.left i c))) (show k + 1 ≤ σ.len - 3 by omega))
      iempintro
    isplitr; · iexact Hrel
    iexact Hre
  · rw [if_neg h, show min (k + 3) σ.len = σ.len by omega, show min (k + 1 + 3) σ.len = σ.len by omega]
    iintro ⟨#HI, ⟨HpS, HpR, Hrd, Hsu, HsR, HK⟩, Hc⟩
    imodintro
    isplitl
    · isplitl [HpS]; · iexact HpS
      isplitl [HpR]; · iexact HpR
      isplitl [Hrd]; · iexact Hrd
      isplitl [Hsu]; · iexact Hsu
      isplitl [HsR]; · iexact HsR
      iapply (push (fun i => chunk X c σ i fullShare) (show σ.len - 3 ≤ k by omega))
      isplitl [HK]; · iexact HK
      iexact Hc
    iempintro

/-- Wait until hop `k` has landed. -/
theorem after_got (k t : ℕ) (hk : k < σ.len) (ht : ∀ y ∈ Duty.due t, 2 * k + 3 < y.lvl) :
    iprop(Invs X T κ ιs ∗ OW c (Duty.due t) ∗ After X c σ k)
      ⊢ Run c (waitLanded σ k) (fun _ => iprop(OW c (Duty.due t) ∗ Got X c σ (k + 1) ∗ entered (src σ.left (k + 1) c))) := by
  unfold After Got Base
  iintro ⟨#HI, HO, HpS, HpR, Hrd, Hsu, HsR, HK⟩
  ihave HpR := (pop (posR c σ) (show k < k + 4 by omega)) $$ HpR
  icases HpR with ⟨Hp, HpR⟩
  ihave HsR := (pop (supR c σ) hk) $$ HsR
  icases HsR with ⟨Hcr, HsR⟩
  unfold posR supR
  icases Hp with ⟨Hp, -⟩
  iapply (run_last (landed_run X T κ ιs c σ k hk ht)) $$ [HO Hcr Hp]
  · isplitr; · iexact HI
    isplitl [HO]; · iexact HO
    isplitl [Hcr]; · iexact Hcr
    iexact Hp
  iintro %_ ⟨HO, Hp, Hr, Hc, He⟩
  isplitl [HO]; · iexact HO
  isplitr [He]
  · isplitr [Hc]
    · isplitl [HpS]; · iexact HpS
      isplitl [HpR Hp Hr]
      · iapply (push (posR c σ) (show k + 1 ≤ k + 4 by omega))
        isplitl [HpR]; · iexact HpR
        iapply (posR_next c σ k)
        isplitl [Hp]; · iexact Hp
        iexact Hr
      isplitl [Hrd]; · iexact Hrd
      isplitl [Hsu]; · iexact Hsu
      isplitl [HsR]; · iexact HsR
      iexact HK
    iexact Hc
  iexact He

/-- Start hop `k`. -/
theorem got_head (k t : ℕ) (hk : k < σ.len) (ht : (Duty.rcv σ k).time = t) :
    iprop(Invs X T κ ιs ∗ OW c (Duty.due t) ∗ Got X c σ k ∗ freeFor (nb σ.left c) σ k ∗ entered (src σ.left k c))
      ⊢ Run c (startHop σ c k) (fun _ => iprop(OW c (Duty.due (t + 1)) ∗ Head X c σ k)) := by
  have ha : (Duty.rcv σ k).away := hk
  rw [← Duty.due_erase ha ht]
  unfold Head Got Base
  rw [if_pos hk]
  iintro ⟨#HI, HO, ⟨⟨HpS, HpR, Hrd, Hsu, HsR, HK⟩, Hc⟩, Hf, He⟩
  ihave Hc := (chunk_halves X c σ k).1 $$ Hc
  icases Hc with ⟨Hl, Hc⟩
  ihave Hsu := (pop (sup c σ) hk) $$ Hsu
  icases Hsu with ⟨Hs, Hsu⟩
  ihave HpS := (pop (posS c σ) (show k < k + 4 by omega)) $$ HpS
  icases HpS with ⟨Hp, HpS⟩
  unfold sup posS
  icases Hs with ⟨Ht1, Ht2, Hw⟩
  icases Hp with ⟨Hp, #Hr⟩
  iapply (run_last (start_run X T κ ιs c σ k hk (Duty.mem_due.mpr ⟨ha, ht.ge⟩))) $$ [HO Hl Hw Hf He Ht1 Ht2]
  · isplitr; · iexact HI
    isplitl [Hl]; · iexact Hl
    isplitl [Hw]; · iexact Hw
    isplitl [Hf]; · iexact Hf
    isplitl [He]; · iexact He
    isplitl [HO]; · iexact HO
    isplitl [Ht1]; · iexact Ht1
    isplitr; · iexact Hr
    iexact Ht2
  iintro %_ ⟨HO, Hcr⟩
  isplitl [HO]; · iexact HO
  isplitr [Hc Hcr]
  · isplitl [HpS Hp]
    · iapply (Entails.of_eq (bigSep_Ico_succ_bot (show k < k + 4 by omega) (posS c σ)).symm)
      unfold posS
      isplitl [Hp]
      · isplitl [Hp]; · iexact Hp
        iexact Hr
      iexact HpS
    isplitl [HpR]; · iexact HpR
    isplitl [Hrd]; · iexact Hrd
    isplitl [Hsu]; · iexact Hsu
    isplitl [HsR]; · iexact HsR
    iexact HK
  isplitl [Hc]; · iexact Hc
  iexact Hcr

/-- A stream with nothing left to start. -/
theorem got_end : Got X c σ σ.len ⊢ Head X c σ σ.len := by
  unfold Head Got Base
  rw [if_neg (lt_irrefl _), Finset.Ico_eq_empty_of_le (le_refl σ.len), Finset.Ico_eq_empty_of_le (show σ.len ≤ σ.len + 1 by omega)]
  iintro ⟨Hb, Hc⟩
  ihave Hc := (chunk_halves X c σ σ.len).1 $$ Hc
  icases Hc with ⟨Hl, Hc⟩
  isplitl [Hb]; · iexact Hb
  isplitl [Hc]; · iexact Hc
  iexact Hl

end Strand

end Cert.Ring

end
-- ==== Proof.Hop.lean ====
/-
# One hop of a direction

A direction's two streams share its credits. The credits a device gives say which of its slots are free; those it
takes say the same of its neighbour's. A credit semaphore is counted, not told apart: after taking `n + 1` of the
thirteen at least one taken is the `n`-th or a later one, and that one says that the slots of hop `n + 3` are free.
-/
module

public import proofs.«01_k».proof.Proof.Strand

@[expose] public section

set_option backward.proofsInPublic true

noncomputable section

namespace Cert.Ring

open Cert.KernelIdeal Cert.KernelIdeal.Given
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

theorem when_do {b : Prop} [Decidable b] (h : b) (p : TProg F PUnit) : when' (decide b) p = p := by
  unfold when'; rw [decide_eq_true h]; rfl
theorem when_not {b : Prop} [Decidable b] (h : ¬b) (p : TProg F PUnit) : when' (decide b) p = pure ⟨⟩ := by
  unfold when'; rw [decide_eq_false h]; rfl

theorem major_left (d : Bool) : (major d).left = d := rfl
theorem minor_left (d : Bool) : (minor d).left = d := rfl
theorem major_len (d : Bool) : (major d).len = 16 := by cases d <;> rfl
theorem minor_len (d : Bool) : (minor d).len = 15 := by cases d <;> rfl

section Hop

variable (X : Dev nD → Vec F S128x4096 .f32) (T : Dev nD → F .f32) (κ : GSem nD τ sig → ℕ) (ιs : Key → ℕ) (c : Dev nD) (d : Bool)

/-- What a credit to device `c` carries. -/
def credPay (c : Dev nD) : Duty → sProp 𝕄
  | .cred d j => bigSep (Finset.range (j + 1)) (fun i => grant d (nb d c) i)
  | _ => iprop(emp)

instance credPay_persistent (c : Dev nD) (x : Duty) : BI.Persistent (credPay (F := F) c x) := by
  cases x <;> unfold credPay <;> infer_instance

theorem pay_cred (j : ℕ) : pay X T c (.cred d j) = credPay c (.cred d j) := by
  show bigSep (Finset.range (j + 1)) (fun i => grant d ((nb (!d)).symm c) i) = bigSep (Finset.range (j + 1)) (fun i => grant d (nb d c) i)
  rw [nb_not, Equiv.symm_symm]

/-- The credits of a direction. -/
abbrev credits : Finset Duty := (Finset.range 13).image (Duty.cred d)

theorem credits_card : (credits d).card = 13 := by
  rw [Finset.card_image_of_injective _ (fun a b h => by injection h), Finset.card_range]

/-- The credits still to be given from the `n`-th on, and what those given have said. -/
def Give (n : ℕ) : sProp 𝕄 :=
  iprop(bigSep (Finset.Ico n 13) (fun j => dutyTok ER (cell (nb (!d) c) (.cred d j)) 0 (.cred d j)) ∗ bigSep (Finset.range n) (fun i => grant d c i))

/-- `n` credits are taken. -/
def Take (n : ℕ) : sProp 𝕄 :=
  iprop(∃ Ts : Finset Duty, ⌜Ts ⊆ credits d ∧ n + (credits d \ Ts).card ≤ 13⌝ ∗ atPos ER (cell c (.cred d 0)) 0 Ts n
    ∗ bigSep (Finset.Ico n 13) (fun j => cred (tallyAt (cell c (.cred d j)) (2 * j + 2) 1)) ∗ bigSep Ts (fun x => credPay c x))

theorem rd_credits : (Rd X T).duties (cell c (.cred d 0)) 0 = credits d := duties_cred d 0

theorem expect_cred : (Rd X T).expect (cell c (.cred d 0)) 0 = 13 := by
  unfold Schedule.expect Schedule.amountOf
  rw [rd_credits]
  have h : ∀ x ∈ credits d, (Rd X T).amount (cell c (.cred d 0)) 0 x = 1 := by
    intro x hx
    obtain ⟨j, _, rfl⟩ := Finset.mem_image.mp hx
    rfl
  rw [Finset.sum_congr rfl h, Finset.sum_const, credits_card]
  rfl

/-- Among the credits taken there is a late one. -/
theorem late {n : ℕ} (hn : n < 13) {S : Finset Duty} (hS : n + 1 + (credits d \ S).card ≤ 13) : ∃ j, n ≤ j ∧ Duty.cred d j ∈ S := by
  by_contra hc
  push Not at hc
  have hsub : (Finset.Ico n 13).image (Duty.cred d) ⊆ credits d \ S := by
    intro x hx
    obtain ⟨j, hj, rfl⟩ := Finset.mem_image.mp hx
    rw [Finset.mem_Ico] at hj
    exact Finset.mem_sdiff.mpr ⟨Finset.mem_image_of_mem _ (Finset.mem_range.mpr hj.2), hc j hj.1⟩
  have := Finset.card_le_card hsub
  rw [Finset.card_image_of_injective _ (fun a b h => by injection h), Nat.card_Ico] at this
  omega

/-- Take the `n`-th credit. -/
theorem take_credit (n t : ℕ) (hn : n < 13) (ht : ∀ y ∈ Duty.due t, 2 * n + 2 < y.lvl) :
    iprop(Invs X T κ ιs ∗ OW c (Duty.due t) ∗ Take c d n)
      ⊢ Run c (takeCredit d) (fun _ => iprop(OW c (Duty.due t) ∗ Take c d (n + 1) ∗ grant d (nb d c) n)) := by
  have he := expect_cred X T c d
  have hpay : ∀ U : Finset Duty, U ⊆ credits d →
      bigSep U (fun x => (Rd X T).payload (cell c (.cred d 0)) 0 x) = bigSep U (fun x => credPay (F := F) c x) := by
    intro U hU
    refine bigSep_congr fun x hx => ?_
    obtain ⟨j, _, rfl⟩ := Finset.mem_image.mp (hU hx)
    exact pay_cred X T c d j
  unfold Take OW
  iintro ⟨#HI, HO, HT⟩
  icases HT with ⟨%Ts, %hTs, Hp, Hcr, #Hpay⟩
  icases HO with ⟨%hsub, %W, HO⟩
  ihave Hcr := (pop (fun j => cred (tallyAt (cell c (.cred d j)) (2 * j + 2) 1)) hn) $$ Hcr
  icases Hcr with ⟨Hc, Hcr⟩
  ihave #Hi := (Invs_cell X T κ ιs c (x := .cred d 0) (show 0 < 13 by decide)) $$ HI
  ihave #Hw := (Invs_wait X T κ ιs c (Duty.cred d 0).sem (2 * n + 2) (Duty.due t) hsub (by omega) ht) $$ HI
  iapply (Rounds.wp_wait 𝒱₀ ER (Rd X T) (c : Thread nD τ) none (κ := κ (cell c (.cred d 0))) (wpE_semWait_eq 𝒱₀ (c : Thread nD τ) none Set.univ)
    (Set.mem_univ _) (cr := Finsupp.single (2 * n + 2) 1) (O := debt c (Duty.due t)) (W := W) {((Duty.cred d 0).sem, 2 * n + 2)} (R := 0) (m := n) (T := Ts)
    (by rw [Util.total_single]; rfl) (image_single_subset (Duty.cred d 0).sem (2 * n + 2) 1)) $$ [HO Hc Hp]
  · isplitr; · iexact Hi
    isplitl [Hc]; · iexact Hc
    isplitl [HO]; · iexact HO
    isplitr; · iexact Hw
    iexact Hp
  iintro %S ⟨%hS, HO, Hp, HP⟩
  have hS2 : S ⊆ credits d := by rw [← rd_credits X T c d]; exact hS.2.1
  have hS3 : n + 1 + (credits d \ S).card ≤ 13 := by
    have h := hS.2.2
    rw [show (Rd X T).expect ((c : Thread nD τ), SemLoc.reg (credSem d)) 0 = 13 from he] at h
    rw [← rd_credits X T c d]
    exact h
  obtain ⟨j, hj, hjS⟩ := late d hn hS3
  have hgr : bigSep S (fun x => credPay (F := F) c x) ⊢ grant d (nb d c) n :=
    (bigSep_elim hjS).trans (bigSep_elim (show n ∈ Finset.range (j + 1) from Finset.mem_range.mpr (by omega)))
  have hall : iprop(bigSep Ts (fun x => credPay (F := F) c x) ∗ bigSep (S \ Ts) (fun x => credPay c x)) ⊢ bigSep S (fun x => credPay c x) :=
    (Entails.of_eq (by rw [show S = Ts ∪ (S \ Ts) from (Finset.union_sdiff_of_subset hS.1).symm, bigSep_union Finset.disjoint_sdiff]; rw [← show S = Ts ∪ (S \ Ts) from (Finset.union_sdiff_of_subset hS.1).symm]; rfl))
  ihave HP := (Entails.of_eq (show bigSep (S \ Ts) (fun x => (Rd X T).payload ((c : Thread nD τ), SemLoc.reg (credSem d)) 0 x) = _ from hpay (S \ Ts) (Finset.sdiff_subset.trans hS2))) $$ HP
  icases HP with #HP
  ihave #Hall := hall $$ [HP Hpay]
  · isplitr; · iexact Hpay
    iexact HP
  ihave #Hg := hgr $$ Hall
  iapply (run_pure)
  isplitl [HO]
  · isplitr
    · ipureintro; exact hsub
    iexists _
    iexact HO
  isplitl
  · iexists S
    isplitr
    · ipureintro; exact ⟨hS2, hS3⟩
    isplitl [Hp]; · iexact Hp
    isplitl [Hcr]; · iexact Hcr
    iexact Hall
  iexact Hg

/-- What a direction's two streams say of hop `k`. -/
theorem free_pair (e : Dev nD) (k : ℕ) :
    iprop(freeIf (F := F) e (major d) k ∗ freeIf e (minor d) k) ⊢ iprop(freeIf e ⟨d, false⟩ k ∗ freeIf e ⟨d, true⟩ k) := by
  cases d
  · exact .rfl
  · exact sep_comm

theorem pair_free (e : Dev nD) (k : ℕ) :
    iprop(freeIf (F := F) e ⟨d, false⟩ k ∗ freeIf e ⟨d, true⟩ k) ⊢ iprop(freeIf e (major d) k ∗ freeIf e (minor d) k) := by
  cases d
  · exact .rfl
  · exact sep_comm

/-- The first part of a hop. -/
theorem sent_dir (h t : ℕ) (hh : h < 15) (ht : t = 8 + 8 * h + (if d then 1 else 0)) :
    iprop(Invs X T κ ιs ∗ OW c (Duty.due t) ∗ Head X c (major d) h ∗ Head X c (minor d) h ∗ Give c d (min h 13))
      ⊢ Run c (sentDir d c h) (fun _ => iprop(OW c (Duty.due (t + 1)) ∗ After X c (major d) h ∗ After X c (minor d) h ∗ Give c d (min (h + 1) 13))) := by
  unfold sentDir
  rw [when_do hh]
  iintro ⟨#HI, HO, HA, HB, HG⟩
  iapply (run_step (head_sent X T κ ιs c (major d) h t (by rw [major_len]; omega))) $$ [HO HA]
  · isplitr; · iexact HI
    isplitl [HO]; · iexact HO
    iexact HA
  iintro %_ ⟨HO, HA⟩
  iapply (run_step (head_sent X T κ ιs c (minor d) h t (by rw [minor_len]; omega))) $$ [HO HB]
  · isplitr; · iexact HI
    isplitl [HO]; · iexact HO
    iexact HB
  iintro %_ ⟨HO, HB⟩
  iapply (fupd_wp)
  imod (mid_after X T κ ιs c (major d) h (by rw [major_len]; omega)) $$ [HA] with ⟨HA, #Hf1⟩
  · isplitr; · iexact HI
    iexact HA
  imod (mid_after X T κ ιs c (minor d) h (by rw [minor_len]; omega)) $$ [HB] with ⟨HB, #Hf2⟩
  · isplitr; · iexact HI
    iexact HB
  imodintro
  by_cases h13 : h < 13
  · rw [when_do h13, show min h 13 = h by omega, show min (h + 1) 13 = h + 1 by omega]
    have ha : (Duty.cred d h).away := h13
    have hti : (Duty.cred d h).time = t := ht.symm
    rw [← Duty.due_erase ha hti]
    unfold Give
    icases HG with ⟨Htk, #Hgr⟩
    ihave Htk := (pop (fun j => dutyTok ER (cell (nb (!d) c) (.cred d j)) 0 (.cred d j)) h13) $$ Htk
    icases Htk with ⟨Ht, Htk⟩
    ihave #Hg := (free_pair (F := F) d c (h + 3)) $$ []
    · isplitr; · iexact Hf1
      iexact Hf2
    ihave #Hgr' := (Entails.of_eq (bigSep_range_succ h (fun i => grant (F := F) d c i)).symm) $$ []
    · isplitr
      · unfold grant; iexact Hg
      · iexact Hgr
    iapply (run_last (credit_run X T κ ιs c d h h13 (Duty.mem_due.mpr ⟨ha, hti.ge⟩))) $$ [HO Ht]
    · isplitr; · iexact HI
      isplitl [HO]; · iexact HO
      isplitl [Ht]; · iexact Ht
      iexact Hgr'
    iintro %_ HO
    isplitl [HO]; · iexact HO
    isplitl [HA]; · iexact HA
    isplitl [HB]; · iexact HB
    isplitl [Htk]; · iexact Htk
    iexact Hgr'
  · rw [when_not h13, show min h 13 = 13 by omega, show min (h + 1) 13 = 13 by omega]
    have e : Duty.due t = Duty.due (t + 1) := by
      refine Duty.due_eq fun x hx => ?_
      have := Strm.at_lt
      cases x <;> simp only [Duty.away, Duty.live, Duty.time] at hx ⊢
      case bar b => split <;> omega
      case cred b j => subst ht; split <;> split <;> omega
      case rcv σ i => have := this σ; subst ht; split <;> omega
      case topRcv o => subst ht; split <;> omega
    rw [← e]
    iapply (run_pure)
    isplitl [HO]; · iexact HO
    isplitl [HA]; · iexact HA
    isplitl [HB]; · iexact HB
    iexact HG

/-- The slots that are free for the next hop of a direction, one hop's credit being taken first from the third hop on. -/
def Free (h : ℕ) : sProp 𝕄 := iprop(freeIf (nb d c) (major d) (h + 1) ∗ freeIf (nb d c) (minor d) (h + 1))

instance Free_persistent (h : ℕ) : BI.Persistent (Free (F := F) c d h) := by unfold Free; infer_instance

theorem entered_free (e : Dev nD) (σ : Strm) (h : ℕ) (hh : h < 3) : entered (F := F) e ⊢ freeIf e σ h := by
  unfold entered freeIf
  have hl := Duty.len_ge σ
  rw [if_pos (by omega)]
  iintro ⟨H, -⟩
  ihave H := (elim_at (Finset.mem_univ σ) (fun σ : Strm => bigSep (Finset.range 3) (fun h => freeFor (F := F) e σ h))) $$ H
  iapply (elim_at (Finset.mem_range.mpr hh) (fun h => freeFor (F := F) e σ h))
  iexact H

/-- Take the credit of hop `h`, if it is the time for one. -/
theorem when_take (h t : ℕ) (hh : h < 15) (ht : ∀ y ∈ Duty.due t, 2 * h - 2 < y.lvl) :
    iprop(Invs X T κ ιs ∗ OW c (Duty.due t) ∗ Take c d (h - 2) ∗ entered (nb d c))
      ⊢ Run c (when' (decide (2 ≤ h)) (takeCredit d)) (fun _ => iprop(OW c (Duty.due t) ∗ Take c d (h + 1 - 2) ∗ Free c d h)) := by
  by_cases h2 : 2 ≤ h
  · rw [when_do h2]
    iintro ⟨#HI, HO, HT, -⟩
    iapply (run_last (take_credit X T κ ιs c d (h - 2) t (by omega) (fun y hy => by have := ht y hy; omega))) $$ [HO HT]
    · isplitr; · iexact HI
      isplitl [HO]; · iexact HO
      iexact HT
    iintro %_ ⟨HO, HT, Hg⟩
    isplitl [HO]; · iexact HO
    isplitl [HT]
    · iapply (Entails.of_eq (show Take (F := F) c d (h - 2 + 1) = Take c d (h + 1 - 2) by rw [show h - 2 + 1 = h + 1 - 2 by omega]))
      iexact HT
    unfold Free
    iapply (pair_free (F := F) d (nb d c) (h + 1))
    iapply (Entails.of_eq (show grant (F := F) d (nb d c) (h - 2) = iprop(freeIf (nb d c) ⟨d, false⟩ (h + 1) ∗ freeIf (nb d c) ⟨d, true⟩ (h + 1)) by
      unfold grant; rw [show h - 2 + 3 = h + 1 by omega]))
    iexact Hg
  · rw [when_not h2, show h + 1 - 2 = h - 2 by omega]
    unfold Free
    iintro ⟨#HI, HO, HT, #He⟩
    ihave #H1 := (entered_free (F := F) (nb d c) (major d) (h + 1) (by omega)) $$ He
    ihave #H2 := (entered_free (F := F) (nb d c) (minor d) (h + 1) (by omega)) $$ He
    iapply (run_pure)
    isplitl [HO]; · iexact HO
    isplitl [HT]; · iexact HT
    isplitr; · iexact H1
    iexact H2

theorem due_lvl {t h : ℕ} (hh : h < 16) (ht : 10 + 8 * h ≤ t) : ∀ y ∈ Duty.due t, 2 * h + 3 < y.lvl := by
  intro y hm
  obtain ⟨ha, hy⟩ := Duty.mem_due.mp hm
  clear hm
  have h4 := Strm.at_lt
  have hl := Duty.len_le
  cases y <;> simp only [Duty.away, Duty.live, Duty.time, Duty.lvl] at ha hy ⊢
  case bar b => split at hy <;> omega
  case cred b j => split at hy <;> omega
  case rcv σ i => have := h4 σ; omega
  case topRcv o => omega

/-- The second part of a hop. -/
theorem land_dir (h t : ℕ) (hh : h < 15) (ht : t = 12 + 8 * h + (if d then 2 else 0)) :
    iprop(Invs X T κ ιs ∗ OW c (Duty.due t) ∗ After X c (major d) h ∗ After X c (minor d) h ∗ Take c d (h - 2) ∗ entered (nb d c))
      ⊢ Run c (landDir d c h) (fun _ => iprop(OW c (Duty.due (t + 2)) ∗ Head X c (major d) (h + 1) ∗ Head X c (minor d) (h + 1) ∗ Take c d (h + 1 - 2)
        ∗ entered (src d (h + 1) c))) := by
  have hlv : ∀ t', t ≤ t' → ∀ y ∈ Duty.due t', 2 * h + 3 < y.lvl := fun t' h' => due_lvl (by omega) (by split at ht <;> omega)
  have hA : (Duty.rcv (major d) (h + 1)).time = t := by
    subst ht
    cases d <;> simp only [Duty.time, major, Strm.at] <;> simp <;> omega
  unfold landDir
  rw [when_do hh]
  iintro ⟨#HI, HO, HA, HB, HT, #He⟩
  iapply (run_step (after_got X T κ ιs c (major d) h t (by rw [major_len]; omega) (hlv t (le_refl t)))) $$ [HO HA]
  · isplitr; · iexact HI
    isplitl [HO]; · iexact HO
    iexact HA
  iintro %_ ⟨HO, HA, #Hs⟩
  iapply (run_step (when_take X T κ ιs c d h t hh (fun y hy => by have := hlv t (le_refl t) y hy; omega))) $$ [HO HT]
  · isplitr; · iexact HI
    isplitl [HO]; · iexact HO
    isplitl [HT]; · iexact HT
    iexact He
  iintro %_ ⟨HO, HT, #HF⟩
  unfold Free
  icases HF with ⟨#HF1, #HF2⟩
  iapply (run_step (got_head X T κ ιs c (major d) (h + 1) t (by rw [major_len]; omega) hA)) $$ [HO HA]
  · isplitr; · iexact HI
    isplitl [HO]; · iexact HO
    isplitl [HA]; · iexact HA
    isplitr
    · iapply (Entails.of_eq (show freeIf (F := F) (nb d c) (major d) (h + 1) = freeFor (nb (major d).left c) (major d) (h + 1) from if_pos (by rw [major_len]; omega)))
      iexact HF1
    · iexact Hs
  iintro %_ ⟨HO, HA⟩
  iapply (run_step (after_got X T κ ιs c (minor d) h (t + 1) (by rw [minor_len]; omega) (hlv (t + 1) (by omega)))) $$ [HO HB]
  · isplitr; · iexact HI
    isplitl [HO]; · iexact HO
    iexact HB
  iintro %_ ⟨HO, HB, #Hs'⟩
  by_cases h14 : h < 14
  · rw [when_do h14]
    have hB : (Duty.rcv (minor d) (h + 1)).time = t + 1 := by
      subst ht
      cases d <;> simp only [Duty.time, minor, Bool.not_false, Bool.not_true, Strm.at] <;> simp <;> omega
    iapply (run_last (got_head X T κ ιs c (minor d) (h + 1) (t + 1) (by rw [minor_len]; omega) hB)) $$ [HO HB]
    · isplitr; · iexact HI
      isplitl [HO]; · iexact HO
      isplitl [HB]; · iexact HB
      isplitr
      · iapply (Entails.of_eq (show freeIf (F := F) (nb d c) (minor d) (h + 1) = freeFor (nb (minor d).left c) (minor d) (h + 1) from if_pos (by rw [minor_len]; omega)))
        iexact HF2
      · iexact Hs'
    iintro %_ ⟨HO, HB⟩
    isplitl [HO]; · iexact HO
    isplitl [HA]; · iexact HA
    isplitl [HB]; · iexact HB
    isplitl [HT]; · iexact HT
    iexact Hs
  · rw [when_not h14]
    have e : Duty.due (t + 1) = Duty.due (t + 2) := by
      refine Duty.due_eq fun x hx => ?_
      have h4 := Strm.at_lt
      cases x <;> simp only [Duty.away, Duty.live, Duty.time] at hx ⊢
      case bar b => split <;> omega
      case cred b j => subst ht; split <;> split <;> omega
      case rcv σ i =>
        subst ht
        have h14' : h = 14 := by omega
        subst h14'
        rcases σ with ⟨l, b⟩
        cases l <;> cases b <;> cases d <;> simp [Strm.at, Strm.len] at hx ⊢ <;> omega
      case topRcv o => subst ht; split <;> omega
    rw [← e]
    iapply (run_pure)
    isplitl [HO]; · iexact HO
    isplitl [HA]; · iexact HA
    isplitl [HB]
    · have h15 : h + 1 = (minor d).len := by rw [minor_len]; omega
      rw [h15]
      iapply (got_end X c (minor d))
      iexact HB
    isplitl [HT]; · iexact HT
    iexact Hs

/-- The last hop, first part. -/
theorem sent_last (t : ℕ) :
    iprop(Invs X T κ ιs ∗ OW c (Duty.due t) ∗ Head X c (major d) 15)
      ⊢ Run c (sentDir d c 15) (fun _ => iprop(OW c (Duty.due t) ∗ After X c (major d) 15)) := by
  unfold sentDir
  rw [when_not (by decide : ¬15 < 15), when_not (by decide : ¬15 < 13)]
  iintro ⟨#HI, HO, HA⟩
  iapply (run_step (head_sent X T κ ιs c (major d) 15 t (by rw [major_len]; omega))) $$ [HO HA]
  · isplitr; · iexact HI
    isplitl [HO]; · iexact HO
    iexact HA
  iintro %_ ⟨HO, HA⟩
  iapply (fupd_wp)
  imod (mid_after X T κ ιs c (major d) 15 (by rw [major_len]; omega)) $$ [HA] with ⟨HA, -⟩
  · isplitr; · iexact HI
    iexact HA
  imodintro
  iapply (run_pure)
  isplitl [HO]; · iexact HO
  iexact HA

/-- The last hop, second part. -/
theorem land_last (t : ℕ) (ht : 130 ≤ t) :
    iprop(Invs X T κ ιs ∗ OW c (Duty.due t) ∗ After X c (major d) 15)
      ⊢ Run c (landDir d c 15) (fun _ => iprop(OW c (Duty.due t) ∗ Got X c (major d) 16 ∗ entered (src d 16 c))) := by
  unfold landDir
  rw [when_not (by decide : ¬15 < 15)]
  iintro ⟨#HI, HO, HA⟩
  iapply (run_step (after_got X T κ ιs c (major d) 15 t (by rw [major_len]; omega) (due_lvl (by decide) ht))) $$ [HO HA]
  · isplitr; · iexact HI
    isplitl [HO]; · iexact HO
    iexact HA
  iintro %_ ⟨HO, HA, Hs⟩
  iapply (run_pure)
  isplitl [HO]; · iexact HO
  isplitl [HA]; · iexact HA
  iexact Hs

end Hop

end Cert.Ring

end
-- ==== Proof.Steps.lean ====
/-
# The steps that compute

What the devices compute, and the loads and stores of the body: the rows that lie in a slot are read, multiplied with
the device's columns and written to the result; the largest element so far is kept.
-/
module

public import proofs.«01_k».proof.Proof.Hop

@[expose] public section

set_option backward.proofsInPublic true

noncomputable section

namespace Cert.Ring

open Cert.KernelIdeal Cert.KernelIdeal.Given
open Facts₀ Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## The values -/

section Values

variable (X : Dev nD → Vec F S128x4096 .f32) (W : Dev nD → Vec F S4096x256 .f32)

/-- Device `e`'s rows against device `c`'s columns. -/
def prod (c e : Dev nD) : FVec F S128x256 .f32 := gemm (ownRows (X e)) (ownCols (W c))
/-- Half of device `e`'s rows against device `c`'s columns. -/
def prodHalf (c e : Dev nD) (b : Bool) : FVec F S64x256 .f32 := gemmHalf (unslotHalf (halfOf b (X e))) (ownCols (W c))

/-- The largest element of the products of the first `h` hops. -/
def amaxAt (c : Dev nD) : ℕ → F .f32
  | 0 => Scalar.maximumf (top (prod X W c c)) (Scalar.ofBits .f32 0x00000000#32)
  | h + 1 => Scalar.maximumf (Scalar.maximumf (amaxAt c h) (top (prod X W c (src false (h + 1) c)))) (top (prod X W c (src true (h + 1) c)))

/-- The device whose rows come in halves. -/
abbrev far (c : Dev nD) : Dev nD := src false 16 c

/-- The largest element of the device's result. -/
def amaxEnd (c : Dev nD) : F .f32 :=
  Scalar.maximumf (Scalar.maximumf (amaxAt X W c 15) (topHalf (prodHalf X W c (far c) false))) (topHalf (prodHalf X W c (far c) true))

def row128 (i : S4096x256.Idx) : S128x256.Idx
  | ⟨0, _⟩ => ⟨(i 0 : ℕ) % 128, Nat.mod_lt _ (by decide)⟩
  | ⟨1, _⟩ => i 1

def row64 (i : S4096x256.Idx) : S64x256.Idx
  | ⟨0, _⟩ => ⟨(i 0 : ℕ) % 64, Nat.mod_lt _ (by decide)⟩
  | ⟨1, _⟩ => i 1

/-- The device whose rows a row of the result comes from. -/
def rowDev (i : S4096x256.Idx) : Dev nD := ⟨(i 0 : ℕ) / 128, by have : (i 0 : ℕ) < 4096 := (i 0).isLt; show (i 0 : ℕ) / 128 < 32; omega⟩

/-- The result before the scaling. -/
def outRaw (c : Dev nD) : S4096x256.Idx → Elt F .f32 := fun i =>
  if rowDev i = far c then prodHalf X W c (far c) (decide (64 ≤ (i 0 : ℕ) % 128)) (row64 i) else prod X W c (rowDev i) (row128 i)

/-- The contents are the result's on the half blocks `B`. -/
def Agree (c : Dev nD) (B : ℕ → Prop) (f : S4096x256.Idx → Elt F .f32) : Prop := ∀ i : S4096x256.Idx, B ((i 0 : ℕ) / 64) → f i = outRaw X W c i

end Values

theorem unslot_own (x : Vec F S128x4096 .f32) : unslot (ownSlot x) = ownRows x := by
  unfold unslot ownSlot
  exact shapeCast_shapeCast _ _ _

/-! ## Writing rows of the result -/

theorem mem_rows {r0 n : ℕ} {hoff : ∀ a, (![r0, 0] : Fin 2 → ℕ) a + (![n, 256] : Fin 2 → ℕ) a ≤ S4096x256.size a} {i : S4096x256.Idx} :
    i ∈ (Rect.unit (s := S4096x256) ![r0, 0] ![n, 256] hoff).set ↔ r0 ≤ (i 0 : ℕ) ∧ (i 0 : ℕ) < r0 + n := by
  rw [Rect.mem_set_unit]
  have h1 : (i 1 : ℕ) < 256 := (i 1).isLt
  constructor
  · intro h
    have := h 0
    simpa using this
  · intro h a
    match a with
    | ⟨0, _⟩ => simpa using h
    | ⟨1, _⟩ => exact ⟨Nat.zero_le _, by show (i 1 : ℕ) < 0 + 256; omega⟩

section Out

variable (X : Dev nD → Vec F S128x4096 .f32) (W : Dev nD → Vec F S4096x256 .f32) (c : Dev nD)

/-- A block of rows written. -/
theorem agree_rows {B : ℕ → Prop} {f : S4096x256.Idx → Elt F .f32} (hf : Agree X W c B f) (e : Dev nD) (he : e ≠ far c) (off : Fin 2 → ℕ)
    (hoff : ∀ a, off a + S128x256.size a ≤ S4096x256.size a) (h : off = ![128 * e.val, 0]) :
    Agree X W c (fun b => B b ∨ b / 2 = e.val)
      ((outM.access (Rect.unit (s := S4096x256) off S128x256.size hoff)).write (Elt F) f (prod X W c e) Finset.univ) := by
  subst h
  intro i hi
  by_cases hm : i ∈ (Rect.unit (s := S4096x256) ![128 * e.val, 0] S128x256.size hoff).set
  · refine eq_of_read (outM.access (Rect.unit (s := S4096x256) ![128 * e.val, 0] S128x256.size hoff)) (g := outRaw X W c) ?_ i
      (by rw [show (outM.access (Rect.unit (s := S4096x256) ![128 * e.val, 0] S128x256.size hoff)).set = _ from View.set_slice_whole _ _]; exact hm)
    rw [View.read_write_univ]
    funext j
    have hj : (j 0 : ℕ) < 128 := (j 0).isLt
    have hE0 : ((Rect.unit (s := S4096x256) ![128 * e.val, 0] S128x256.size hoff).emb j 0 : ℕ) = 128 * e.val + 1 * (j 0 : ℕ) := rfl
    have hd : rowDev ((Rect.unit (s := S4096x256) ![128 * e.val, 0] S128x256.size hoff).emb j) = e := by
      apply Fin.ext
      show ((Rect.unit (s := S4096x256) ![128 * e.val, 0] S128x256.size hoff).emb j 0 : ℕ) / 128 = e.val
      rw [hE0]; omega
    have hr : row128 ((Rect.unit (s := S4096x256) ![128 * e.val, 0] S128x256.size hoff).emb j) = j := by
      funext a
      match a with
      | ⟨0, _⟩ =>
        apply Fin.ext
        show ((Rect.unit (s := S4096x256) ![128 * e.val, 0] S128x256.size hoff).emb j 0 : ℕ) % 128 = (j 0 : ℕ)
        rw [hE0]; omega
      | ⟨1, _⟩ =>
        apply Fin.ext
        show 0 + 1 * (j 1 : ℕ) = (j 1 : ℕ)
        omega
    show prod X W c e j = outRaw X W c ((Rect.unit (s := S4096x256) ![128 * e.val, 0] S128x256.size hoff).emb j)
    unfold outRaw
    rw [hd, if_neg he, hr]
  · refine (View.write_of_not_mem (v := outM.access (Rect.unit (s := S4096x256) ![128 * e.val, 0] S128x256.size hoff)) f _ _
      (by rw [View.setOn_univ, show (outM.access (Rect.unit (s := S4096x256) ![128 * e.val, 0] S128x256.size hoff)).set = _ from View.set_slice_whole _ _]; exact hm)).trans ?_
    refine hf i (hi.resolve_right ?_)
    intro hb
    exact hm (mem_rows.mpr (by omega))

/-- A half block of rows written. -/
theorem agree_half {B : ℕ → Prop} {f : S4096x256.Idx → Elt F .f32} (hf : Agree X W c B f) (b : Bool) (off : Fin 2 → ℕ)
    (hoff : ∀ a, off a + S64x256.size a ≤ S4096x256.size a) (h : off = ![128 * (far c).val + row0 b, 0]) :
    Agree X W c (fun k => B k ∨ k = 2 * (far c).val + row0 b / 64)
      ((outM.access (Rect.unit (s := S4096x256) off S64x256.size hoff)).write (Elt F) f (prodHalf X W c (far c) b) Finset.univ) := by
  subst h
  have h64 : row0 b = 64 * (row0 b / 64) ∧ row0 b / 64 < 2 := by cases b <;> decide
  have hb : ∀ n : ℕ, n < 64 → decide (64 ≤ (128 * (far c).val + row0 b + 1 * n) % 128) = b := by
    intro n hn
    cases b
    · rw [decide_eq_false_iff_not, show row0 false = 0 from rfl]; omega
    · rw [decide_eq_true_eq, show row0 true = 64 from rfl]; omega
  intro i hi
  by_cases hm : i ∈ (Rect.unit (s := S4096x256) ![128 * (far c).val + row0 b, 0] S64x256.size hoff).set
  · refine eq_of_read (outM.access (Rect.unit (s := S4096x256) ![128 * (far c).val + row0 b, 0] S64x256.size hoff)) (g := outRaw X W c) ?_ i
      (by rw [show (outM.access (Rect.unit (s := S4096x256) ![128 * (far c).val + row0 b, 0] S64x256.size hoff)).set = _ from View.set_slice_whole _ _]; exact hm)
    rw [View.read_write_univ]
    funext j
    have hj : (j 0 : ℕ) < 64 := (j 0).isLt
    have hE0 : ((Rect.unit (s := S4096x256) ![128 * (far c).val + row0 b, 0] S64x256.size hoff).emb j 0 : ℕ) = 128 * (far c).val + row0 b + 1 * (j 0 : ℕ) := rfl
    have hd : rowDev ((Rect.unit (s := S4096x256) ![128 * (far c).val + row0 b, 0] S64x256.size hoff).emb j) = far c := by
      apply Fin.ext
      show ((Rect.unit (s := S4096x256) ![128 * (far c).val + row0 b, 0] S64x256.size hoff).emb j 0 : ℕ) / 128 = (far c).val
      rw [hE0]; omega
    have hr : row64 ((Rect.unit (s := S4096x256) ![128 * (far c).val + row0 b, 0] S64x256.size hoff).emb j) = j := by
      funext a
      match a with
      | ⟨0, _⟩ =>
        apply Fin.ext
        show ((Rect.unit (s := S4096x256) ![128 * (far c).val + row0 b, 0] S64x256.size hoff).emb j 0 : ℕ) % 64 = (j 0 : ℕ)
        rw [hE0]; omega
      | ⟨1, _⟩ =>
        apply Fin.ext
        show 0 + 1 * (j 1 : ℕ) = (j 1 : ℕ)
        omega
    show prodHalf X W c (far c) b j = outRaw X W c ((Rect.unit (s := S4096x256) ![128 * (far c).val + row0 b, 0] S64x256.size hoff).emb j)
    unfold outRaw
    rw [hd, if_pos rfl, hr, hE0, hb _ hj]
  · refine (View.write_of_not_mem (v := outM.access (Rect.unit (s := S4096x256) ![128 * (far c).val + row0 b, 0] S64x256.size hoff)) f _ _
      (by rw [View.setOn_univ, show (outM.access (Rect.unit (s := S4096x256) ![128 * (far c).val + row0 b, 0] S64x256.size hoff)).set = _ from View.set_slice_whole _ _]; exact hm)).trans ?_
    refine hf i (hi.resolve_right ?_)
    intro hb
    exact hm (mem_rows.mpr (by omega))

/-- The result's buffer, right on the half blocks `B`. -/
def Out (B : ℕ → Prop) : sProp 𝕄 := iprop(∃ f, ⌜Agree X W c B f⌝ ∗ (outM.view.loc (c : Thread nD τ) ↦[Finset.univ]{fullShare} f))

/-- The columns' buffer, filled. -/
def Cols : sProp 𝕄 := colM.view.loc (c : Thread nD τ) ↦[Finset.univ]{fullShare} (ownCols (W c))

theorem zero2 : (![0, 0] : Fin 2 → ℕ) = fun _ => 0 := by funext a; fin_cases a <;> rfl

theorem cols_run : Cols W c ⊢ Run c (loadCols (F := F)) (fun w => iprop(⌜w = ownCols (W c)⌝ ∗ Cols W c)) := by
  unfold Cols loadCols
  iintro H
  iapply (wp_load 𝒱₀ (c : Thread nD τ) none Set.univ (m := colM) (S := Finset.univ) (Finset.subset_univ _)) $$ H
  iintro H
  iapply (run_pure)
  isplitr
  · ipureintro
    exact Memref.readAt_unit_zero (Elt F) cc0_scratch2 zero2 _ _
  iexact H

theorem rows_run {B : ℕ → Prop} (e : Dev nD) (he : e ≠ far c) (off : Fin 2 → ℕ)
    (hoff : ∀ a, off a + S128x256.size a ≤ S4096x256.size a) (h : off = ![128 * e.val, 0]) :
    Out X W c B ⊢ Run c (putRows off hoff (prod X W c e)) (fun _ => Out X W c (fun b => B b ∨ b / 2 = e.val)) := by
  unfold Out putRows
  iintro ⟨%f, %hf, H⟩
  iapply (wp_load 𝒱₀ (c : Thread nD τ) none Set.univ (m := outM) (S := Finset.univ) (Finset.subset_univ _)) $$ H
  iintro H
  iapply (wp_store 𝒱₀ (c : Thread nD τ) none Set.univ (m := outM) (r := Rect.unit (s := S4096x256) off S128x256.size hoff) (S := Finset.univ) (Finset.subset_univ _)) $$ H
  iintro H
  iapply (run_pure)
  iexists _
  isplitr
  · ipureintro
    exact agree_rows X W c hf e he off hoff h
  iexact H

theorem half_run {B : ℕ → Prop} (b : Bool) (off : Fin 2 → ℕ)
    (hoff : ∀ a, off a + S64x256.size a ≤ S4096x256.size a) (h : off = ![128 * (far c).val + row0 b, 0]) :
    Out X W c B ⊢ Run c (putHalf off hoff (prodHalf X W c (far c) b)) (fun _ => Out X W c (fun k => B k ∨ k = 2 * (far c).val + row0 b / 64)) := by
  unfold Out putHalf
  iintro ⟨%f, %hf, H⟩
  iapply (wp_load 𝒱₀ (c : Thread nD τ) none Set.univ (m := outM) (S := Finset.univ) (Finset.subset_univ _)) $$ H
  iintro H
  iapply (wp_store 𝒱₀ (c : Thread nD τ) none Set.univ (m := outM) (r := Rect.unit (s := S4096x256) off S64x256.size hoff) (S := Finset.univ) (Finset.subset_univ _)) $$ H
  iintro H
  iapply (run_pure)
  iexists _
  isplitr
  · ipureintro
    exact agree_half X W c hf b off hoff h
  iexact H

/-! ## A slot, both halves -/

/-- Slot `k` of a direction, holding the rows that hop `k - 1` brings. -/
def rows (d : Bool) (k : ℕ) (q : PosShare TreeShare) : sProp 𝕄 :=
  (comm d).view.loc (c : Thread nD τ) ↦[((comm d).access (chunkRect k)).set]{q} (commF d (X (src d k c)))

theorem acc_disj (d : Bool) (s : ℕ) : Disjoint ((comm d).access (slotRect s false)).set ((comm d).access (slotRect s true)).set := by
  cases d
  · rw [show ((comm false).access (slotRect s false)).set = (slotRect s false).set from View.set_slice_whole _ _,
      show ((comm false).access (slotRect s true)).set = (slotRect s true).set from View.set_slice_whole _ _]
    exact slot_disj s
  · rw [show ((comm true).access (slotRect s false)).set = (slotRect s false).set from View.set_slice_whole _ _,
      show ((comm true).access (slotRect s true)).set = (slotRect s true).set from View.set_slice_whole _ _]
    exact slot_disj s

theorem acc_union (d : Bool) (s : ℕ) :
    ((comm d).access (slotRect s false)).set ∪ ((comm d).access (slotRect s true)).set = ((comm d).access (chunkRect s)).set := by
  cases d
  · rw [show ((comm false).access (slotRect s false)).set = (slotRect s false).set from View.set_slice_whole _ _,
      show ((comm false).access (slotRect s true)).set = (slotRect s true).set from View.set_slice_whole _ _,
      show ((comm false).access (chunkRect s)).set = (chunkRect s).set from View.set_slice_whole _ _]
    exact slot_union s
  · rw [show ((comm true).access (slotRect s false)).set = (slotRect s false).set from View.set_slice_whole _ _,
      show ((comm true).access (slotRect s true)).set = (slotRect s true).set from View.set_slice_whole _ _,
      show ((comm true).access (chunkRect s)).set = (chunkRect s).set from View.set_slice_whole _ _]
    exact slot_union s

theorem chunk_acc (d b : Bool) (k : ℕ) (q : PosShare TreeShare) :
    chunk X c ⟨d, b⟩ k q = ((comm d).view.loc (c : Thread nD τ) ↦[((comm d).access (slotRect k b)).set]{q} (commF d (X (src d k c))) : sProp 𝕄) := by
  unfold chunk
  exact congrArg (fun S => ((comm d).view.loc (c : Thread nD τ) ↦[S]{q} (commF d (X (src d k c))) : sProp 𝕄)) (half_set ⟨d, b⟩ k)

theorem rows_halves (d : Bool) (k : ℕ) (q : PosShare TreeShare) :
    rows X c d k q ⊣⊢ iprop(chunk X c ⟨d, false⟩ k q ∗ chunk X c ⟨d, true⟩ k q) := by
  unfold rows
  rw [chunk_acc, chunk_acc, ← acc_union d k]
  exact pointsTo_union (acc_disj d k)

theorem rows_pair (d : Bool) (k : ℕ) (q : PosShare TreeShare) :
    rows X c d k q ⊣⊢ iprop(chunk X c (major d) k q ∗ chunk X c (minor d) k q) := by
  cases d
  · exact rows_halves X c false k q
  · exact (rows_halves X c true k q).trans ⟨sep_comm.1, sep_comm.1⟩

theorem load_chunk (d : Bool) (k : ℕ) (q : PosShare TreeShare) :
    rows X c d k q ⊢ Run c (loadChunk d k) (fun x => iprop(⌜x = ownSlot (X (src d k c))⌝ ∗ rows X c d k q)) := by
  unfold rows loadChunk
  iintro H
  iapply (wp_load 𝒱₀ (c : Thread nD τ) none Set.univ (m := comm d) (S := ((comm d).access (chunkRect k)).set)
    (by rw [show ((comm d).access (chunkRect k)).set = _ from View.set_slice _ _]; exact subset_rfl)) $$ H
  iintro H
  iapply (run_pure)
  isplitr
  · ipureintro
    exact chunk_readAt d k _
  iexact H

theorem load_half (d b : Bool) (k : ℕ) (q : PosShare TreeShare) (k' : ℕ) (hk : k % 4 = k' % 4) :
    chunk X c ⟨d, b⟩ k q ⊢ Run c (loadHalf d k' b) (fun x => iprop(⌜x = halfOf b (X (src d k c))⌝ ∗ chunk X c ⟨d, b⟩ k q)) := by
  rw [chunk_acc, ← slotRect_mod k, hk, slotRect_mod k']
  unfold loadHalf
  iintro H
  iapply (wp_load 𝒱₀ (c : Thread nD τ) none Set.univ (m := comm d) (S := ((comm d).access (slotRect k' b)).set)
    (by rw [show ((comm d).access (slotRect k' b)).set = _ from View.set_slice _ _]; exact subset_rfl)) $$ H
  iintro H
  iapply (run_pure)
  isplitr
  · ipureintro
    exact half_readAt d k' b _
  iexact H

/-- The product of the chunk that hop `k - 1` brought. -/
theorem chunk_run {B : ℕ → Prop} (d : Bool) (k : ℕ) (q : PosShare TreeShare) (he : src d k c ≠ far c) (off : Fin 2 → ℕ)
    (hoff : ∀ a, off a + S128x256.size a ≤ S4096x256.size a) (h : off = ![128 * (src d k c).val, 0]) (a : F .f32) :
    iprop(rows X c d k q ∗ Cols W c ∗ Out X W c B)
      ⊢ Run c (chunkStep d k off hoff a) (fun a' => iprop(⌜a' = Scalar.maximumf a (top (prod X W c (src d k c)))⌝ ∗ rows X c d k q ∗ Cols W c
          ∗ Out X W c (fun b => B b ∨ b / 2 = (src d k c).val))) := by
  unfold chunkStep
  iintro ⟨HR, HC, HO⟩
  iapply (run_step (load_chunk X c d k q)) $$ HR
  iintro %x ⟨%hx, HR⟩
  iapply (run_step (cols_run W c)) $$ HC
  iintro %w ⟨%hw, HC⟩
  subst hx hw
  rw [unslot_own]
  iapply (run_step (rows_run X W c (src d k c) he off hoff h)) $$ HO
  iintro %_ HO
  iapply (run_pure)
  isplitr
  · ipureintro; rfl
  isplitl [HR]; · iexact HR
  isplitl [HC]; · iexact HC
  iexact HO

/-- The product of half of the farthest chunk. -/
theorem halfStep_run {B : ℕ → Prop} (d b : Bool) (q : PosShare TreeShare) (off : Fin 2 → ℕ)
    (hoff : ∀ a, off a + S64x256.size a ≤ S4096x256.size a) (h : off = ![128 * (far c).val + row0 b, 0]) (a : F .f32) :
    iprop(chunk X c ⟨d, b⟩ 16 q ∗ Cols W c ∗ Out X W c B)
      ⊢ Run c (halfStep d 0 b off hoff a) (fun a' => iprop(⌜a' = Scalar.maximumf a (topHalf (prodHalf X W c (far c) b))⌝ ∗ chunk X c ⟨d, b⟩ 16 q ∗ Cols W c
          ∗ Out X W c (fun k => B k ∨ k = 2 * (far c).val + row0 b / 64))) := by
  unfold halfStep
  have hfar : src d 16 c = far c := by cases d; · rfl
                                       · exact src_far c
  iintro ⟨HR, HC, HO⟩
  iapply (run_step (load_half X c d b 16 q 0 rfl)) $$ HR
  iintro %x ⟨%hx, HR⟩
  iapply (run_step (cols_run W c)) $$ HC
  iintro %w ⟨%hw, HC⟩
  rw [hfar] at hx
  subst hx hw
  iapply (run_step (half_run X W c b off hoff h)) $$ HO
  iintro %_ HO
  iapply (run_pure)
  isplitr
  · ipureintro; rfl
  isplitl [HR]; · iexact HR
  isplitl [HC]; · iexact HC
  iexact HO

/-- The product of the device's own rows. -/
theorem own_run {B : ℕ → Prop} (he : c ≠ far c) :
    iprop(Cols W c ∗ Out X W c B) ⊢ Run c (ownStep c (X c)) (fun a => iprop(⌜a = amaxAt X W c 0⌝ ∗ Cols W c ∗ Out X W c (fun b => B b ∨ b / 2 = c.val))) := by
  unfold ownStep
  iintro ⟨HC, HO⟩
  iapply (run_step (cols_run W c)) $$ HC
  iintro %w ⟨%hw, HC⟩
  subst hw
  iapply (run_step (rows_run X W c c he (k0_off1 c) (k0_off1_inb c) (off1_eq c))) $$ HO
  iintro %_ HO
  iapply (run_pure)
  isplitr
  · ipureintro; rfl
  isplitl [HC]; · iexact HC
  iexact HO

end Out

end Cert.Ring

end
-- ==== Proof.Loop.lean ====
/-
# The hops

The sixteen hops, with the products of the chunks they bring.
-/
module

public import proofs.«01_k».proof.Proof.Steps

@[expose] public section

set_option backward.proofsInPublic true

noncomputable section

namespace Cert.Ring

open Cert.KernelIdeal Cert.KernelIdeal.Given
open Facts₀ Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## Whose rows come when -/

theorem far_ne (d : Bool) (i : ℕ) (hi : i < 16) (c : Dev nD) : src d i c ≠ far c :=
  (by decide +kernel : ∀ (c : Dev nD) (d : Bool) (i : Fin 16), src d i.val c ≠ src false 16 c) c d ⟨i, hi⟩

theorem all_come (c e : Dev nD) : (∃ i : Fin 16, e = src false i.val c ∨ e = src true i.val c) ∨ e = far c :=
  (by decide +kernel : ∀ (c e : Dev nD), (∃ i : Fin 16, e = src false i.val c ∨ e = src true i.val c) ∨ e = src false 16 c) c e

/-- The half blocks of rows done after `h` hops. -/
def Done (c : Dev nD) (h b : ℕ) : Prop := ∃ i, i ≤ h ∧ (b / 2 = (src false i c).val ∨ b / 2 = (src true i c).val)

theorem done_succ {c : Dev nD} {h b : ℕ} (hb : Done c (h + 1) b) : (Done c h b ∨ b / 2 = (src false (h + 1) c).val) ∨ b / 2 = (src true (h + 1) c).val := by
  obtain ⟨i, hi, hb⟩ := hb
  rcases Nat.lt_or_ge h i with h' | h'
  · have : i = h + 1 := by omega
    subst this
    rcases hb with hb | hb
    · exact Or.inl (Or.inr hb)
    · exact Or.inr hb
  · exact Or.inl (Or.inl ⟨i, h', hb⟩)

theorem done_zero {c : Dev nD} {b : ℕ} (hb : Done c 0 b) : b / 2 = c.val := by
  obtain ⟨i, hi, hb⟩ := hb
  have : i = 0 := by omega
  subst this
  exact hb.elim id id

theorem done_all {c : Dev nD} {b : ℕ} (hb : b < 64) :
    (Done c 15 b ∨ b = 2 * (far c).val + row0 false / 64) ∨ b = 2 * (far c).val + row0 true / 64 := by
  rcases all_come c ⟨b / 2, by show b / 2 < 32; omega⟩ with ⟨i, h⟩ | h
  · refine Or.inl (Or.inl ⟨i.val, by have := i.isLt; omega, ?_⟩)
    exact h.imp (congrArg Fin.val) (congrArg Fin.val)
  · have h' : b / 2 = (far c).val := congrArg Fin.val h
    rw [show row0 false / 64 = 0 from rfl, show row0 true / 64 = 1 from rfl]
    omega

section Loop

variable (X : Dev nD → Vec F S128x4096 .f32) (W : Dev nD → Vec F S4096x256 .f32) (T : Dev nD → F .f32) (κ : GSem nD τ sig → ℕ) (ιs : Key → ℕ) (c : Dev nD)

theorem out_mono {B B' : ℕ → Prop} (h : ∀ b, B' b → B b) : Out X W c B ⊢ Out X W c B' := by
  unfold Out
  iintro ⟨%f, %hf, H⟩
  iexists f
  isplitr
  · ipureintro
    exact fun i hi => hf i (h _ hi)
  iexact H

/-- A direction at the start of hop `h`. -/
def Dir (d : Bool) (h : ℕ) : sProp 𝕄 := iprop(Head X c (major d) h ∗ Head X c (minor d) h ∗ Give c d (min h 13) ∗ Take c d (h - 2))

/-- The neighbours have entered. -/
def Near : sProp 𝕄 := iprop(entered (nb false c) ∗ entered (nb true c))
instance Near_persistent : BI.Persistent (Near (F := F) c) := by unfold Near; infer_instance

/-- One of the first fifteen hops. -/
theorem hop_run (h : ℕ) (hh : h < 15) :
    iprop(Invs X T κ ιs ∗ OW c (Duty.due (8 + 8 * h)) ∗ Dir X c false h ∗ Dir X c true h ∗ Near c)
      ⊢ Run c (hopPart c h) (fun _ => iprop(OW c (Duty.due (8 + 8 * (h + 1))) ∗ Dir X c false (h + 1) ∗ Dir X c true (h + 1)
        ∗ entered (src false (h + 1) c) ∗ entered (src true (h + 1) c))) := by
  have e : Duty.due (8 + 8 * h + 1 + 1) = Duty.due (12 + 8 * h) := Duty.due_eq fun x hx => by
    have h4 := Strm.at_lt
    have hl := Duty.len_le
    cases x <;> simp only [Duty.away, Duty.live, Duty.time] at hx ⊢
    case bar b => split <;> omega
    case cred b j => split <;> omega
    case rcv σ i => have := h4 σ; omega
    case topRcv o => omega
  unfold hopPart Dir Near
  iintro ⟨#HI, HO, ⟨HA, HB, HG, HT⟩, ⟨HA', HB', HG', HT'⟩, #HE, #HE'⟩
  iapply (run_step (sent_dir X T κ ιs c false h (8 + 8 * h) hh rfl)) $$ [HO HA HB HG]
  · isplitr; · iexact HI
    isplitl [HO]; · iexact HO
    isplitl [HA]; · iexact HA
    isplitl [HB]; · iexact HB
    iexact HG
  iintro %_ ⟨HO, HA, HB, HG⟩
  iapply (run_step (sent_dir X T κ ιs c true h (8 + 8 * h + 1) hh rfl)) $$ [HO HA' HB' HG']
  · isplitr; · iexact HI
    isplitl [HO]; · iexact HO
    isplitl [HA']; · iexact HA'
    isplitl [HB']; · iexact HB'
    iexact HG'
  iintro %_ ⟨HO, HA', HB', HG'⟩
  rw [e]
  iapply (run_step (land_dir X T κ ιs c false h (12 + 8 * h) hh rfl)) $$ [HO HA HB HT]
  · isplitr; · iexact HI
    isplitl [HO]; · iexact HO
    isplitl [HA]; · iexact HA
    isplitl [HB]; · iexact HB
    isplitl [HT]; · iexact HT
    iexact HE
  iintro %_ ⟨HO, HA, HB, HT, He⟩
  iapply (run_last (land_dir X T κ ιs c true h (12 + 8 * h + 2) hh rfl)) $$ [HO HA' HB' HT']
  · isplitr; · iexact HI
    isplitl [HO]; · iexact HO
    isplitl [HA']; · iexact HA'
    isplitl [HB']; · iexact HB'
    isplitl [HT']; · iexact HT'
    iexact HE'
  iintro %_ ⟨HO, HA', HB', HT', He'⟩
  isplitl [HO]
  · rw [show 12 + 8 * h + 2 + 2 = 8 + 8 * (h + 1) by omega]
    iexact HO
  isplitl [HA HB HG HT]
  · isplitl [HA]; · iexact HA
    isplitl [HB]; · iexact HB
    isplitl [HG]; · iexact HG
    iexact HT
  isplitl [HA' HB' HG' HT']
  · isplitl [HA']; · iexact HA'
    isplitl [HB']; · iexact HB'
    isplitl [HG']; · iexact HG'
    iexact HT'
  isplitl [He]; · iexact He
  iexact He'

/-- The rows that came last, in their slot. -/
theorem dir_rows (d : Bool) (k : ℕ) :
    Dir X c d k ⊢ iprop(rows X c d k fullShare.right ∗ (rows X c d k fullShare.right -∗ Dir X c d k)) := by
  unfold Dir Head
  iintro ⟨⟨HA, HAc, HA'⟩, ⟨HB, HBc, HB'⟩, HG, HT⟩
  isplitl [HAc HBc]
  · iapply (rows_pair X c d k fullShare.right).2
    isplitl [HAc]; · iexact HAc
    iexact HBc
  iintro HR
  ihave HR := (rows_pair X c d k fullShare.right).1 $$ HR
  icases HR with ⟨HAc, HBc⟩
  isplitl [HA HAc HA']
  · isplitl [HA]; · iexact HA
    isplitl [HAc]; · iexact HAc
    iexact HA'
  isplitl [HB HBc HB']
  · isplitl [HB]; · iexact HB
    isplitl [HBc]; · iexact HBc
    iexact HB'
  isplitl [HG]; · iexact HG
  iexact HT

/-- The product of the chunk that came last. -/
theorem dir_chunk {B : ℕ → Prop} (d : Bool) (k : ℕ) (hk : k < 16) (off : Fin 2 → ℕ)
    (hoff : ∀ a, off a + S128x256.size a ≤ S4096x256.size a) (h : off = ![128 * (src d k c).val, 0]) (a : F .f32) :
    iprop(Dir X c d k ∗ Cols W c ∗ Out X W c B)
      ⊢ Run c (chunkStep d k off hoff a) (fun a' => iprop(⌜a' = Scalar.maximumf a (top (prod X W c (src d k c)))⌝ ∗ Dir X c d k ∗ Cols W c
          ∗ Out X W c (fun b => B b ∨ b / 2 = (src d k c).val))) := by
  iintro ⟨HD, HC, HO⟩
  ihave HD := (dir_rows X c d k) $$ HD
  icases HD with ⟨HR, Hk⟩
  iapply (run_last (chunk_run X W c d k fullShare.right (far_ne d k hk c) off hoff h a)) $$ [HR HC HO]
  · isplitl [HR]; · iexact HR
    isplitl [HC]; · iexact HC
    iexact HO
  iintro %a' ⟨%ha, HR, HC, HO⟩
  isplitr; · ipureintro; exact ha
  isplitl [HR Hk]
  · iapply Hk
    iexact HR
  isplitl [HC]; · iexact HC
  iexact HO

/-- The devices whose rows have come have entered. -/
def Seen (h : ℕ) : sProp 𝕄 := bigSep (Finset.range (h + 1)) (fun i => iprop(entered (src false i c) ∗ entered (src true i c)))
instance Seen_persistent (h : ℕ) : BI.Persistent (Seen (F := F) c h) := by unfold Seen; infer_instance

/-- The device at the start of hop `h`. -/
def State (h : ℕ) : sProp 𝕄 :=
  iprop(OW c (Duty.due (8 + 8 * h)) ∗ Dir X c false h ∗ Dir X c true h ∗ Cols W c ∗ Out X W c (Done c h) ∗ Seen c h)

theorem hops_run : ∀ (n h : ℕ) (a : F .f32), h + n = 15 → a = amaxAt X W c h →
    iprop(Invs X T κ ιs ∗ Near c ∗ State X W c h) ⊢ Run c (hops c n h a) (fun a' => iprop(⌜a' = amaxAt X W c 15⌝ ∗ State X W c 15))
  | 0, h, a, hn, ha => by
    have : h = 15 := by omega
    subst this
    unfold hops
    iintro ⟨-, -, H⟩
    iapply (run_pure)
    isplitr; · ipureintro; exact ha
    iexact H
  | n + 1, h, a, hn, ha => by
    have ih := hops_run n (h + 1)
    have hh : h < 15 := by omega
    unfold hops
    iintro ⟨#HI, #HN, H⟩
    unfold State
    icases H with ⟨HO, HA, HB, HC, HU, #HS⟩
    iapply (run_step (hop_run X T κ ιs c h hh)) $$ [HO HA HB]
    · isplitr; · iexact HI
      isplitl [HO]; · iexact HO
      isplitl [HA]; · iexact HA
      isplitl [HB]; · iexact HB
      iexact HN
    iintro %_ ⟨HO, HA, HB, #He, #He'⟩
    iapply (run_step (dir_chunk X W c false (h + 1) (by omega) (outOffR c h) (k0_off2_inb c (fin15 h)) (outOffR_eq c h hh) a)) $$ [HA HC HU]
    · isplitl [HA]; · iexact HA
      isplitl [HC]; · iexact HC
      iexact HU
    iintro %a₁ ⟨%ha₁, HA, HC, HU⟩
    iapply (run_step (dir_chunk X W c true (h + 1) (by omega) (outOffL c h) (k0_off3_inb c (fin15 h)) (outOffL_eq c h hh) a₁)) $$ [HB HC HU]
    · isplitl [HB]; · iexact HB
      isplitl [HC]; · iexact HC
      iexact HU
    iintro %a₂ ⟨%ha₂, HB, HC, HU⟩
    iapply (ih a₂ (by omega) (by rw [ha₂, ha₁, ha]; rfl))
    isplitr; · iexact HI
    isplitr; · iexact HN
    unfold State
    isplitl [HO]; · iexact HO
    isplitl [HA]; · iexact HA
    isplitl [HB]; · iexact HB
    isplitl [HC]; · iexact HC
    isplitl [HU]
    · iapply (out_mono X W c (fun b => done_succ (c := c) (h := h)))
      iexact HU
    unfold Seen
    iapply (Entails.of_eq (bigSep_range_succ (h + 1) (fun i => iprop(entered (F := F) (src false i c) ∗ entered (src true i c)))).symm)
    isplitr
    · isplitr; · iexact He
      iexact He'
    iexact HS

/-- A direction when all its rows have come. -/
def Last (d : Bool) : sProp 𝕄 := iprop(Got X c (major d) 16 ∗ Head X c (minor d) 15 ∗ Give c d 13 ∗ Take c d 13)

/-- The copies of the last hop. -/
theorem hopPart_last :
    iprop(Invs X T κ ιs ∗ OW c (Duty.due 1001) ∗ Head X c (major false) 15 ∗ Head X c (major true) 15)
      ⊢ Run c (hopPart c 15) (fun _ => iprop(OW c (Duty.due 1001) ∗ Got X c (major false) 16 ∗ Got X c (major true) 16 ∗ entered (src false 16 c) ∗ entered (src true 16 c))) := by
  unfold hopPart
  iintro ⟨#HI, HO, HA, HB⟩
  iapply (run_step (sent_last X T κ ιs c false 1001)) $$ [HO HA]
  · isplitr; · iexact HI
    isplitl [HO]; · iexact HO
    iexact HA
  iintro %_ ⟨HO, HA⟩
  iapply (run_step (sent_last X T κ ιs c true 1001)) $$ [HO HB]
  · isplitr; · iexact HI
    isplitl [HO]; · iexact HO
    iexact HB
  iintro %_ ⟨HO, HB⟩
  iapply (run_step (land_last X T κ ιs c false 1001 (by decide))) $$ [HO HA]
  · isplitr; · iexact HI
    isplitl [HO]; · iexact HO
    iexact HA
  iintro %_ ⟨HO, HA, He⟩
  iapply (run_last (land_last X T κ ιs c true 1001 (by decide))) $$ [HO HB]
  · isplitr; · iexact HI
    isplitl [HO]; · iexact HO
    iexact HB
  iintro %_ ⟨HO, HB, He'⟩
  isplitl [HO]; · iexact HO
  isplitl [HA]; · iexact HA
  isplitl [HB]; · iexact HB
  isplitl [He]; · iexact He
  iexact He'

/-- The last hop, with the products of the two halves it brings. -/
theorem lastHop_run :
    iprop(Invs X T κ ιs ∗ State X W c 15)
      ⊢ Run c (lastHop c (amaxAt X W c 15)) (fun a' => iprop(⌜a' = amaxEnd X W c⌝ ∗ OW c (Duty.due 1001) ∗ Last X c false ∗ Last X c true ∗ Cols W c
        ∗ Out X W c (fun b => b < 64) ∗ Seen c 16)) := by
  have e : Duty.due (8 + 8 * 15) = Duty.due 1001 := Duty.due_eq fun x hx => by
    have h4 := Strm.at_lt
    have hl := Duty.len_le
    cases x <;> simp only [Duty.away, Duty.live, Duty.time] at hx ⊢
    case bar b => split <;> omega
    case cred b j => split <;> omega
    case rcv σ i => have := h4 σ; have := hl σ; omega
    case topRcv o => omega
  have h4 : k0_off4 c = ![128 * (far c).val + row0 false, 0] := by rw [off4_eq, show row0 false = 0 from rfl, Nat.add_zero]
  have h5 : k0_off5 c = ![128 * (far c).val + row0 true, 0] := by rw [off5_eq, src_far, show row0 true = 64 from rfl]
  unfold lastHop State Dir
  rw [e]
  iintro ⟨#HI, HO, ⟨HA, HB, HG, HT⟩, ⟨HA', HB', HG', HT'⟩, HC, HU, #HS⟩
  iapply (run_step (hopPart_last X T κ ιs c)) $$ [HO HA HA']
  · isplitr; · iexact HI
    isplitl [HO]; · iexact HO
    isplitl [HA]; · iexact HA
    iexact HA'
  iintro %_ ⟨HO, HA, HA', #He, #He'⟩
  unfold Got
  icases HA with ⟨HA, HAc⟩
  icases HA' with ⟨HA', HAc'⟩
  iapply (run_step (halfStep_run X W c false false fullShare (k0_off4 c) (k0_off4_inb c) h4 (amaxAt X W c 15))) $$ [HAc HC HU]
  · isplitl [HAc]; · iexact HAc
    isplitl [HC]; · iexact HC
    iexact HU
  iintro %a₁ ⟨%ha₁, HAc, HC, HU⟩
  iapply (run_last (halfStep_run X W c true true fullShare (k0_off5 c) (k0_off5_inb c) h5 a₁)) $$ [HAc' HC HU]
  · isplitl [HAc']; · iexact HAc'
    isplitl [HC]; · iexact HC
    iexact HU
  iintro %a₂ ⟨%ha₂, HAc', HC, HU⟩
  isplitr
  · ipureintro
    rw [ha₂, ha₁]; rfl
  isplitl [HO]; · iexact HO
  unfold Last Got
  isplitl [HA HAc HB HG HT]
  · isplitl [HA HAc]
    · isplitl [HA]; · iexact HA
      iexact HAc
    isplitl [HB]; · iexact HB
    isplitl [HG]; · iexact HG
    iexact HT
  isplitl [HA' HAc' HB' HG' HT']
  · isplitl [HA' HAc']
    · isplitl [HA']; · iexact HA'
      iexact HAc'
    isplitl [HB']; · iexact HB'
    isplitl [HG']; · iexact HG'
    iexact HT'
  isplitl [HC]; · iexact HC
  isplitl [HU]
  · iapply (out_mono X W c (fun b hb => done_all (c := c) hb))
    iexact HU
  unfold Seen
  iapply (Entails.of_eq (bigSep_range_succ 16 (fun i => iprop(entered (F := F) (src false i c) ∗ entered (src true i c)))).symm)
  isplitr
  · isplitr; · iexact He
    iexact He'
  iexact HS

/-- Every device has entered. -/
theorem seen_all (e : Dev nD) : Seen (F := F) c 16 ⊢ entered e := by
  have hi : ∃ i, i < 17 ∧ (e = src false i c ∨ e = src true i c) := by
    rcases all_come c e with ⟨i, h⟩ | h
    · exact ⟨i.val, by have := i.isLt; omega, h⟩
    · exact ⟨16, by decide, Or.inl h⟩
  obtain ⟨i, h, he⟩ := hi
  unfold Seen
  iintro H
  ihave H := (elim_at (Finset.mem_range.mpr h) (fun i => iprop(entered (F := F) (src false i c) ∗ entered (src true i c)))) $$ H
  icases H with ⟨H, H'⟩
  rcases he with rfl | rfl
  · iexact H
  · iexact H'

end Loop

end Cert.Ring

end
-- ==== Proof.Tops.lean ====
/-
# The exchange of the maxima, and the scaling
-/
module

public import proofs.«01_k».proof.Proof.Loop

@[expose] public section

set_option backward.proofsInPublic true

noncomputable section

namespace Cert.Ring

open Cert.KernelIdeal Cert.KernelIdeal.Given
open Facts₀ Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

section Tops

variable (X : Dev nD → Vec F S128x4096 .f32) (W : Dev nD → Vec F S4096x256 .f32) (T : Dev nD → F .f32) (κ : GSem nD τ sig → ℕ) (ιs : Key → ℕ) (c : Dev nD)

/-- What the `o`-th copy of the maximum needs. -/
def TopSup (o : ℕ) : sProp 𝕄 :=
  iprop(dutyTok ER (cell c (.topSnd o)) 0 (.topSnd o) ∗ dutyTok ER (cell (shift o c) (.topRcv o)) 0 (.topRcv o) ∗ writeTok ES ((shift o c, .top o) : Key) 1)
/-- What the waits for the `o`-th copies need. -/
def TopPos (o : ℕ) : sProp 𝕄 :=
  iprop(atPos ER (cell c (.topSnd o)) 0 ∅ 0 ∗ atPos ER (cell c (.topRcv o)) 0 ∅ 0 ∗ cred (tallyAt (cell c (.topRcv o)) 100 Duty.topN))
/-- After the waits. -/
def TopDone (o : ℕ) : sProp 𝕄 :=
  iprop(atPos ER (cell c (.topSnd o)) 1 ∅ 0 ∗ atPos ER (cell c (.topRcv o)) 1 ∅ 0 ∗ topOwn T c (tokQ o) ∗ topGot T c o)

theorem top_credit (o : ℕ) : (topSlot o).view.dmaCredit = Duty.topN := rfl

/-- The start of a copy of the maximum to a device named. -/
def startTopTo (e : Dev nD) (o : ℕ) : TProg F PUnit :=
  Prog.lift (.enqueueDma maxM (.remote (Dev.tc e) (topSlot o) (.dma (topSnd o)))
    (.dma (topRcv o)) maxM_words (topSlot_words o) ⟨⟨rfl, Or.inl rfl⟩, trivial⟩)

theorem startTop_to (o : ℕ) (e : Dev nD) (he : tgtAM c o = e) : startTop (F := F) c o = startTopTo e o := by
  subst he; rfl

theorem landedTop_pay (o : ℕ) (ho : o < 32) (fd : Buf (Elt F) ((topSlot o).view.loc (shift o c : Thread nD τ))) :
    ((topSlot o).view.loc (shift o c : Thread nD τ) ↦[(topSlot o).view.set]{fullShare}
        ((topSlot o).view.write (Elt F) fd (maxM.view.read (Elt F) (fun _ => T c)) Finset.univ) : sProp 𝕄)
      ⊢ topGot T (shift o c) o := by
  unfold topGot topGotF
  have h := landedTop_eq T c o fd
  rw [Nat.mod_eq_of_lt ho] at h
  exact Entails.of_eq (pointsTo_congr h)

/-- Start the `o`-th copy of the maximum. -/
theorem startTop_run (o : ℕ) (h1 : 1 ≤ o) (h2 : o < 32) :
    iprop(Invs X T κ ιs ∗ Seen c 16 ∗ OW c (Duty.due (1000 + o)) ∗ topOwn T c (restQ o) ∗ TopSup c o)
      ⊢ Run c (startTop c o) (fun _ => iprop(OW c (Duty.due (1000 + (o + 1))) ∗ topOwn T c (restQ (o + 1)) ∗ cred (tallyAt (cell c (.topSnd o)) 0 Duty.topN))) := by
  have ha : (Duty.topRcv o).away := ⟨h1, h2⟩
  have hl₁ : (Duty.topSnd o).live := ⟨h1, h2⟩
  have hl₂ : (Duty.topRcv o).live := ⟨h1, h2⟩
  have ht : (Duty.topRcv o).time = 1000 + o := rfl
  have hS : Duty.topRcv o ∈ Duty.due (1000 + o) := Duty.mem_due.mpr ⟨ha, le_refl _⟩
  rw [show 1000 + (o + 1) = 1000 + o + 1 by omega, ← Duty.due_erase ha ht, startTop_to c o _ (tgtAM_eq c o h1 h2)]
  unfold startTopTo TopSup
  have hd₁ : Duty.topSnd o ∈ (Rd X T).duties (cell c (.topSnd o)) 0 := own_mem X T c (.topSnd o) hl₁
  have hd₂ : Duty.topRcv o ∈ (Rd X T).duties (cell (shift o c) (.topRcv o)) 0 := own_mem X T (shift o c) (.topRcv o) hl₂
  have hq : topOwn T c (restQ o) ⊣⊢ iprop(topOwn T c (tokQ o) ∗ topOwn T c (restQ (o + 1)) : sProp 𝕄) := by
    unfold topOwn
    exact pointsTo_share (PosShare.mem_left_op_right (restQ o))
  iintro ⟨#HI, #HS, HO, Hq, Ht₁, Ht₂, Hw⟩
  ihave #He := (seen_all (F := F) c (shift o c)) $$ HS
  unfold entered
  icases He with ⟨-, #He⟩
  ihave #Hf := (elim_at (Finset.mem_Ico.mpr ⟨h1, h2⟩) (fun o' => released ES ((shift o c, .top o') : Key) 1)) $$ He
  ihave Hq := hq.1 $$ Hq
  icases Hq with ⟨Hl, Hq⟩
  unfold OW
  icases HO with ⟨%hsub, %W', HO⟩
  ihave #Hc₁ := (Invs_cell X T κ ιs c hl₁) $$ HI
  ihave #Hc₂ := (Invs_cell X T κ ιs (shift o c) hl₂) $$ HI
  ihave #Hr₁ := (Invs_reached X T κ ιs c hl₁) $$ HI
  ihave #Hr₂ := (Invs_reached X T κ ιs (shift o c) hl₂) $$ HI
  ihave #Hs := (Invs_slot X T κ ιs (mem_topKey (shift o c) o h1 h2)) $$ HI
  iapply (fupd_wp)
  imod (slot_take ES (Set.mem_univ _) (0 + 1)) $$ [Hw] with Hd
  · isplitr; · iexact Hs
    isplitr; · iexact Hf
    iexact Hw
  unfold spot slot
  icases Hd with ⟨%fd, Hd⟩
  imodintro
  unfold topOwn
  iapply (Rounds.wp_send_pointsTo_with 𝒱₀ ER (Rd X T) (c : Thread nD τ) none (κ₁ := κ (cell c (.topSnd o))) (κ₂ := κ (cell (shift o c) (.topRcv o)))
    (r₁ := 0) (r₂ := 0) (d₁ := .topSnd o) (d₂ := .topRcv o) (fd := fd) hd₁ hd₂ 100 0 Duty.topN (top_credit o) rfl rfl (debt c ((Duty.due (1000 + o)).erase (.topRcv o)))
    (O₀ := debt c (Duty.due (1000 + o))) (debt_erase c hS) (W := W') (F := iprop(emp)) .rfl ((Entails.of_eq (sep_emp_eq _)).trans (landedTop_pay T c o h2 fd))) $$ [Hl Hd HO Ht₁ Ht₂]
  · isplitr; · iexact Hc₁
    isplitr; · iexact Hc₂
    isplitl [Hl]; · iexact Hl
    isplitl [Hd]
    · isplitl [Hd]; · iexact Hd
      iempintro
    isplitl [HO]; · iexact HO
    isplitl [Ht₁]; · iexact Ht₁
    isplitr; · iexact Hr₁
    isplitl [Ht₂]; · iexact Ht₂
    iexact Hr₂
  iintro ⟨Hc, HO⟩
  iapply (run_pure)
  isplitl [HO]
  · isplitr
    · ipureintro; exact (Finset.erase_subset _ _).trans hsub
    iexists W'
    iexact HO
  isplitl [Hq]; · iexact Hq
  iexact Hc

theorem startTops_run : ∀ (n o : ℕ), o + n = 32 → 1 ≤ o →
    iprop(Invs X T κ ιs ∗ Seen c 16 ∗ OW c (Duty.due (1000 + o)) ∗ topOwn T c (restQ o) ∗ bigSep (Finset.Ico o 32) (TopSup c))
      ⊢ Run c (startTops c n o) (fun _ => iprop(OW c (Duty.due 1032) ∗ topOwn T c (restQ 32)
        ∗ bigSep (Finset.Ico o 32) (fun o => cred (tallyAt (cell c (.topSnd o)) 0 Duty.topN))))
  | 0, o, hn, h1 => by
    have : o = 32 := by omega
    subst this
    unfold startTops
    iintro ⟨-, -, HO, Hq, -⟩
    iapply (run_pure)
    isplitl [HO]; · iexact HO
    isplitl [Hq]; · iexact Hq
    iapply (none_left (fun o => cred (tallyAt (cell c (.topSnd o)) 0 Duty.topN)) (le_refl 32))
    iempintro
  | n + 1, o, hn, h1 => by
    have ih := startTops_run n (o + 1) (by omega) (by omega)
    have h2 : o < 32 := by omega
    unfold startTops
    iintro ⟨#HI, #HS, HO, Hq, Hsu⟩
    ihave Hsu := (pop (TopSup (F := F) c) h2) $$ Hsu
    icases Hsu with ⟨Hs, Hsu⟩
    iapply (run_step (startTop_run X T κ ιs c o h1 h2)) $$ [HO Hq Hs]
    · isplitr; · iexact HI
      isplitr; · iexact HS
      isplitl [HO]; · iexact HO
      isplitl [Hq]; · iexact Hq
      iexact Hs
    iintro %_ ⟨HO, Hq, Hc⟩
    iapply (run_last ih) $$ [HO Hq Hsu]
    · isplitr; · iexact HI
      isplitr; · iexact HS
      isplitl [HO]; · iexact HO
      isplitl [Hq]; · iexact Hq
      iexact Hsu
    iintro %_ ⟨HO, Hq, Hcs⟩
    isplitl [HO]; · iexact HO
    isplitl [Hq]; · iexact Hq
    iapply (Entails.of_eq (bigSep_Ico_succ_bot h2 (fun o => cred (tallyAt (cell c (.topSnd o)) 0 Duty.topN))).symm)
    isplitl [Hc]; · iexact Hc
    iexact Hcs

theorem due_none : ∀ y ∈ Duty.due 1032, 100 < y.lvl := by
  intro y hm
  obtain ⟨ha, hy⟩ := Duty.mem_due.mp hm
  clear hm
  have h4 := Strm.at_lt
  have hl := Duty.len_le
  cases y <;> simp only [Duty.away, Duty.live, Duty.time, Duty.lvl] at ha hy ⊢
  case bar b => split at hy <;> omega
  case cred b j => split at hy <;> omega
  case rcv σ i => have := hl σ; have := h4 σ; omega
  case topRcv o => omega

theorem top_wait (o : ℕ) (K : PUnit → sProp 𝕄) :
    wpE (defs₀ (F := F)) 𝒱₀ (c : Thread nD τ) none Set.univ (.waitDma2 (topSnd o) (topSlot o) maxM (topSlot_words o) maxM_words) K
      = waitSpec (c : Thread nD τ) Set.univ (.dma (topSnd o)) Duty.topN K := by
  rw [wpE_waitDma2_eq]; rfl

theorem top_wait' (o : ℕ) (K : PUnit → sProp 𝕄) :
    wpE (defs₀ (F := F)) 𝒱₀ (c : Thread nD τ) none Set.univ (.waitDma2 (topRcv o) maxM (topSlot o) maxM_words (topSlot_words o)) K
      = waitSpec (c : Thread nD τ) Set.univ (.dma (topRcv o)) Duty.topN K := by
  rw [wpE_waitDma2_eq, top_credit]

/-- Wait for the `o`-th copies. -/
theorem waitTop_run (o : ℕ) (h1 : 1 ≤ o) (h2 : o < 32) :
    iprop(Invs X T κ ιs ∗ OW c (Duty.due 1032) ∗ cred (tallyAt (cell c (.topSnd o)) 0 Duty.topN) ∗ TopPos c o)
      ⊢ Run c (do waitTopSent o; waitTopLanded o) (fun _ => iprop(OW c (Duty.due 1032) ∗ TopDone T c o)) := by
  unfold TopPos TopDone
  iintro ⟨#HI, HO, Hc, Hp, Hp', Hc'⟩
  iapply (run_step (take_run X T κ ιs c (.topSnd o) ⟨h1, h2⟩ (duties_topSnd o ⟨h1, h2⟩) _ (top_wait c o) (Nat.zero_le _) (aways_pos (Duty.due_sub 1032)))) $$ [HO Hc Hp]
  · isplitr; · iexact HI
    isplitl [HO]; · iexact HO
    isplitl [Hc]; · iexact Hc
    iexact Hp
  iintro %_ ⟨HO, Hp, -, HP⟩
  iapply (run_last (take_run X T κ ιs c (.topRcv o) ⟨h1, h2⟩ (duties_topRcv o ⟨h1, h2⟩) _ (top_wait' c o) (le_refl _) due_none)) $$ [HO Hc' Hp']
  · isplitr; · iexact HI
    isplitl [HO]; · iexact HO
    isplitl [Hc']; · iexact Hc'
    iexact Hp'
  iintro %_ ⟨HO, Hp', -, HP'⟩
  isplitl [HO]; · iexact HO
  isplitl [Hp]; · iexact Hp
  isplitl [Hp']; · iexact Hp'
  isplitl [HP]
  · iapply (Entails.of_eq (show pay X T c (.topSnd o) = topOwn T c (tokQ o) from rfl))
    iexact HP
  iapply (Entails.of_eq (show pay X T c (.topRcv o) = topGot T c o from rfl))
  iexact HP'

theorem waitTops_run : ∀ (n o : ℕ), o + n = 32 → 1 ≤ o →
    iprop(Invs X T κ ιs ∗ OW c (Duty.due 1032) ∗ bigSep (Finset.Ico o 32) (fun o => cred (tallyAt (cell c (.topSnd o)) 0 Duty.topN))
        ∗ bigSep (Finset.Ico o 32) (TopPos c))
      ⊢ Run c (waitTops n o) (fun _ => iprop(OW c (Duty.due 1032) ∗ bigSep (Finset.Ico o 32) (TopDone T c)))
  | 0, o, hn, h1 => by
    have : o = 32 := by omega
    subst this
    unfold waitTops
    iintro ⟨-, HO, -, -⟩
    iapply (run_pure)
    isplitl [HO]; · iexact HO
    iapply (none_left (TopDone T c) (le_refl 32))
    iempintro
  | n + 1, o, hn, h1 => by
    have ih := waitTops_run n (o + 1) (by omega) (by omega)
    have h2 : o < 32 := by omega
    unfold waitTops
    rw [show (do waitTopSent (F := F) o; waitTopLanded o; waitTops n (o + 1) : TProg F PUnit) = ((do waitTopSent o; waitTopLanded o) >>= fun _ => waitTops n (o + 1)) from rfl]
    iintro ⟨#HI, HO, Hcs, Hps⟩
    ihave Hcs := (pop (fun o => cred (tallyAt (cell c (.topSnd o)) 0 Duty.topN)) h2) $$ Hcs
    icases Hcs with ⟨Hc, Hcs⟩
    ihave Hps := (pop (TopPos (F := F) c) h2) $$ Hps
    icases Hps with ⟨Hp, Hps⟩
    iapply (run_step (waitTop_run X T κ ιs c o h1 h2)) $$ [HO Hc Hp]
    · isplitr; · iexact HI
      isplitl [HO]; · iexact HO
      isplitl [Hc]; · iexact Hc
      iexact Hp
    iintro %_ ⟨HO, HD⟩
    iapply (run_last ih) $$ [HO Hcs Hps]
    · isplitr; · iexact HI
      isplitl [HO]; · iexact HO
      isplitl [Hcs]; · iexact Hcs
      iexact Hps
    iintro %_ ⟨HO, HDs⟩
    isplitl [HO]; · iexact HO
    iapply (Entails.of_eq (bigSep_Ico_succ_bot h2 (TopDone T c)).symm)
    isplitl [HD]; · iexact HD
    iexact HDs

/-- The shares of the maximum come together again. -/
theorem top_whole : ∀ (n : ℕ), iprop(topOwn T c (restQ n) ∗ bigSep (Finset.range n) (fun o => topOwn T c (tokQ o))) ⊢ (topOwn T c fullShare : sProp 𝕄)
  | 0 => by
    iintro ⟨H, -⟩
    iexact H
  | n + 1 => by
    have ih := top_whole n
    have hq : topOwn T c (restQ n) ⊣⊢ iprop(topOwn T c (tokQ n) ∗ topOwn T c (restQ (n + 1)) : sProp 𝕄) := by
      unfold topOwn
      exact pointsTo_share (PosShare.mem_left_op_right (restQ n))
    rw [bigSep_range_succ]
    iintro ⟨H, H', Hs⟩
    iapply ih
    isplitl [H H']
    · iapply hq.2
      isplitl [H']; · iexact H'
      iexact H
    iexact Hs

/-- Write the maximum. -/
theorem putTop_run (f : Buf (Elt F) (maxM.view.loc (c : Thread nD τ))) :
    (maxM.view.loc (c : Thread nD τ) ↦[Finset.univ]{fullShare} f : sProp 𝕄) ⊢ Run c (putTop (T c)) (fun _ => topOwn T c fullShare) := by
  unfold putTop topOwn
  iintro H
  iapply (wp_load 𝒱₀ (c : Thread nD τ) none Set.univ (m := maxM) (S := Finset.univ) (Finset.subset_univ _)) $$ H
  iintro H
  iapply (wp_store 𝒱₀ (c : Thread nD τ) none Set.univ (m := maxM) (r := Rect.unit (s := S8x128) ![0, 0] S8x128.size inb_S8x128_S8x128_0_0) (S := Finset.univ) (Finset.subset_univ _)) $$ H
  iintro H
  iapply (run_pure)
  iapply (Entails.of_eq (show (maxM.view.loc (c : Thread nD τ) ↦[Finset.univ]{fullShare}
      ((maxM.access (Rect.unit (s := S8x128) ![0, 0] S8x128.size inb_S8x128_S8x128_0_0)).write (Elt F) f (spread (T c)) Finset.univ) : sProp 𝕄)
    = (maxM.view.loc (c : Thread nD τ) ↦[maxM.view.set]{fullShare} (fun _ => T c)) by
      rw [show maxM.view.set = Finset.univ from View.set_whole _,
        show (maxM.access (Rect.unit (s := S8x128) ![0, 0] S8x128.size inb_S8x128_S8x128_0_0)).write (Elt F) f (spread (T c)) Finset.univ = spread (T c) from
          Memref.write_access_unit_zero_univ (Elt F) cc0_scratch3 zero2 _ f (spread (T c)), spread_eq]))
  iexact H

/-- A block of received maxima. -/
abbrev topRect (o : ℕ) : Rect S32x8x128 := Rect.unit (s := S32x8x128) ![o % 32, 0, 0] S1x8x128.size (tops_inb o)

/-- The blocks of received maxima. -/
abbrev topsS (S : Finset ℕ) : Finset S32x8x128.Idx := S.biUnion fun o => (topRect o).set

theorem tops_disj {S : Finset ℕ} (hS : S ⊆ Finset.range 32) : ∀ t ∈ S, ∀ t' ∈ S, t ≠ t' → Disjoint (topRect t).set (topRect t').set := by
  intro t ht t' ht' hne
  have h := Finset.mem_range.mp (hS ht)
  have h' := Finset.mem_range.mp (hS ht')
  rw [Finset.disjoint_left]
  intro i hi hi'
  rw [mem_top] at hi hi'
  omega

theorem topGot_eq (o : ℕ) : topGot T c o = (topsM.view.loc (c : Thread nD τ) ↦[(topRect o).set]{fullShare} topsF T c : sProp 𝕄) := by
  unfold topGot topGotF
  exact congrArg (fun S => (topsM.view.loc (c : Thread nD τ) ↦[S]{fullShare} topsF T c : sProp 𝕄)) (topSlot_set o)

theorem topGot_union : bigSep (Finset.Ico 1 32) (topGot T c) = (topsM.view.loc (c : Thread nD τ) ↦[topsS (Finset.Ico 1 32)]{fullShare} topsF T c : sProp 𝕄) := by
  have h := pointsTo_biUnion (Ix := ℕ) (Name := ℕ) (U := UU) (Lvl := ℕ) (ℓ := topsM.view.loc (c : Thread nD τ)) (q := fullShare) (f := topsF T c)
    (Finset.Ico 1 32) (fun o => (topRect o).set) (tops_disj fun o ho => by rw [Finset.mem_Ico] at ho; exact Finset.mem_range.mpr ho.2)
  exact (bigSep_congr fun o _ => topGot_eq T c o).trans h.symm

/-- The received maxima as they are read. -/
def topsV : Vec F S31x8x128 .f32 :=
  topsM.view.readAt (Elt F) (Rect.unit (s := S32x8x128) ![1, 0, 0] S31x8x128.size inb_S32x8x128_S31x8x128_1_0_0).toLoadRect (topsF T c)

/-- The result on device `c`, from the maxima `T`. -/
def outOf : Vec F S4096x256 .f32 := finish (topAll (T c) (topsV T c)) (outRaw X W c)

theorem tops_sub : topsM.view.setOn (Rect.unit (s := S32x8x128) ![1, 0, 0] S31x8x128.size inb_S32x8x128_S31x8x128_1_0_0).toLoadRect.set ⊆ topsS (Finset.Ico 1 32) := by
  intro i hi
  rw [show topsM.view.setOn (Rect.unit (s := S32x8x128) ![1, 0, 0] S31x8x128.size inb_S32x8x128_S31x8x128_1_0_0).toLoadRect.set
    = (Rect.unit (s := S32x8x128) ![1, 0, 0] S31x8x128.size inb_S32x8x128_S31x8x128_1_0_0).set from
      (View.set_slice topsM.view (Rect.unit (s := S32x8x128) ![1, 0, 0] S31x8x128.size inb_S32x8x128_S31x8x128_1_0_0)).symm.trans
        (View.set_slice_whole cc0_scratch4 _), Rect.mem_set_unit] at hi
  have h := hi 0
  rw [Finset.mem_biUnion]
  have h' : 1 ≤ (i 0 : ℕ) ∧ (i 0 : ℕ) < 32 := by simpa using h
  refine ⟨(i 0 : ℕ), Finset.mem_Ico.mpr h', ?_⟩
  rw [mem_top]
  omega

/-- The scaling. -/
theorem scaleOut_run :
    iprop(bigSep (Finset.Ico 1 32) (topGot T c) ∗ Out X W c (fun b => b < 64))
      ⊢ Run c (scaleOut (T c)) (fun _ => iprop(bigSep (Finset.Ico 1 32) (topGot T c) ∗ (outM.view.loc (c : Thread nD τ) ↦[Finset.univ]{fullShare} outOf X W T c))) := by
  rw [topGot_union]
  unfold scaleOut loadOut Out
  iintro ⟨HT, %f, %hf, H⟩
  have hf' : f = outRaw X W c := funext fun i => hf i (by have : (i 0 : ℕ) < 4096 := (i 0).isLt; omega)
  subst hf'
  iapply (wp_load 𝒱₀ (c : Thread nD τ) none Set.univ (m := topsM) (S := topsS (Finset.Ico 1 32)) tops_sub) $$ HT
  iintro HT
  iapply (wp_load 𝒱₀ (c : Thread nD τ) none Set.univ (m := outM) (S := Finset.univ) (Finset.subset_univ _)) $$ H
  iintro H
  iapply (wp_load 𝒱₀ (c : Thread nD τ) none Set.univ (m := outM) (S := Finset.univ) (Finset.subset_univ _)) $$ H
  iintro H
  iapply (wp_store 𝒱₀ (c : Thread nD τ) none Set.univ (m := outM) (r := Rect.unit (s := S4096x256) ![0, 0] S4096x256.size inb_S4096x256_S4096x256_0_0) (S := Finset.univ) (Finset.subset_univ _)) $$ H
  iintro H
  iapply (run_pure)
  isplitl [HT]; · iexact HT
  iapply (Entails.of_eq (show (outM.view.loc (c : Thread nD τ) ↦[Finset.univ]{fullShare}
      ((outM.access (Rect.unit (s := S4096x256) ![0, 0] S4096x256.size inb_S4096x256_S4096x256_0_0)).write (Elt F) (outRaw X W c)
        (finish (topAll (T c) (topsV T c)) (outM.view.readAt (Elt F) (Rect.unit (s := S4096x256) ![0, 0] S4096x256.size inb_S4096x256_S4096x256_0_0).toLoadRect (outRaw X W c))) Finset.univ) : sProp 𝕄)
    = (outM.view.loc (c : Thread nD τ) ↦[Finset.univ]{fullShare} outOf X W T c) by
      rw [show outM.view.readAt (Elt F) (Rect.unit (s := S4096x256) ![0, 0] S4096x256.size inb_S4096x256_S4096x256_0_0).toLoadRect (outRaw X W c) = outRaw X W c from
          Memref.readAt_unit_zero (Elt F) cc0_stg2_0 zero2 _ _,
        show (outM.access (Rect.unit (s := S4096x256) ![0, 0] S4096x256.size inb_S4096x256_S4096x256_0_0)).write (Elt F) (outRaw X W c)
          (finish (topAll (T c) (topsV T c)) (outRaw X W c)) Finset.univ = _ from
          Memref.write_access_unit_zero_univ (Elt F) cc0_stg2_0 zero2 _ _ _]; rfl))
  iexact H

end Tops

end Cert.Ring

end
-- ==== Proof.Enter.lean ====
/-
# Entering the kernel

The device gives its slots and blocks away, says so to both neighbours, and hears the same from them.
-/
module

public import proofs.«01_k».proof.Proof.Tops
public import Idealize.ShloMosaic.Lib.SparseCore.Launch

@[expose] public section

set_option backward.proofsInPublic true

noncomputable section

namespace Cert.Ring

open Cert.KernelIdeal Cert.KernelIdeal.Given
open Facts₀ Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-- Each part of a collection gives another. -/
theorem bigSep_each {I : Type} {s : Finset I} {Φ Ψ : I → sProp 𝕄} (h : ∀ i ∈ s, Φ i ⊢ Ψ i) : bigSep s Φ ⊢ bigSep s Ψ := bigSep_mono h

/-! ## The slots of the communication buffers -/

section Pieces

variable (c : Dev nD)

/-- The elements of a half of a slot. -/
abbrev acc (d : Bool) (p : Bool × ℕ) : Finset (comm d).view.ty.Idx := ((comm d).access (slotRect p.2 p.1)).set

/-- The halves of the slots. -/
abbrev halves : Finset (Bool × ℕ) := Finset.univ ×ˢ Finset.range 4

theorem acc_apart (d : Bool) : ∀ p ∈ halves, ∀ p' ∈ halves, p ≠ p' → Disjoint (acc d p) (acc d p') := by
  have key : ∀ p ∈ halves, ∀ p' ∈ halves, p ≠ p' → Disjoint (slotRect p.2 p.1).set (slotRect p'.2 p'.1).set := by
    rintro ⟨b, s⟩ hp ⟨b', s'⟩ hp' hne
    simp only [halves, Finset.mem_product, Finset.mem_univ, true_and, Finset.mem_range] at hp hp'
    rw [Finset.disjoint_left]
    intro i h h'
    rw [mem_slot] at h h'
    have hs : s = s' := by omega
    subst hs
    cases b <;> cases b' <;> simp [row0] at h h' hne <;> omega
  intro p hp p' hp' hne
  cases d
  · rw [show acc false p = (slotRect p.2 p.1).set from View.set_slice_whole _ _,
      show acc false p' = (slotRect p'.2 p'.1).set from View.set_slice_whole _ _]
    exact key p hp p' hp' hne
  · rw [show acc true p = (slotRect p.2 p.1).set from View.set_slice_whole _ _,
      show acc true p' = (slotRect p'.2 p'.1).set from View.set_slice_whole _ _]
    exact key p hp p' hp' hne

theorem acc_cover (d : Bool) : halves.biUnion (acc d) = Finset.univ := by
  have key : ∀ i : S4x128x4096.Idx, ∃ p ∈ halves, i ∈ (slotRect p.2 p.1).set := by
    intro i
    have h0 : (i 0 : ℕ) < 4 := (i 0).isLt
    have h1 : (i 1 : ℕ) < 128 := (i 1).isLt
    refine ⟨(decide (64 ≤ (i 1 : ℕ)), (i 0 : ℕ)), ?_, ?_⟩
    · simp only [halves, Finset.mem_product, Finset.mem_univ, true_and, Finset.mem_range]; exact h0
    · rw [mem_slot]
      by_cases h : 64 ≤ (i 1 : ℕ)
      · simp [h, row0]; omega
      · simp [h, row0]; omega
  refine Finset.eq_univ_iff_forall.mpr fun i => ?_
  rw [Finset.mem_biUnion]
  cases d
  · obtain ⟨p, hp, hi⟩ := key i
    refine ⟨p, hp, ?_⟩
    rw [show acc false p = (slotRect p.2 p.1).set from View.set_slice_whole _ _]
    exact hi
  · obtain ⟨p, hp, hi⟩ := key i
    refine ⟨p, hp, ?_⟩
    rw [show acc true p = (slotRect p.2 p.1).set from View.set_slice_whole _ _]
    exact hi

theorem spot_acc (d b : Bool) (s : ℕ) :
    spot (F := F) ((c, .comm ⟨d, b⟩ s) : Key) = iprop(∃ f, ((comm d).view.loc (c : Thread nD τ) ↦[acc d (b, s)]{fullShare} f)) := by
  unfold spot slot
  exact congrArg (fun S => (iprop(∃ f, ((comm d).view.loc (c : Thread nD τ) ↦[S]{fullShare} f)) : sProp 𝕄)) (half_set ⟨d, b⟩ s)

theorem strm_univ (Φ : Strm → sProp 𝕄) :
    bigSep Finset.univ Φ = iprop((Φ ⟨false, false⟩ ∗ Φ ⟨false, true⟩) ∗ (Φ ⟨true, false⟩ ∗ Φ ⟨true, true⟩)) := by
  rw [bigSep_univ_eq_bigSepL [(⟨false, false⟩ : Strm), ⟨false, true⟩, ⟨true, false⟩, ⟨true, true⟩] (by decide) (by decide)]
  exact (BI.sep_assoc.antisymm BI.sep_assoc').symm

theorem bool_univ (Φ : Bool → sProp 𝕄) : bigSep Finset.univ Φ = iprop(Φ false ∗ Φ true) := by
  rw [bigSep_univ_eq_bigSepL [false, true] (by decide) (by decide)]
  rfl

/-- A communication buffer, holding anything. -/
def Any (d : Bool) : sProp 𝕄 := iprop(∃ f, ((comm d).view.loc (c : Thread nD τ) ↦[Finset.univ]{fullShare} f))

theorem any_halves (d : Bool) :
    Any (F := F) c d ⊣⊢ iprop(bigSep (Finset.range 4) (fun s => spot ((c, .comm ⟨d, false⟩ s) : Key)) ∗ bigSep (Finset.range 4) (fun s => spot ((c, .comm ⟨d, true⟩ s) : Key))) := by
  have e : iprop(bigSep (Finset.range 4) (fun s => spot (F := F) ((c, .comm ⟨d, false⟩ s) : Key)) ∗ bigSep (Finset.range 4) (fun s => spot ((c, .comm ⟨d, true⟩ s) : Key)))
      = bigSep halves (fun p => iprop(∃ f, ((comm d).view.loc (c : Thread nD τ) ↦[acc d p]{fullShare} f))) := by
    rw [show bigSep halves (fun p => (iprop(∃ f, ((comm d).view.loc (c : Thread nD τ) ↦[acc d p]{fullShare} f)) : sProp 𝕄))
      = bigSep Finset.univ (fun b => bigSep (Finset.range 4) (fun s => iprop(∃ f, ((comm d).view.loc (c : Thread nD τ) ↦[acc d (b, s)]{fullShare} f)))) from
        SparseCore.bigSep_product _ _ _, bool_univ]
    simp only [spot_acc]
  rw [e]
  unfold Any
  constructor
  · iintro ⟨%f, H⟩
    ihave H := (Entails.of_eq (show ((comm d).view.loc (c : Thread nD τ) ↦[Finset.univ]{fullShare} f : sProp 𝕄) = bigSep halves (fun p => ((comm d).view.loc (c : Thread nD τ) ↦[acc d p]{fullShare} f)) by
      rw [← acc_cover d]
      exact pointsTo_biUnion (Ix := ℕ) (Name := ℕ) (U := UU) (Lvl := ℕ) (ℓ := (comm d).view.loc (c : Thread nD τ)) (q := fullShare) (f := f) halves (acc d) (acc_apart d))) $$ H
    iapply (bigSep_each (s := halves) fun p _ => (show ((comm d).view.loc (c : Thread nD τ) ↦[acc d p]{fullShare} f : sProp 𝕄)
      ⊢ iprop(∃ f, ((comm d).view.loc (c : Thread nD τ) ↦[acc d p]{fullShare} f)) by iintro H; iexists f; iexact H))
    iexact H
  · iintro H
    ihave H := (bigSep_exists_pi halves (fun p (f : Buf (Elt F) ((comm d).view.loc (c : Thread nD τ))) => ((comm d).view.loc (c : Thread nD τ) ↦[acc d p]{fullShare} f : sProp 𝕄))) $$ H
    icases H with ⟨%fs, H⟩
    ihave H := (pointsTo_biUnion_join (Ix := ℕ) (Name := ℕ) (U := UU) (Lvl := ℕ) (ℓ := (comm d).view.loc (c : Thread nD τ)) (q := fullShare) halves (acc d) fs (fs (false, 0)) (acc_apart d)) $$ H
    icases H with ⟨%g, -, H⟩
    iexists g
    iapply (Entails.of_eq (show ((comm d).view.loc (c : Thread nD τ) ↦[halves.biUnion (acc d)]{fullShare} g : sProp 𝕄) = ((comm d).view.loc (c : Thread nD τ) ↦[Finset.univ]{fullShare} g) by rw [acc_cover d]))
    iexact H

/-- The slots of one direction's buffer. -/
theorem any_all : iprop(Any (F := F) c false ∗ Any c true) ⊣⊢ bigSep Finset.univ (fun σ : Strm => bigSep (Finset.range 4) (fun s => spot ((c, .comm σ s) : Key))) := by
  rw [strm_univ]
  exact ⟨BIClass.sep_mono (any_halves c false).1 (any_halves c true).1, BIClass.sep_mono (any_halves c false).2 (any_halves c true).2⟩

/-- Slot 0 of a buffer, holding anything. -/
theorem slot_zero (d : Bool) :
    iprop(spot (F := F) ((c, .comm ⟨d, false⟩ 0) : Key) ∗ spot ((c, .comm ⟨d, true⟩ 0) : Key))
      ⊢ iprop(∃ f, ((comm d).view.loc (c : Thread nD τ) ↦[((comm d).access (chunkRect 0)).set]{fullShare} f)) := by
  rw [spot_acc, spot_acc, ← acc_union d 0]
  iintro ⟨⟨%f, H⟩, %g, H'⟩
  iexists _
  iapply (pointsTo_join (acc_disj d 0))
  isplitl [H]; · iexact H
  iexact H'

end Pieces

section Enter

variable (X : Dev nD → Vec F S128x4096 .f32) (T : Dev nD → F .f32) (κ : GSem nD τ sig → ℕ) (ιs : Key → ℕ) (c : Dev nD)

theorem slot_free (σ : Strm) (i : ℕ) :
    iprop(Invs X T κ ιs ∗ rdr c σ i ∗ spot (land c σ i)) ⊢ |={Set.univ}=> iprop(rdr c σ (i + 4) ∗ released ES (land c σ i) (i / 4 + 1) : sProp 𝕄) := by
  unfold rdr
  rw [land_add4, Nat.add_div_right i (by decide)]
  iintro ⟨#HI, Hr, Hf⟩
  ihave #Hs := (Invs_slot X T κ ιs (mem_comm c σ (i + 1))) $$ HI
  iapply (slot_release ES (Set.mem_univ _) (spot_false (F := F) (land c σ i)) (i / 4))
  isplitr; · iexact Hs
  isplitl [Hr]; · iexact Hr
  iexact Hf

theorem slot_freeFor (σ : Strm) (i : ℕ) (hi : i < 3) :
    iprop(Invs X T κ ιs ∗ rdr c σ i ∗ spot ((c, .comm σ (i + 1)) : Key)) ⊢ |={Set.univ}=> iprop(rdr c σ (i + 4) ∗ freeFor c σ i : sProp 𝕄) := by
  have hl : (Duty.rcv σ i).live := by have := Duty.len_ge σ; show i < σ.len; omega
  have h := slot_free X T κ ιs c σ i
  rw [show land c σ i = (c, .comm σ (i + 1)) by show (c, Spot.comm σ ((i + 1) % 4)) = _; rw [Nat.mod_eq_of_lt (by omega)]] at h
  iintro ⟨#HI, Hr, Hf⟩
  imod h $$ [Hr Hf] with ⟨Hr, #Hre⟩
  · isplitr; · iexact HI
    isplitl [Hr]; · iexact Hr
    iexact Hf
  ihave #Hr0 := (Invs_reached X T κ ιs c hl) $$ HI
  imodintro
  isplitl [Hr]; · iexact Hr
  unfold freeFor
  rw [show land c σ i = (c, .comm σ (i + 1)) by show (c, Spot.comm σ ((i + 1) % 4)) = _; rw [Nat.mod_eq_of_lt (by omega)], show i / 4 = 0 by omega]
  isplitr; · iexact Hre
  iexact Hr0

theorem range4 (Φ : ℕ → sProp 𝕄) : bigSep (Finset.range 4) Φ = iprop(Φ 0 ∗ Φ 1 ∗ Φ 2 ∗ Φ 3) := by
  rw [Finset.range_eq_Ico, bigSep_Ico_succ_bot (by decide), bigSep_Ico_succ_bot (by decide), bigSep_Ico_succ_bot (by decide), bigSep_Ico_one 3]

/-- A stream's slots 1 to 3 are given away. -/
theorem strm_enter (σ : Strm) :
    iprop(Invs X T κ ιs ∗ bigSep (Finset.range 4) (rdr c σ) ∗ bigSep (Finset.range 4) (fun s => spot ((c, .comm σ s) : Key)))
      ⊢ |={Set.univ}=> iprop(spot ((c, .comm σ 0) : Key) ∗ bigSep (Finset.Ico 3 7) (rdr c σ) ∗ bigSep (Finset.range 3) (fun h => freeFor c σ h) : sProp 𝕄) := by
  rw [range4, range4]
  iintro ⟨#HI, ⟨R0, R1, R2, R3⟩, S0, S1, S2, S3⟩
  imod (slot_freeFor X T κ ιs c σ 0 (by decide)) $$ [R0 S1] with ⟨R0, #F0⟩
  · isplitr; · iexact HI
    isplitl [R0]; · iexact R0
    iexact S1
  imod (slot_freeFor X T κ ιs c σ 1 (by decide)) $$ [R1 S2] with ⟨R1, #F1⟩
  · isplitr; · iexact HI
    isplitl [R1]; · iexact R1
    iexact S2
  imod (slot_freeFor X T κ ιs c σ 2 (by decide)) $$ [R2 S3] with ⟨R2, #F2⟩
  · isplitr; · iexact HI
    isplitl [R2]; · iexact R2
    iexact S3
  imodintro
  isplitl [S0]; · iexact S0
  isplitl
  · iapply (Entails.of_eq (show bigSep (Finset.Ico 3 7) (rdr (F := F) c σ) = iprop(rdr c σ 3 ∗ rdr c σ 4 ∗ rdr c σ 5 ∗ rdr c σ 6) by
      rw [bigSep_Ico_succ_bot (by decide), bigSep_Ico_succ_bot (by decide), bigSep_Ico_succ_bot (by decide), bigSep_Ico_one 6]).symm)
    isplitl [R3]; · iexact R3
    isplitl [R0]; · iexact R0
    isplitl [R1]; · iexact R1
    iexact R2
  iapply (Entails.of_eq (show bigSep (Finset.range 3) (fun h => freeFor (F := F) c σ h) = iprop(freeFor c σ 0 ∗ freeFor c σ 1 ∗ freeFor c σ 2) by
      rw [Finset.range_eq_Ico, bigSep_Ico_succ_bot (by decide), bigSep_Ico_succ_bot (by decide), bigSep_Ico_one 2]).symm)
  isplitr; · iexact F0
  isplitr; · iexact F1
  iexact F2

theorem top_free (o : ℕ) (h1 : 1 ≤ o) (h2 : o < 32) :
    iprop(Invs X T κ ιs ∗ readerAt ES ((c, .top o) : Key) 0 ∗ spot ((c, .top o) : Key)) ⊢ |={Set.univ}=> iprop(released ES ((c, .top o) : Key) 1 : sProp 𝕄) := by
  iintro ⟨#HI, Hr, Hf⟩
  ihave #Hs := (Invs_slot X T κ ιs (mem_topKey c o h1 h2)) $$ HI
  imod (slot_release ES (Set.mem_univ _) (spot_false (F := F) (c, .top o)) 0) $$ [Hr Hf] with ⟨-, H⟩
  · isplitr; · iexact Hs
    isplitl [Hr]; · iexact Hr
    iexact Hf
  imodintro
  iexact H

theorem spot_top (o : ℕ) : spot (F := F) ((c, .top o) : Key) = iprop(∃ f, (topsM.view.loc (c : Thread nD τ) ↦[(topRect o).set]{fullShare} f)) := by
  unfold spot slot
  exact congrArg (fun S => (iprop(∃ f, (topsM.view.loc (c : Thread nD τ) ↦[S]{fullShare} f)) : sProp 𝕄)) (topSlot_set o)

theorem tops_cover : topsS (Finset.range 32) = Finset.univ := by
  refine Finset.eq_univ_iff_forall.mpr fun i => ?_
  rw [Finset.mem_biUnion]
  have h : (i 0 : ℕ) < 32 := (i 0).isLt
  exact ⟨(i 0 : ℕ), Finset.mem_range.mpr h, mem_top.mpr (by omega)⟩

/-- The buffer of received maxima, holding anything. -/
def AnyTops : sProp 𝕄 := iprop(∃ f, (topsM.view.loc (c : Thread nD τ) ↦[Finset.univ]{fullShare} f))

theorem anyTops_spots : AnyTops (F := F) c ⊣⊢ bigSep (Finset.range 32) (fun o => spot ((c, .top o) : Key)) := by
  simp only [spot_top]
  unfold AnyTops
  constructor
  · iintro ⟨%f, H⟩
    ihave H := (Entails.of_eq (show (topsM.view.loc (c : Thread nD τ) ↦[Finset.univ]{fullShare} f : sProp 𝕄) = bigSep (Finset.range 32) (fun o => (topsM.view.loc (c : Thread nD τ) ↦[(topRect o).set]{fullShare} f)) by
      rw [← tops_cover]
      exact pointsTo_biUnion (Ix := ℕ) (Name := ℕ) (U := UU) (Lvl := ℕ) (ℓ := topsM.view.loc (c : Thread nD τ)) (q := fullShare) (f := f) (Finset.range 32) (fun o => (topRect o).set) (tops_disj subset_rfl))) $$ H
    iapply (bigSep_each (s := Finset.range 32) fun o _ => (show (topsM.view.loc (c : Thread nD τ) ↦[(topRect o).set]{fullShare} f : sProp 𝕄)
      ⊢ iprop(∃ f, (topsM.view.loc (c : Thread nD τ) ↦[(topRect o).set]{fullShare} f)) by iintro H; iexists f; iexact H))
    iexact H
  · iintro H
    ihave H := (bigSep_exists_pi (Finset.range 32) (fun o (f : Buf (Elt F) (topsM.view.loc (c : Thread nD τ))) => (topsM.view.loc (c : Thread nD τ) ↦[(topRect o).set]{fullShare} f : sProp 𝕄))) $$ H
    icases H with ⟨%fs, H⟩
    ihave H := (pointsTo_biUnion_join (Ix := ℕ) (Name := ℕ) (U := UU) (Lvl := ℕ) (ℓ := topsM.view.loc (c : Thread nD τ)) (q := fullShare) (Finset.range 32) (fun o => (topRect o).set) fs (fs 0) (tops_disj subset_rfl)) $$ H
    icases H with ⟨%g, -, H⟩
    iexists g
    iapply (Entails.of_eq (show (topsM.view.loc (c : Thread nD τ) ↦[(Finset.range 32).biUnion (fun o => (topRect o).set)]{fullShare} g : sProp 𝕄) = (topsM.view.loc (c : Thread nD τ) ↦[Finset.univ]{fullShare} g) from
      congrArg (fun S => (topsM.view.loc (c : Thread nD τ) ↦[S]{fullShare} g : sProp 𝕄)) tops_cover))
    iexact H

/-- The device enters: what others may write is given away. -/
theorem enter :
    iprop(Invs X T κ ιs ∗ bigSep Finset.univ (fun σ : Strm => bigSep (Finset.range 4) (rdr c σ)) ∗ bigSep (Finset.Ico 1 32) (fun o => readerAt ES ((c, .top o) : Key) 0)
        ∗ (Any c false ∗ Any c true) ∗ AnyTops c)
      ⊢ |={Set.univ}=> iprop(entered c ∗ bigSep Finset.univ (fun σ : Strm => iprop(spot ((c, .comm σ 0) : Key) ∗ bigSep (Finset.Ico 3 7) (rdr c σ)))
        ∗ spot ((c, .top 0) : Key) : sProp 𝕄) := by
  have h1 := ((bigSep_with_persistent (S := (Finset.univ : Finset Strm)) (R := Invs X T κ ιs)
    (Φ := fun σ => iprop(bigSep (Finset.range 4) (rdr c σ) ∗ bigSep (Finset.range 4) (fun s => spot ((c, .comm σ s) : Key)))) fun σ _ => strm_enter X T κ ιs c σ).trans (bigSep_fupd _ _))
  have h2 := ((bigSep_with_persistent (S := Finset.Ico 1 32) (R := Invs X T κ ιs)
    (Φ := fun o => iprop(readerAt ES ((c, .top o) : Key) 0 ∗ spot ((c, .top o) : Key))) fun o ho => top_free X T κ ιs c o (Finset.mem_Ico.mp ho).1 (Finset.mem_Ico.mp ho).2).trans (bigSep_fupd _ _))
  rw [bigSep_sep'] at h1 h2
  iintro ⟨#HI, HR, HT, HA, HB⟩
  ihave HA := (any_all c).1 $$ HA
  ihave HB := (anyTops_spots c).1 $$ HB
  ihave HB := (Entails.of_eq (show bigSep (Finset.range 32) (fun o => spot (F := F) ((c, .top o) : Key)) = iprop(spot ((c, .top 0) : Key) ∗ bigSep (Finset.Ico 1 32) (fun o => spot ((c, .top o) : Key))) by
    rw [Finset.range_eq_Ico, bigSep_Ico_succ_bot (by decide)])) $$ HB
  icases HB with ⟨HB0, HB⟩
  imod h1 $$ [HR HA] with H
  · isplitr; · iexact HI
    isplitl [HR]; · iexact HR
    iexact HA
  imod h2 $$ [HT HB] with #H2
  · isplitr; · iexact HI
    isplitl [HT]; · iexact HT
    iexact HB
  ihave H := (Entails.of_eq (show bigSep Finset.univ (fun σ : Strm => iprop(spot (F := F) ((c, .comm σ 0) : Key) ∗ bigSep (Finset.Ico 3 7) (rdr c σ) ∗ bigSep (Finset.range 3) (fun h => freeFor c σ h)))
    = iprop(bigSep Finset.univ (fun σ : Strm => iprop(spot ((c, .comm σ 0) : Key) ∗ bigSep (Finset.Ico 3 7) (rdr c σ))) ∗ bigSep Finset.univ (fun σ : Strm => bigSep (Finset.range 3) (fun h => freeFor c σ h))) by
      rw [← bigSep_sep']
      exact bigSep_congr fun σ _ => (BI.sep_assoc.antisymm BI.sep_assoc').symm)) $$ H
  icases H with ⟨H, #H3⟩
  imodintro
  isplitr
  · unfold entered
    isplitr; · iexact H3
    iexact H2
  isplitl [H]; · iexact H
  iexact HB0

end Enter

end Cert.Ring

end
-- ==== Proof.Begin.lean ====
/-
# The body, before its loop

The device meets its neighbours, fills its first slots and starts the first four copies.
-/
module

public import proofs.«01_k».proof.Proof.Enter

@[expose] public section

set_option backward.proofsInPublic true

noncomputable section

namespace Cert.Ring

open Cert.KernelIdeal Cert.KernelIdeal.Given
open Facts₀ Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

section Meet

variable (X : Dev nD → Vec F S128x4096 .f32) (W : Dev nD → Vec F S4096x256 .f32) (T : Dev nD → F .f32) (κ : GSem nD τ sig → ℕ) (ιs : Key → ℕ) (c : Dev nD)

/-- What a device holds of the meeting. -/
def BarInit : sProp 𝕄 :=
  iprop(dutyTok ER (cell (nb true c) (.bar true)) 0 (.bar true) ∗ dutyTok ER (cell (nb false c) (.bar false)) 0 (.bar false)
    ∗ atPos ER (cell c (.bar false)) 0 ∅ 0 ∗ cred (tallyAt (cell c (.bar false)) 1 2))

theorem bar_give (d : Bool) {S : Finset Duty} (hS : Duty.bar d ∈ S) :
    iprop(Invs X T κ ιs ∗ OW c S ∗ dutyTok ER (cell (nb d c) (.bar d)) 0 (.bar d) ∗ entered c)
      ⊢ Run c (semSignalWord (nb d c) (sig.barrier 0 rfl) 1#32) (fun _ => OW c (S.erase (.bar d))) := by
  have h := give_run X T κ ιs c (.bar d) trivial rfl (sig.barrier 0 rfl) rfl 1 rfl hS
  rw [show pay X T ((Duty.bar d).peer c) (.bar d) = entered c from congrArg entered ((nb d).symm_apply_apply c)] at h
  exact h

theorem bar_take {S : Finset Duty} (hS : ∀ y ∈ S, 1 < y.lvl) :
    iprop(Invs X T κ ιs ∗ OW c S ∗ cred (tallyAt (cell c (.bar false)) 1 2) ∗ atPos ER (cell c (.bar false)) 0 ∅ 0)
      ⊢ Run c (semWaitWord (sig.barrier 0 rfl) 2#32) (fun _ => iprop(OW c S ∗ atPos ER (cell c (.bar false)) 1 ∅ 0 ∗ Near c)) := by
  iintro ⟨#HI, HO, Hc, Hp⟩
  unfold OW
  icases HO with ⟨%hsub, %W, HO⟩
  ihave #Hi := (Invs_cell X T κ ιs c (x := .bar false) trivial) $$ HI
  ihave #Hw := (Invs_wait X T κ ιs c (Duty.bar false).sem 1 S hsub (by decide) hS) $$ HI
  have hd' : (Rd X T).duties (cell c (.bar false)) 0 = {Duty.bar false, Duty.bar true} := duties_bar false
  have he : (0 : ℕ) + 2 = (Rd X T).expect (cell c (.bar false)) 0 := by
    unfold Schedule.expect Schedule.amountOf
    rw [hd', Finset.sum_pair (by decide)]
    rfl
  iapply (Rounds.wp_wait_rest_token 𝒱₀ ER (Rd X T) (c : Thread nD τ) none (κ := κ (cell c (.bar false)))
    (wpE_semWait_eq 𝒱₀ (c : Thread nD τ) none Set.univ) (Set.mem_univ _) 1 (O := debt c S) (W := W) (R := 0) (m := 0) (T := ∅) he) $$ [HO Hc Hp]
  · isplitr; · iexact Hi
    isplitl [Hc]; · iexact Hc
    isplitl [HO]; · iexact HO
    isplitr; · iexact Hw
    iexact Hp
  iintro ⟨HO, Hp, -, HP⟩
  iapply (run_pure)
  isplitl [HO]
  · isplitr
    · ipureintro; exact hsub
    iexists _
    iexact HO
  isplitl [Hp]; · iexact Hp
  have hfin : bigSep ((Rd X T).duties (cell c (.bar false)) 0 \ ∅) (fun d => (Rd X T).payload (cell c (.bar false)) 0 d) ⊢ Near (F := F) c := by
    rw [Finset.sdiff_empty, hd', bigSep_insert (by decide), bigSep_singleton]
    unfold Near
    show iprop(entered ((nb false).symm c) ∗ entered ((nb true).symm c)) ⊢ _
    rw [show (nb false).symm = nb true from (nb_not false).symm, show (nb true).symm = nb false from (nb_not true).symm]
    iintro ⟨H1, H2⟩
    isplitl [H2]; · iexact H2
    iexact H1
  iapply hfin
  iexact HP

theorem due_start : Duty.due 2 = Duty.due 4 := Duty.due_eq fun x hx => by
  cases x with
  | bar d => cases d <;> simp [Duty.time]
  | cred d j => simp only [Duty.time]; omega
  | rcv σ i => simp only [Duty.time]; omega
  | topRcv o => simp only [Duty.time]; omega
  | snd σ i => exact absurd hx (by simp [Duty.away])
  | topSnd o => exact absurd hx (by simp [Duty.away])

theorem due_start_lvl : ∀ y ∈ Duty.due 4, 1 < y.lvl := fun y hy => by
  obtain ⟨ha, ht⟩ := Duty.mem_due.mp hy
  cases y with
  | bar d => cases d <;> simp [Duty.time] at ht
  | cred d j => show 1 < 2 * j + 2; omega
  | rcv σ i => show 1 < 2 * i + 3; omega
  | topRcv o => show 1 < 100; decide
  | snd σ i => exact absurd ha (by simp [Duty.away])
  | topSnd o => exact absurd ha (by simp [Duty.away])

/-- The device meets its neighbours. -/
theorem meet_run :
    iprop(Invs X T κ ιs ∗ OW c (Duty.due 0) ∗ entered c ∗ BarInit c)
      ⊢ Run c (meet c) (fun _ => iprop(OW c (Duty.due 4) ∗ Near c ∗ atPos ER (cell c (.bar false)) 1 ∅ 0)) := by
  unfold meet BarInit
  rw [meet_left, meet_right]
  iintro ⟨#HI, HO, #He, Ht1, Ht2, Hp, Hc⟩
  iapply (run_step (bar_give X T κ ιs c true (S := Duty.due 0) (Duty.mem_due.mpr ⟨trivial, Nat.zero_le _⟩))) $$ [HO Ht1]
  · isplitr; · iexact HI
    isplitl [HO]; · iexact HO
    isplitl [Ht1]; · iexact Ht1
    iexact He
  iintro %_ HO
  rw [show (Duty.due 0).erase (.bar true) = Duty.due 1 from Duty.due_erase (x := .bar true) trivial rfl]
  iapply (run_step (bar_give X T κ ιs c false (S := Duty.due 1) (Duty.mem_due.mpr ⟨trivial, le_refl _⟩))) $$ [HO Ht2]
  · isplitr; · iexact HI
    isplitl [HO]; · iexact HO
    isplitl [Ht2]; · iexact Ht2
    iexact He
  iintro %_ HO
  rw [show (Duty.due 1).erase (.bar false) = Duty.due 4 from (Duty.due_erase (x := .bar false) trivial rfl).trans due_start]
  iapply (run_last (bar_take X T κ ιs c due_start_lvl)) $$ [HO Hp Hc]
  · isplitr; · iexact HI
    isplitl [HO]; · iexact HO
    isplitl [Hc]; · iexact Hc
    iexact Hp
  iintro %_ ⟨HO, Hp, HN⟩
  isplitl [HO]; · iexact HO
  isplitl [HN]; · iexact HN
  iexact Hp

/-! ## The first slots -/

/-- The device's argument blocks, in the kernel's windows. -/
def InX : sProp 𝕄 := xM.view.loc (c : Thread nD τ) ↦[Finset.univ]{fullShare} (X c)
def InW : sProp 𝕄 := wM.view.loc (c : Thread nD τ) ↦[Finset.univ]{fullShare} (W c)

theorem loadX_run :
    InX X c ⊢ Run c (Prog.lift (.load xM (Rect.unit (s := S128x4096) ![0, 0] S128x4096.size inb_S128x4096_S128x4096_0_0).toLoadRect (View.loadsAt_vmem h_S128x4096)))
      (fun x => iprop(⌜x = X c⌝ ∗ InX X c)) := by
  unfold InX
  iintro H
  iapply (wp_load 𝒱₀ (c : Thread nD τ) none Set.univ (m := xM) (S := Finset.univ) (Finset.subset_univ _)) $$ H
  iintro H
  iapply (run_pure)
  isplitr
  · ipureintro
    exact Memref.readAt_unit_zero (Elt F) cc0_stg0_0 zero2 _ _
  iexact H

theorem loadW_run :
    InW W c ⊢ Run c (Prog.lift (.load wM (Rect.unit (s := S4096x256) ![0, 0] S4096x256.size inb_S4096x256_S4096x256_0_0).toLoadRect (View.loadsAt_vmem h_S4096x256)))
      (fun x => iprop(⌜x = W c⌝ ∗ InW W c)) := by
  unfold InW
  iintro H
  iapply (wp_load 𝒱₀ (c : Thread nD τ) none Set.univ (m := wM) (S := Finset.univ) (Finset.subset_univ _)) $$ H
  iintro H
  iapply (run_pure)
  isplitr
  · ipureintro
    exact Memref.readAt_unit_zero (Elt F) cc0_stg1_0 zero2 _ _
  iexact H

theorem fillCols_run (f : Buf (Elt F) (colM.view.loc (c : Thread nD τ))) :
    iprop(InW W c ∗ (colM.view.loc (c : Thread nD τ) ↦[Finset.univ]{fullShare} f)) ⊢ Run c (fillCols (F := F)) (fun _ => iprop(InW W c ∗ Cols W c)) := by
  unfold fillCols loadCols Cols
  iintro ⟨HW, H⟩
  iapply (run_step (loadW_run W c)) $$ [HW]
  · iexact HW
  iintro %w ⟨%hw, HW⟩
  subst hw
  iapply (wp_load 𝒱₀ (c : Thread nD τ) none Set.univ (m := colM) (S := Finset.univ) (Finset.subset_univ _)) $$ H
  iintro H
  iapply (wp_store 𝒱₀ (c : Thread nD τ) none Set.univ (m := colM) (r := Rect.unit (s := S4096x256) ![0, 0] S4096x256.size inb_S4096x256_S4096x256_0_0) (S := Finset.univ) (Finset.subset_univ _)) $$ H
  iintro H
  iapply (run_pure)
  isplitl [HW]; · iexact HW
  iapply (Entails.of_eq (show (colM.view.loc (c : Thread nD τ) ↦[Finset.univ]{fullShare}
      ((colM.access (Rect.unit (s := S4096x256) ![0, 0] S4096x256.size inb_S4096x256_S4096x256_0_0)).write (Elt F) f (ownCols (W c)) Finset.univ) : sProp 𝕄)
    = (colM.view.loc (c : Thread nD τ) ↦[Finset.univ]{fullShare} (ownCols (W c))) by
      rw [show (colM.access (Rect.unit (s := S4096x256) ![0, 0] S4096x256.size inb_S4096x256_S4096x256_0_0)).write (Elt F) f (ownCols (W c)) Finset.univ = ownCols (W c) from
          Memref.write_access_unit_zero_univ (Elt F) cc0_scratch2 zero2 _ f (ownCols (W c))]))
  iexact H

theorem fillSlot_run (d : Bool) :
    iprop(∃ f, ((comm d).view.loc (c : Thread nD τ) ↦[((comm d).access (chunkRect 0)).set]{fullShare} f)) ⊢ Run c (fillSlot d (X c)) (fun _ => rows X c d 0 fullShare) := by
  unfold fillSlot loadChunk rows
  iintro ⟨%f, H⟩
  iapply (wp_load 𝒱₀ (c : Thread nD τ) none Set.univ (m := comm d) (S := ((comm d).access (chunkRect 0)).set)
    (by rw [show ((comm d).access (chunkRect 0)).set = _ from View.set_slice _ _]; exact subset_rfl)) $$ H
  iintro H
  iapply (wp_store 𝒱₀ (c : Thread nD τ) none Set.univ (m := comm d) (r := chunkRect 0) (S := ((comm d).access (chunkRect 0)).set) (by exact View.setOn_subset_set _ _)) $$ H
  iintro H
  iapply (run_pure)
  iapply (Entails.of_eq (pointsTo_congr (ℓ := (comm d).view.loc (c : Thread nD τ)) (q := fullShare) (fill_eq d 0 (X c) f)))
  iexact H

theorem fillSlots_run :
    iprop(InX X c ∗ bigSep Finset.univ (fun σ : Strm => spot ((c, .comm σ 0) : Key)))
      ⊢ Run c (fillSlots (F := F)) (fun x => iprop(⌜x = X c⌝ ∗ InX X c ∗ bigSep Finset.univ (fun σ : Strm => chunk X c σ 0 fullShare))) := by
  rw [strm_univ, strm_univ]
  unfold fillSlots
  iintro ⟨HX, H1, H2⟩
  ihave H1 := (slot_zero c false) $$ H1
  ihave H2 := (slot_zero c true) $$ H2
  iapply (run_step (loadX_run X c)) $$ [HX]
  · iexact HX
  iintro %x ⟨%hx, HX⟩
  subst hx
  iapply (run_step (fillSlot_run X c false)) $$ [H1]
  · iexact H1
  iintro %_ H1
  iapply (run_step (fillSlot_run X c true)) $$ [H2]
  · iexact H2
  iintro %_ H2
  iapply (run_pure)
  ihave H1 := (rows_halves X c false 0 fullShare).1 $$ H1
  ihave H2 := (rows_halves X c true 0 fullShare).1 $$ H2
  isplitr
  · ipureintro; rfl
  isplitl [HX]; · iexact HX
  isplitl [H1]; · iexact H1
  iexact H2

/-! ## The first copies -/

/-- What a device holds of a stream before anything is sent. -/
def StrmInit (σ : Strm) : sProp 𝕄 :=
  iprop(bigSep (Finset.Ico 0 4) (posS c σ) ∗ bigSep (Finset.Ico 0 4) (posR c σ) ∗ bigSep (Finset.Ico 0 σ.len) (sup c σ) ∗ bigSep (Finset.Ico 0 σ.len) (supR c σ))

theorem got_zero (σ : Strm) : iprop(StrmInit c σ ∗ bigSep (Finset.Ico 3 7) (rdr c σ) ∗ chunk X c σ 0 fullShare) ⊢ Got X c σ 0 := by
  have hl := Duty.len_ge σ
  unfold StrmInit Got Base
  rw [show min (0 + 3) σ.len = 3 by omega, Finset.Ico_eq_empty_of_le (show 0 ≤ σ.len - 3 by omega), bigSep_empty]
  iintro ⟨⟨H1, H2, H3, H4⟩, H5, H6⟩
  isplitr [H6]
  · isplitl [H1]; · iexact H1
    isplitl [H2]; · iexact H2
    isplitl [H5]; · iexact H5
    isplitl [H3]; · iexact H3
    isplitl [H4]; · iexact H4
    iempintro
  iexact H6

theorem start_first (σ : Strm) (t : ℕ) (ht : 4 + σ.at = t) :
    iprop(Invs X T κ ιs ∗ Near c ∗ entered c ∗ OW c (Duty.due t) ∗ Got X c σ 0)
      ⊢ Run c (startHop σ c 0) (fun _ => iprop(OW c (Duty.due (t + 1)) ∗ Head X c σ 0)) := by
  have hl := Duty.len_ge σ
  have hn : Near (F := F) c ⊢ entered (nb σ.left c) := by
    unfold Near
    cases σ.left
    · iintro ⟨H, -⟩; iexact H
    · iintro ⟨-, H⟩; iexact H
  have hf : entered (F := F) (nb σ.left c) ⊢ freeFor (nb σ.left c) σ 0 :=
    (entered_free (nb σ.left c) σ 0 (by decide)).trans (Entails.of_eq (if_pos (by omega)))
  iintro ⟨#HI, #HN, #He, HO, HG⟩
  ihave #HN' := hn $$ HN
  ihave #Hf := hf $$ HN'
  iapply (run_last (got_head X T κ ιs c σ 0 t (by omega) (by simp only [Duty.time]; omega))) $$ [HO HG]
  · isplitr; · iexact HI
    isplitl [HO]; · iexact HO
    isplitl [HG]; · iexact HG
    isplitr; · iexact Hf
    iexact He
  iintro %_ H
  iexact H

theorem startAll_run :
    iprop(Invs X T κ ιs ∗ Near c ∗ entered c ∗ OW c (Duty.due 4) ∗ bigSep Finset.univ (fun σ : Strm => Got X c σ 0))
      ⊢ Run c (startAll (F := F) c) (fun _ => iprop(OW c (Duty.due 8) ∗ (Head X c (major false) 0 ∗ Head X c (minor false) 0) ∗ (Head X c (major true) 0 ∗ Head X c (minor true) 0))) := by
  rw [strm_univ]
  unfold startAll
  iintro ⟨#HI, #HN, #He, HO, ⟨H1, H2⟩, H3, H4⟩
  iapply (run_step (start_first X T κ ιs c (major false) 4 rfl)) $$ [HO H1]
  · isplitr; · iexact HI
    isplitr; · iexact HN
    isplitr; · iexact He
    isplitl [HO]; · iexact HO
    iexact H1
  iintro %_ ⟨HO, H1⟩
  iapply (run_step (start_first X T κ ιs c (minor false) 5 rfl)) $$ [HO H2]
  · isplitr; · iexact HI
    isplitr; · iexact HN
    isplitr; · iexact He
    isplitl [HO]; · iexact HO
    iexact H2
  iintro %_ ⟨HO, H2⟩
  iapply (run_step (start_first X T κ ιs c (major true) 6 rfl)) $$ [HO H4]
  · isplitr; · iexact HI
    isplitr; · iexact HN
    isplitr; · iexact He
    isplitl [HO]; · iexact HO
    iexact H4
  iintro %_ ⟨HO, H4⟩
  iapply (run_last (start_first X T κ ιs c (minor true) 7 rfl)) $$ [HO H3]
  · isplitr; · iexact HI
    isplitr; · iexact HN
    isplitr; · iexact He
    isplitl [HO]; · iexact HO
    iexact H3
  iintro %_ ⟨HO, H3⟩
  isplitl [HO]; · iexact HO
  isplitl [H1 H2]
  · isplitl [H1]; · iexact H1
    iexact H2
  isplitl [H4]; · iexact H4
  iexact H3

end Meet

end Cert.Ring

end
-- ==== Proof.Exit.lean ====
/-
# Leaving the kernel

What a device holds at the end gives back its buffers, and its semaphores stand at zero.
-/
module

public import proofs.«01_k».proof.Proof.Begin

@[expose] public section

set_option backward.proofsInPublic true

noncomputable section

namespace Cert.Ring

open Cert.KernelIdeal Cert.KernelIdeal.Given
open Facts₀ Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## The semaphores of a device -/

namespace Duty

/-- One transfer for each of the semaphores a device holds for this kernel alone. -/
def reps : Finset Duty :=
  Finset.univ.image (fun d => cred d 0) ∪ (Finset.univ ×ˢ Finset.range 4).image (fun p => snd p.1 p.2) ∪ (Finset.univ ×ˢ Finset.range 4).image (fun p => rcv p.1 p.2)
    ∪ (Finset.range 32).image topSnd ∪ (Finset.range 32).image topRcv

end Duty

theorem image_univ {I : Type} [Fintype I] [DecidableEq I] {f : I → Duty} (hf : Function.Injective f) (Φ : Duty → sProp 𝕄) :
    bigSep (Finset.univ.image f) Φ = bigSep Finset.univ fun a => Φ (f a) := SparseCore.bigSep_image_of_injOn hf.injOn Φ

theorem image_range {n : ℕ} {f : ℕ → Duty} (hf : Function.Injective f) (Φ : Duty → sProp 𝕄) :
    bigSep ((Finset.range n).image f) Φ = bigSep (Finset.range n) fun a => Φ (f a) := SparseCore.bigSep_image_of_injOn hf.injOn Φ

theorem image_pair {I : Type} [Fintype I] [DecidableEq I] {n : ℕ} {f : I × ℕ → Duty} (hf : Function.Injective f) (Φ : Duty → sProp 𝕄) :
    bigSep ((Finset.univ ×ˢ Finset.range n).image f) Φ = bigSep Finset.univ fun a => bigSep (Finset.range n) fun b => Φ (f (a, b)) :=
  (SparseCore.bigSep_image_of_injOn hf.injOn Φ).trans (SparseCore.bigSep_product _ _ _)

theorem inj_snd : Function.Injective (fun p : Strm × ℕ => Duty.snd p.1 p.2) := fun p q h => Prod.ext (Duty.snd.inj h).1 (Duty.snd.inj h).2
theorem inj_rcv : Function.Injective (fun p : Strm × ℕ => Duty.rcv p.1 p.2) := fun p q h => Prod.ext (Duty.rcv.inj h).1 (Duty.rcv.inj h).2
theorem inj_cred : Function.Injective (fun p : Bool × ℕ => Duty.cred p.1 p.2) := fun p q h => Prod.ext (Duty.cred.inj h).1 (Duty.cred.inj h).2
theorem inj_bar : Function.Injective Duty.bar := fun _ _ h => Duty.bar.inj h
theorem inj_topSnd : Function.Injective Duty.topSnd := fun _ _ h => Duty.topSnd.inj h
theorem inj_topRcv : Function.Injective Duty.topRcv := fun _ _ h => Duty.topRcv.inj h
theorem inj_cred0 : Function.Injective (fun d => Duty.cred d 0) := fun _ _ h => (Duty.cred.inj h).1

theorem reps_split (Φ : Duty → sProp 𝕄) :
    bigSep Duty.reps Φ = iprop(((((bigSep Finset.univ fun d => Φ (.cred d 0)) ∗ (bigSep Finset.univ fun σ => bigSep (Finset.range 4) fun h => Φ (.snd σ h)))
      ∗ (bigSep Finset.univ fun σ => bigSep (Finset.range 4) fun h => Φ (.rcv σ h))) ∗ (bigSep (Finset.range 32) fun o => Φ (.topSnd o)))
      ∗ (bigSep (Finset.range 32) fun o => Φ (.topRcv o))) := by
  unfold Duty.reps
  rw [bigSep_union, bigSep_union, bigSep_union, bigSep_union, image_univ inj_cred0, image_pair inj_snd, image_pair inj_rcv, image_range inj_topSnd, image_range inj_topRcv]
  · rfl
  all_goals
    rw [Finset.disjoint_left]
    intro x
    cases x <;> simp

theorem all_split (Φ : Duty → sProp 𝕄) :
    bigSep Duty.all Φ = iprop((((((bigSep Finset.univ fun d => Φ (.bar d)) ∗ (bigSep Finset.univ fun d => bigSep (Finset.range 13) fun j => Φ (.cred d j)))
      ∗ (bigSep Finset.univ fun σ => bigSep (Finset.range 16) fun h => Φ (.snd σ h)))
      ∗ (bigSep Finset.univ fun σ => bigSep (Finset.range 16) fun h => Φ (.rcv σ h))) ∗ (bigSep (Finset.range 32) fun o => Φ (.topSnd o)))
      ∗ (bigSep (Finset.range 32) fun o => Φ (.topRcv o))) := by
  unfold Duty.all
  rw [bigSep_union, bigSep_union, bigSep_union, bigSep_union, bigSep_union, image_univ inj_bar, image_pair inj_cred, image_pair inj_snd, image_pair inj_rcv,
    image_range inj_topSnd, image_range inj_topRcv]
  · rfl
  all_goals
    rw [Finset.disjoint_left]
    intro x
    cases x <;> simp

theorem mem_all_snd (σ : Strm) {s : ℕ} (h : s < 16) : Duty.snd σ s ∈ Duty.all := by unfold Duty.all; simp; exact h
theorem mem_all_rcv (σ : Strm) {s : ℕ} (h : s < 16) : Duty.rcv σ s ∈ Duty.all := by unfold Duty.all; simp; exact h
theorem mem_all_topSnd {s : ℕ} (h : s < 32) : Duty.topSnd s ∈ Duty.all := by unfold Duty.all; simp; exact h
theorem mem_all_topRcv {s : ℕ} (h : s < 32) : Duty.topRcv s ∈ Duty.all := by unfold Duty.all; simp; exact h

theorem snd_mod (σ : Strm) (h : ℕ) : (Duty.snd σ (h % 4)).sem = (Duty.snd σ h).sem := by
  have key : ∀ n k : ℕ, (Duty.snd σ (k + 4 * n)).sem = (Duty.snd σ k).sem := fun n k => by
    induction n with
    | zero => rfl
    | succ n ih => rw [show k + 4 * (n + 1) = (k + 4 * n) + 4 by omega, snd_sem_add4, ih]
  have := key (h / 4) (h % 4)
  rw [Nat.mod_add_div] at this
  exact this.symm

theorem rcv_mod (σ : Strm) (h : ℕ) : (Duty.rcv σ (h % 4)).sem = (Duty.rcv σ h).sem := by
  have key : ∀ n k : ℕ, (Duty.rcv σ (k + 4 * n)).sem = (Duty.rcv σ k).sem := fun n k => by
    induction n with
    | zero => rfl
    | succ n ih => rw [show k + 4 * (n + 1) = (k + 4 * n) + 4 by omega, rcv_sem_add4, ih]
  have := key (h / 4) (h % 4)
  rw [Nat.mod_add_div] at this
  exact this.symm

section Exit

variable (X : Dev nD → Vec F S128x4096 .f32) (W : Dev nD → Vec F S4096x256 .f32) (T : Dev nD → F .f32) (κ : GSem nD τ sig → ℕ) (ιs : Key → ℕ) (c : Dev nD)

/-- A semaphore at zero. -/
abbrev Zero (x : Duty) : sProp 𝕄 := semVal (cell c x) 0

theorem Invs_mem {x : Duty} (hx : x ∈ Duty.all) : Invs X T κ ιs ⊢ cellInv ER (Rd X T) (κ (cell c x)) (cell c x) := by
  unfold Invs
  iintro ⟨H, -, -⟩
  ihave H := (elim_at (Finset.mem_univ c) _) $$ H
  ihave H := (elim_at hx _) $$ H
  icases H with ⟨H, -⟩
  iexact H

/-- A semaphore with nothing to come is closed. -/
theorem close_mem {x : Duty} (hx : x ∈ Duty.all) (R : ℕ) (hR : ∀ r, R ≤ r → dutiesAt x.sem r = ∅) :
    iprop(Invs X T κ ιs ∗ atPos ER (cell c x) R ∅ 0) ⊢ |={Set.univ}=> (Zero c x : sProp 𝕄) := by
  iintro ⟨#HI, Hp⟩
  ihave #Hi := (Invs_mem X T κ ιs c hx) $$ HI
  iapply (Rounds.cell_close ER (Rd X T) (g := cell c x) (κ := κ (cell c x)) (Set.mem_univ _) (fun h => h) (R := R) hR)
  isplitr; · iexact Hi
  iexact Hp

theorem closes {I : Type} [DecidableEq I] (S : Finset I) {Φ Ψ : I → sProp 𝕄} (h : ∀ i ∈ S, iprop(Invs X T κ ιs ∗ Φ i) ⊢ |={Set.univ}=> Ψ i) :
    iprop(Invs X T κ ιs ∗ bigSep S Φ) ⊢ |={Set.univ}=> bigSep S Ψ :=
  (bigSep_with_persistent (S := S) (R := Invs X T κ ιs) h).trans (bigSep_fupd _ _)

theorem close_posS (σ : Strm) (i : ℕ) (hi : σ.len ≤ i) : iprop(Invs X T κ ιs ∗ posS c σ i) ⊢ |={Set.univ}=> (Zero c (.snd σ (i % 4)) : sProp 𝕄) := by
  unfold posS
  iintro ⟨#HI, Hp, -⟩
  iapply (close_mem X T κ ιs c (mem_all_snd σ (show i % 4 < 16 by omega)) (i / 4) (fun r hr => (congrArg (fun s => dutiesAt s r) (snd_mod σ i)).trans (none_snd σ i r hi hr)))
  isplitr; · iexact HI
  iapply (Entails.of_eq (show (atPos ER (cell c (.snd σ i)) (i / 4) ∅ 0 : sProp 𝕄) = atPos ER (cell c (.snd σ (i % 4))) (i / 4) ∅ 0 by
    unfold cell; rw [snd_mod]))
  iexact Hp

theorem close_posR (σ : Strm) (i : ℕ) (hi : σ.len ≤ i) : iprop(Invs X T κ ιs ∗ posR c σ i) ⊢ |={Set.univ}=> (Zero c (.rcv σ (i % 4)) : sProp 𝕄) := by
  unfold posR
  iintro ⟨#HI, Hp, -⟩
  iapply (close_mem X T κ ιs c (mem_all_rcv σ (show i % 4 < 16 by omega)) (i / 4) (fun r hr => (congrArg (fun s => dutiesAt s r) (rcv_mod σ i)).trans (none_rcv σ i r hi hr)))
  isplitr; · iexact HI
  iapply (Entails.of_eq (show (atPos ER (cell c (.rcv σ i)) (i / 4) ∅ 0 : sProp 𝕄) = atPos ER (cell c (.rcv σ (i % 4))) (i / 4) ∅ 0 by
    unfold cell; rw [rcv_mod]))
  iexact Hp

theorem range_len (σ : Strm) : (Finset.Ico σ.len (σ.len + 4)).image (· % 4) = Finset.range 4 ∧ (Finset.Ico (σ.len - 3) (σ.len + 1)).image (· % 4) = Finset.range 4 := by
  rcases σ with ⟨l, b⟩
  cases l <;> cases b <;> decide

theorem mod_inj (n : ℕ) : Set.InjOn (· % 4) (Finset.Ico n (n + 4) : Set ℕ) := by
  intro a ha b hb h
  simp only [Finset.coe_Ico, Set.mem_Ico] at ha hb
  simp only at h
  omega

theorem mod_range {n : ℕ} (h : (Finset.Ico n (n + 4)).image (· % 4) = Finset.range 4) (Φ : ℕ → sProp 𝕄) :
    bigSep (Finset.Ico n (n + 4)) (fun i => Φ (i % 4)) = bigSep (Finset.range 4) Φ := by
  rw [← h, SparseCore.bigSep_image_of_injOn (mod_inj n)]

theorem chunk_spot (σ : Strm) (i : ℕ) : chunk X c σ i fullShare ⊢ spot (F := F) ((c, .comm σ (i % 4)) : Key) := by
  unfold chunk spot slot
  simp only
  rw [half_mod]
  iintro H
  iexists _
  iexact H

/-- A stream that is over. -/
theorem strm_exit (σ : Strm) (u : ℕ) :
    iprop(Invs X T κ ιs ∗ Base X c σ σ.len σ.len σ.len u ∗ chunk X c σ σ.len fullShare)
      ⊢ |={Set.univ}=> iprop(bigSep (Finset.range 4) (fun s => Zero c (.snd σ s)) ∗ bigSep (Finset.range 4) (fun s => Zero c (.rcv σ s))
        ∗ bigSep (Finset.range 4) (fun s => spot ((c, .comm σ s) : Key)) : sProp 𝕄) := by
  have hl := Duty.len_ge σ
  have h1 := closes X T κ ιs (Finset.Ico σ.len (σ.len + 4)) (fun i hi => close_posS X T κ ιs c σ i (Finset.mem_Ico.mp hi).1)
  have h2 := closes X T κ ιs (Finset.Ico σ.len (σ.len + 4)) (fun i hi => close_posR X T κ ιs c σ i (Finset.mem_Ico.mp hi).1)
  have h3 := bigSep_each (s := Finset.Ico (σ.len - 3) (σ.len + 1)) (fun i _ => chunk_spot X c σ i)
  rw [mod_range (range_len σ).1 (fun s => Zero c (.snd σ s))] at h1
  rw [mod_range (range_len σ).1 (fun s => Zero c (.rcv σ s))] at h2
  rw [show Finset.Ico (σ.len - 3) (σ.len + 1) = Finset.Ico (σ.len - 3) (σ.len - 3 + 4) by congr 1; omega,
    mod_range (by rw [show σ.len - 3 + 4 = σ.len + 1 by omega]; exact (range_len σ).2) (fun s => spot ((c, .comm σ s) : Key))] at h3
  unfold Base
  iintro ⟨#HI, ⟨H1, H2, -, -, -, H3⟩, H4⟩
  imod h1 $$ [H1] with H1
  · isplitr; · iexact HI
    iexact H1
  imod h2 $$ [H2] with H2
  · isplitr; · iexact HI
    iexact H2
  imodintro
  isplitl [H1]; · iexact H1
  isplitl [H2]; · iexact H2
  iapply h3
  iapply (Entails.of_eq (show bigSep (Finset.Ico (σ.len - 3) (σ.len + 1)) (fun i => chunk X c σ i fullShare) = bigSep (Finset.Ico (σ.len - 3) (σ.len - 3 + 4)) (fun i => chunk X c σ i fullShare) by
    rw [show σ.len - 3 + 4 = σ.len + 1 by omega]))
  iapply (push (fun i => chunk X c σ i fullShare) (show σ.len - 3 ≤ σ.len by omega))
  isplitl [H3]; · iexact H3
  iexact H4

theorem close_take (d : Bool) : iprop(Invs X T κ ιs ∗ Take c d 13) ⊢ |={Set.univ}=> (Zero c (.cred d 0) : sProp 𝕄) := by
  unfold Take
  iintro ⟨#HI, %Ts, %hT, Hp, -, -⟩
  have hsub : credits d ⊆ Ts := by
    rw [← Finset.sdiff_eq_empty_iff_subset, ← Finset.card_eq_zero]
    omega
  ihave #Hi := (Invs_cell X T κ ιs c (x := .cred d 0) (show 0 < 13 by decide)) $$ HI
  imod (Rounds.fupd_skip ER (Rd X T) (κ := κ (cell c (.cred d 0))) (R := 0) (m := 13) (T := Ts) ((rd_credits X T c d).le.trans hsub) (expect_cred X T c d).symm (Set.mem_univ _)) $$ [Hp] with ⟨Hp, -⟩
  · isplitr; · iexact Hi
    iexact Hp
  iapply (close_mem X T κ ιs c (Duty.mem_all (.cred d 0) (show 0 < 13 by decide)) 1 (none_later (.cred d 0) (fun _ _ h => Duty.noConfusion h) (fun _ _ h => Duty.noConfusion h)))
  isplitr; · iexact HI
  iexact Hp

theorem dir_exit (d : Bool) :
    iprop(Invs X T κ ιs ∗ Last X c d) ⊢ |={Set.univ}=> iprop(Zero c (.cred d 0)
      ∗ (bigSep (Finset.range 4) (fun s => Zero c (.snd (major d) s)) ∗ bigSep (Finset.range 4) (fun s => Zero c (.rcv (major d) s)) ∗ bigSep (Finset.range 4) (fun s => spot ((c, .comm (major d) s) : Key)))
      ∗ (bigSep (Finset.range 4) (fun s => Zero c (.snd (minor d) s)) ∗ bigSep (Finset.range 4) (fun s => Zero c (.rcv (minor d) s)) ∗ bigSep (Finset.range 4) (fun s => spot ((c, .comm (minor d) s) : Key))) : sProp 𝕄) := by
  have h1 := strm_exit X T κ ιs c (major d) 16
  have h2 := strm_exit X T κ ιs c (minor d) 16
  rw [major_len] at h1
  rw [minor_len] at h2
  unfold Last Got Head
  rw [if_neg (by rw [minor_len]; decide)]
  iintro ⟨#HI, ⟨Hb, Hc⟩, ⟨Hb', Hr, Hl⟩, -, HT⟩
  imod (close_take X T κ ιs c d) $$ [HT] with HT
  · isplitr; · iexact HI
    iexact HT
  imod h1 $$ [Hb Hc] with H1
  · isplitr; · iexact HI
    isplitl [Hb]; · iexact Hb
    iexact Hc
  imod h2 $$ [Hb' Hr Hl] with H2
  · isplitr; · iexact HI
    isplitl [Hb']; · iexact Hb'
    iapply (chunk_halves X c (minor d) 15).2
    isplitl [Hl]; · iexact Hl
    iexact Hr
  imodintro
  isplitl [HT]; · iexact HT
  isplitl [H1]; · iexact H1
  iexact H2

/-! ## The exchange of maxima -/

/-- What a device holds of the exchange of maxima. -/
def TopInit : sProp 𝕄 :=
  iprop(bigSep (Finset.Ico 1 32) (TopSup c) ∗ bigSep (Finset.Ico 1 32) (TopPos c) ∗ atPos ER (cell c (.topSnd 0)) 0 ∅ 0 ∗ atPos ER (cell c (.topRcv 0)) 0 ∅ 0)

theorem none_top (x : Duty) (hx : ∀ σ h, x ≠ .snd σ h) (hx' : ∀ σ h, x ≠ .rcv σ h) : ∀ r, 1 ≤ r → dutiesAt x.sem r = ∅ := none_later x hx hx'

theorem top_exit (o : ℕ) (ho : o < 32) :
    iprop(Invs X T κ ιs ∗ TopDone T c o) ⊢ |={Set.univ}=> iprop(Zero c (.topSnd o) ∗ Zero c (.topRcv o) ∗ topOwn T c (tokQ o) ∗ topGot T c o : sProp 𝕄) := by
  unfold TopDone
  iintro ⟨#HI, H1, H2, H3, H4⟩
  imod (close_mem X T κ ιs c (mem_all_topSnd ho) 1 (none_top (.topSnd o) (fun _ _ h => Duty.noConfusion h) (fun _ _ h => Duty.noConfusion h))) $$ [H1] with H1
  · isplitr; · iexact HI
    iexact H1
  imod (close_mem X T κ ιs c (mem_all_topRcv ho) 1 (none_top (.topRcv o) (fun _ _ h => Duty.noConfusion h) (fun _ _ h => Duty.noConfusion h))) $$ [H2] with H2
  · isplitr; · iexact HI
    iexact H2
  imodintro
  isplitl [H1]; · iexact H1
  isplitl [H2]; · iexact H2
  isplitl [H3]; · iexact H3
  iexact H4

theorem range_pop (Φ : ℕ → sProp 𝕄) : bigSep (Finset.range 32) Φ = iprop(Φ 0 ∗ bigSep (Finset.Ico 1 32) Φ) := by
  rw [Finset.range_eq_Ico, bigSep_Ico_succ_bot (by decide)]

theorem tops_exit :
    iprop(Invs X T κ ιs ∗ bigSep (Finset.Ico 1 32) (TopDone T c) ∗ atPos ER (cell c (.topSnd 0)) 0 ∅ 0 ∗ atPos ER (cell c (.topRcv 0)) 0 ∅ 0)
      ⊢ |={Set.univ}=> iprop(bigSep (Finset.range 32) (fun o => Zero c (.topSnd o)) ∗ bigSep (Finset.range 32) (fun o => Zero c (.topRcv o))
        ∗ bigSep (Finset.Ico 1 32) (fun o => topOwn T c (tokQ o)) ∗ bigSep (Finset.Ico 1 32) (topGot T c) : sProp 𝕄) := by
  have h := closes X T κ ιs (Finset.Ico 1 32) (fun o ho => top_exit X T κ ιs c o (Finset.mem_Ico.mp ho).2)
  rw [bigSep_sep', bigSep_sep', bigSep_sep'] at h
  rw [range_pop, range_pop]
  iintro ⟨#HI, HD, H1, H2⟩
  imod (close_mem X T κ ιs c (mem_all_topSnd (show 0 < 32 by decide)) 0 (fun r _ => none_topSnd_zero r)) $$ [H1] with H1
  · isplitr; · iexact HI
    iexact H1
  imod (close_mem X T κ ιs c (mem_all_topRcv (show 0 < 32 by decide)) 0 (fun r _ => none_topRcv_zero r)) $$ [H2] with H2
  · isplitr; · iexact HI
    iexact H2
  imod h $$ [HD] with ⟨H3, H4, H5, H6⟩
  · isplitr; · iexact HI
    iexact HD
  imodintro
  isplitl [H1 H3]
  · isplitl [H1]; · iexact H1
    iexact H3
  isplitl [H2 H4]
  · isplitl [H2]; · iexact H2
    iexact H4
  isplitl [H5]; · iexact H5
  iexact H6

theorem tops_back : iprop(spot (F := F) ((c, .top 0) : Key) ∗ bigSep (Finset.Ico 1 32) (topGot T c)) ⊢ AnyTops c := by
  have h := bigSep_each (s := Finset.Ico 1 32) (fun o (_ : o ∈ Finset.Ico 1 32) => (show topGot T c o ⊢ spot (F := F) ((c, .top o) : Key) by
    unfold topGot spot slot
    iintro H
    iexists _
    iexact H))
  iintro ⟨H0, H⟩
  iapply (anyTops_spots c).2
  rw [range_pop]
  isplitl [H0]; · iexact H0
  iapply h
  iexact H

/-- The buffer of the device's own maximum, holding anything. -/
def AnyMax : sProp 𝕄 := iprop(∃ f, (maxM.view.loc (c : Thread nD τ) ↦[Finset.univ]{fullShare} f))

theorem max_split : topOwn T c fullShare ⊢ iprop(topOwn T c (tokQ 0) ∗ topOwn T c (restQ 1) : sProp 𝕄) := by
  unfold topOwn tokQ
  exact (pointsTo_share (PosShare.mem_left_op_right fullShare)).1

theorem max_back : iprop(topOwn T c (restQ 32) ∗ topOwn T c (tokQ 0) ∗ bigSep (Finset.Ico 1 32) (fun o => topOwn T c (tokQ o))) ⊢ AnyMax (F := F) c := by
  iintro ⟨H, H0, H1⟩
  ihave H := (top_whole T c 32) $$ [H H0 H1]
  · isplitl [H]; · iexact H
    rw [range_pop]
    isplitl [H0]; · iexact H0
    iexact H1
  unfold AnyMax topOwn
  iexists (fun _ => T c)
  iapply (Entails.of_eq (show (maxM.view.loc (c : Thread nD τ) ↦[maxM.view.set]{fullShare} (fun _ => T c) : sProp 𝕄) = (maxM.view.loc (c : Thread nD τ) ↦[Finset.univ]{fullShare} (fun _ => T c)) by
    rw [show maxM.view.set = Finset.univ from View.set_whole _]))
  iexact H

theorem due_over : Duty.due 1032 = ∅ := Finset.eq_empty_of_forall_notMem fun y hy => by
  have h1 := due_none y hy
  have h2 := away_lvl (Duty.due_sub _ hy)
  omega

theorem owes_over : OW (F := F) c (Duty.due 1032) ⊢ iprop(∃ W, owes (c : Thread nD τ) (0 : CellTallies nD τ sig ℕ) W) := by
  unfold OW
  rw [due_over]
  iintro ⟨-, H⟩
  iapply (Entails.of_eq (show iprop(∃ W, owes (c : Thread nD τ) (debt c ∅) W) = (iprop(∃ W, owes (c : Thread nD τ) (0 : CellTallies nD τ sig ℕ) W) : sProp 𝕄) by
    rw [show debt c ∅ = 0 from Finset.sum_empty]))
  iexact H

end Exit

end Cert.Ring

end
-- ==== Proof.Body.lean ====
/-
# The body

The kernel's body from what a device is given to what it leaves.
-/
module

public import proofs.«01_k».proof.Proof.Exit

@[expose] public section

set_option backward.proofsInPublic true

noncomputable section

namespace Cert.Ring

open Cert.KernelIdeal Cert.KernelIdeal.Given
open Facts₀ Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

section Body

variable (X : Dev nD → Vec F S128x4096 .f32) (W : Dev nD → Vec F S4096x256 .f32) (T : Dev nD → F .f32) (κ : GSem nD τ sig → ℕ) (ιs : Key → ℕ) (c : Dev nD)

/-- What a device holds of the credits of one direction. -/
def CredInit (d : Bool) : sProp 𝕄 :=
  iprop(bigSep (Finset.Ico 0 13) (fun j => dutyTok ER (cell (nb (!d) c) (.cred d j)) 0 (.cred d j)) ∗ atPos ER (cell c (.cred d 0)) 0 ∅ 0
    ∗ bigSep (Finset.Ico 0 13) (fun j => cred (tallyAt (cell c (.cred d j)) (2 * j + 2) 1)))

theorem dir_init (d : Bool) : iprop(Head X c (major d) 0 ∗ Head X c (minor d) 0 ∗ CredInit c d) ⊢ Dir X c d 0 := by
  unfold CredInit Dir Give Take
  iintro ⟨H1, H2, H3, H4, H5⟩
  isplitl [H1]; · iexact H1
  isplitl [H2]; · iexact H2
  isplitl [H3]
  · isplitl [H3]; · iexact H3
    iapply (none_left (fun i => grant d c i) (le_refl 0))
    iempintro
  iexists ∅
  isplitr
  · ipureintro
    refine ⟨Finset.empty_subset _, ?_⟩
    rw [Finset.sdiff_empty, credits_card]
  isplitl [H4]; · iexact H4
  isplitl [H5]; · iexact H5
  iempintro

/-- What a device holds besides its buffers. -/
def Hold : sProp 𝕄 :=
  iprop(BarInit c ∗ bigSep Finset.univ (fun σ : Strm => StrmInit c σ) ∗ bigSep Finset.univ (fun σ : Strm => bigSep (Finset.range 4) (rdr c σ))
    ∗ (CredInit c false ∗ CredInit c true) ∗ bigSep (Finset.Ico 1 32) (fun o => readerAt ES ((c, .top o) : Key) 0) ∗ TopInit c)

/-- The buffer of the columns, holding anything. -/
def AnyCols : sProp 𝕄 := iprop(∃ f, (colM.view.loc (c : Thread nD τ) ↦[Finset.univ]{fullShare} f))

/-- The kernel's own buffers. -/
def Mem : sProp 𝕄 := iprop((Any c false ∗ Any c true) ∗ AnyCols c ∗ AnyMax c ∗ AnyTops c)

/-- The result's window, holding anything. -/
def AnyOut : sProp 𝕄 := iprop(∃ f, (outM.view.loc (c : Thread nD τ) ↦[Finset.univ]{fullShare} f))

/-- The semaphores at zero. -/
def Zeros : sProp 𝕄 := iprop(bigSep Duty.reps (Zero c) ∗ Zero c (.bar false))

/-- The buffers and semaphores, at the loop's end. -/
theorem close_all (hT : True) :
    iprop(Invs X T κ ιs ∗ atPos ER (cell c (.bar false)) 1 ∅ 0 ∗ Last X c false ∗ Last X c true ∗ bigSep (Finset.Ico 1 32) (TopDone T c)
        ∗ atPos ER (cell c (.topSnd 0)) 0 ∅ 0 ∗ atPos ER (cell c (.topRcv 0)) 0 ∅ 0)
      ⊢ |={Set.univ}=> iprop(Zeros c ∗ (Any c false ∗ Any c true) ∗ bigSep (Finset.Ico 1 32) (fun o => topOwn T c (tokQ o)) ∗ bigSep (Finset.Ico 1 32) (topGot T c) : sProp 𝕄) := by
  unfold Zeros
  rw [reps_split, strm_univ, strm_univ, bool_univ]
  iintro ⟨#HI, Hb, H1, H2, H3, H4, H5⟩
  imod (close_mem X T κ ιs c (Duty.mem_all (.bar false) trivial) 1 (none_top (.bar false) (fun _ _ h => Duty.noConfusion h) (fun _ _ h => Duty.noConfusion h))) $$ [Hb] with Hb
  · isplitr; · iexact HI
    iexact Hb
  imod (dir_exit X T κ ιs c false) $$ [H1] with ⟨C0, ⟨A1, A2, A3⟩, B1, B2, B3⟩
  · isplitr; · iexact HI
    iexact H1
  imod (dir_exit X T κ ιs c true) $$ [H2] with ⟨C1, ⟨D1, D2, D3⟩, E1, E2, E3⟩
  · isplitr; · iexact HI
    iexact H2
  imod (tops_exit X T κ ιs c) $$ [H3 H4 H5] with ⟨F1, F2, F3, F4⟩
  · isplitr; · iexact HI
    isplitl [H3]; · iexact H3
    isplitl [H4]; · iexact H4
    iexact H5
  imodintro
  isplitl [Hb C0 C1 A1 A2 B1 B2 D1 D2 E1 E2 F1 F2]
  · isplitr [Hb]
    · isplitr [F2]
      · isplitr [F1]
        · isplitr [A2 B2 D2 E2]
          · isplitl [C0 C1]
            · isplitl [C0]; · iexact C0
              iexact C1
            isplitl [A1 B1]
            · isplitl [A1]; · iexact A1
              iexact B1
            isplitl [E1]; · iexact E1
            iexact D1
          isplitl [A2 B2]
          · isplitl [A2]; · iexact A2
            iexact B2
          isplitl [E2]; · iexact E2
          iexact D2
        iexact F1
      iexact F2
    iexact Hb
  isplitl [A3 B3 D3 E3]
  · isplitl [A3 B3]
    · iapply (any_halves c false).2
      isplitl [A3]; · iexact A3
      iexact B3
    iapply (any_halves c true).2
    isplitl [E3]; · iexact E3
    iexact D3
  isplitl [F3]; · iexact F3
  iexact F4

/-- The kernel's body, run. -/
theorem body_run (hT : T = fun e => amaxEnd X W e) :
    iprop(Invs X T κ ιs ∗ OW c (Duty.due 0) ∗ Hold c ∗ InX X c ∗ InW W c ∗ AnyOut c ∗ Mem c)
      ⊢ Run c (body (F := F) c) (fun _ => iprop(InX X c ∗ InW W c ∗ (outM.view.loc (c : Thread nD τ) ↦[Finset.univ]{fullShare} outOf X W T c) ∗ Mem c ∗ Zeros c
          ∗ ∃ W', owes (c : Thread nD τ) (0 : CellTallies nD τ sig ℕ) W')) := by
  have hback := max_back T c
  unfold AnyMax at hback
  have hTc : amaxEnd X W c = T c := by rw [hT]
  unfold body Hold Mem AnyCols AnyOut
  iintro ⟨#HI, HO, ⟨HB, HS, HR, ⟨HC0, HC1⟩, HRT, HT⟩, HX, HW, ⟨%fo, Ho⟩, HA, ⟨%fc, Hc⟩, HM, HAT⟩
  unfold TopInit
  icases HT with ⟨HTs, HTp, HT0, HT0'⟩
  iapply (fupd_wp)
  imod (enter X T κ ιs c) $$ [HR HRT HA HAT] with ⟨#He, HS0, Hsp⟩
  · isplitr; · iexact HI
    isplitl [HR]; · iexact HR
    isplitl [HRT]; · iexact HRT
    isplitl [HA]; · iexact HA
    iexact HAT
  imodintro
  ihave HS0 := (Entails.of_eq (bigSep_sep' (s := Finset.univ) (Φ := fun σ : Strm => spot (F := F) ((c, .comm σ 0) : Key)) (Ψ := fun σ : Strm => bigSep (Finset.Ico 3 7) (rdr c σ)))) $$ HS0
  icases HS0 with ⟨Hs0, Hrd⟩
  iapply (run_step (meet_run X T κ ιs c)) $$ [HO HB]
  · isplitr; · iexact HI
    isplitl [HO]; · iexact HO
    isplitr; · iexact He
    iexact HB
  iintro %_ ⟨HO, #HN, Hb⟩
  iapply (run_step (fillCols_run W c fc)) $$ [HW Hc]
  · isplitl [HW]; · iexact HW
    iexact Hc
  iintro %_ ⟨HW, Hc⟩
  iapply (run_step (fillSlots_run X c)) $$ [HX Hs0]
  · isplitl [HX]; · iexact HX
    iexact Hs0
  iintro %x ⟨%hx, HX, Hch⟩
  subst hx
  have hgot : iprop(bigSep Finset.univ (fun σ : Strm => StrmInit c σ) ∗ bigSep Finset.univ (fun σ : Strm => bigSep (Finset.Ico 3 7) (rdr c σ))
      ∗ bigSep Finset.univ (fun σ : Strm => chunk X c σ 0 fullShare)) ⊢ bigSep Finset.univ (fun σ : Strm => Got X c σ 0) := by
    rw [← bigSep_sep', ← bigSep_sep']
    exact bigSep_each fun σ _ => got_zero X c σ
  iapply (run_step (startAll_run X T κ ιs c)) $$ [HO HS Hrd Hch]
  · isplitr; · iexact HI
    isplitr; · iexact HN
    isplitr; · iexact He
    isplitl [HO]; · iexact HO
    iapply hgot
    isplitl [HS]; · iexact HS
    isplitl [Hrd]; · iexact Hrd
    iexact Hch
  iintro %_ ⟨HO, ⟨H1, H2⟩, H3, H4⟩
  iapply (run_step (own_run X W c (B := fun _ => False) (far_ne false 0 (by decide) c))) $$ [Hc Ho]
  · isplitl [Hc]; · iexact Hc
    unfold Out
    iexists fo
    isplitr
    · ipureintro
      exact fun i h => h.elim
    iexact Ho
  iintro %a ⟨%ha, Hc, Ho⟩
  iapply (run_step (hops_run X W T κ ιs c 15 0 a rfl ha)) $$ [HO H1 H2 H3 H4 HC0 HC1 Hc Ho]
  · isplitr; · iexact HI
    isplitr; · iexact HN
    unfold State
    isplitl [HO]; · iexact HO
    isplitl [H1 H2 HC0]
    · iapply (dir_init X c false)
      isplitl [H1]; · iexact H1
      isplitl [H2]; · iexact H2
      iexact HC0
    isplitl [H3 H4 HC1]
    · iapply (dir_init X c true)
      isplitl [H3]; · iexact H3
      isplitl [H4]; · iexact H4
      iexact HC1
    isplitl [Hc]; · iexact Hc
    isplitl [Ho]
    · iapply (out_mono X W c (fun b hb => Or.inr (done_zero hb)))
      iexact Ho
    unfold Seen
    rw [show Finset.range (0 + 1) = {0} from rfl, bigSep_singleton]
    isplitr; · iexact He
    iexact He
  iintro %a' ⟨%ha', HSt⟩
  subst ha'
  iapply (run_step (lastHop_run X W T κ ιs c)) $$ [HSt]
  · isplitr; · iexact HI
    iexact HSt
  iintro %a'' ⟨%ha'', HO, HL0, HL1, Hc, Ho, #HSe⟩
  rw [hTc] at ha''
  subst ha''
  unfold AnyMax
  icases HM with ⟨%fm, HM⟩
  iapply (run_step (putTop_run T c fm)) $$ [HM]
  · iexact HM
  iintro %_ HM
  ihave HM := (max_split T c) $$ HM
  icases HM with ⟨HM0, HM⟩
  iapply (run_step (startTops_run X T κ ιs c 31 1 rfl (le_refl 1))) $$ [HO HM HTs]
  · isplitr; · iexact HI
    isplitr; · iexact HSe
    isplitl [HO]; · iexact HO
    isplitl [HM]; · iexact HM
    iexact HTs
  iintro %_ ⟨HO, HM, Hcr⟩
  iapply (run_step (waitTops_run X T κ ιs c 31 1 rfl (le_refl 1))) $$ [HO Hcr HTp]
  · isplitr; · iexact HI
    isplitl [HO]; · iexact HO
    isplitl [Hcr]; · iexact Hcr
    iexact HTp
  iintro %_ ⟨HO, HD⟩
  iapply (fupd_wp)
  imod (close_all X T κ ιs c trivial) $$ [Hb HL0 HL1 HD HT0 HT0'] with ⟨HZ, HA, HQ, HG⟩
  · isplitr; · iexact HI
    isplitl [Hb]; · iexact Hb
    isplitl [HL0]; · iexact HL0
    isplitl [HL1]; · iexact HL1
    isplitl [HD]; · iexact HD
    isplitl [HT0]; · iexact HT0
    iexact HT0'
  imodintro
  iapply (run_last (scaleOut_run X W T c)) $$ [HG Ho]
  · isplitl [HG]; · iexact HG
    iexact Ho
  iintro %_ ⟨HG, Ho⟩
  isplitl [HX]; · iexact HX
  isplitl [HW]; · iexact HW
  isplitl [Ho]; · iexact Ho
  isplitl [HA Hc HM HM0 HQ HG Hsp]
  · isplitl [HA]; · iexact HA
    isplitl [Hc]
    · unfold Cols
      iexists _
      iexact Hc
    isplitl [HM HM0 HQ]
    · iapply hback
      isplitl [HM]; · iexact HM
      isplitl [HM0]; · iexact HM0
      iexact HQ
    iapply (tops_back T c)
    isplitl [Hsp]; · iexact Hsp
    iexact HG
  isplitl [HZ]; · iexact HZ
  iapply (owes_over c)
  iexact HO

end Body

end Cert.Ring

end
-- ==== Proof.Deal.lean ====
/-
# Dealing out what the launch mints

The launch mints every token once, listed by the semaphore or the place it belongs to. The kernel holds them by the
device that uses them. Here they are handed over, and what a device holds at its start is put together.
-/
module

public import proofs.«01_k».proof.Proof.Body

@[expose] public section

set_option backward.proofsInPublic true

noncomputable section

namespace Cert.Ring

open Cert.KernelIdeal Cert.KernelIdeal.Given
open Facts₀ Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## Sums over devices and kinds, the other way round -/

theorem sep_swap {I J : Type} [DecidableEq I] [DecidableEq J] (s : Finset I) (t : Finset J) (Φ : I → J → sProp 𝕄) :
    bigSep s (fun i => bigSep t (Φ i)) = bigSep t (fun j => bigSep s (fun i => Φ i j)) := by
  rw [← SparseCore.bigSep_product s t (fun p => Φ p.1 p.2), ← SparseCore.bigSep_product t s (fun p => Φ p.2 p.1),
    ← Finset.image_swap_product t s,
    SparseCore.bigSep_image_of_injOn (f := Prod.swap) (Prod.swap_injective.injOn) (fun p : J × I => Φ p.2 p.1)]
  rfl

/-- What each device has for each index may be handed to the device an index's exchange comes from. -/
theorem redeal {I : Type} [DecidableEq I] (S : Finset I) (e : I → Dev nD ≃ Dev nD) (Φ : Dev nD → I → sProp 𝕄) :
    bigSep Finset.univ (fun c => bigSep S (Φ c)) = bigSep Finset.univ (fun c => bigSep S fun i => Φ (e i c) i) := by
  rw [sep_swap, sep_swap (Finset.univ : Finset (Dev nD)) S (fun c i => Φ (e i c) i)]
  exact bigSep_congr fun i _ => bigSep_univ_equiv (e i) (fun c => Φ c i)

theorem emp_all {I : Type} [DecidableEq I] (S : Finset I) : (iprop(emp) : sProp 𝕄) ⊢ bigSep S (fun _ => iprop(emp)) :=
  bigSep_of_persistent S _

/-! ## Semaphores -/

/-- One increment for each semaphore the kernel uses. -/
def Duty.cells : Finset Duty := insert (.bar false) Duty.reps

theorem bar_not_reps : Duty.bar false ∉ Duty.reps := by unfold Duty.reps; simp

theorem code_inj {x y : Duty} (hx : x ∈ Duty.cells) (hy : y ∈ Duty.cells) (h : x.sem = y.sem) : x = y :=
  (by decide +kernel : ∀ x ∈ Duty.cells, ∀ y ∈ Duty.cells, x.code = y.code → x = y) x hx y hy (code_eq h)

theorem sem_not_scoped : ∀ x ∈ Duty.reps, x.sem.isScoped .tc = true := by
  decide +kernel

theorem all_cell {x : Duty} (hx : x ∈ Duty.all) : ∃ y ∈ Duty.cells, y.sem = x.sem := by
  cases x with
  | bar d => exact ⟨.bar false, by unfold Duty.cells; simp, rfl⟩
  | cred d j => exact ⟨.cred d 0, by unfold Duty.cells Duty.reps; simp, rfl⟩
  | snd σ h => exact ⟨.snd σ (h % 4), by unfold Duty.cells Duty.reps; simp [Nat.mod_lt], snd_mod σ h⟩
  | rcv σ h => exact ⟨.rcv σ (h % 4), by unfold Duty.cells Duty.reps; simp [Nat.mod_lt], rcv_mod σ h⟩
  | topSnd o => exact ⟨.topSnd o, by unfold Duty.all at hx; simp at hx; unfold Duty.cells Duty.reps; simp; exact hx, rfl⟩
  | topRcv o => exact ⟨.topRcv o, by unfold Duty.all at hx; simp at hx; unfold Duty.cells Duty.reps; simp; exact hx, rfl⟩

/-- All devices' semaphores. -/
def cellSet : Finset (GSem nD τ sig) := (Finset.univ ×ˢ Duty.cells).image (fun p => cell p.1 p.2)

theorem cell_inj : Set.InjOn (fun p : Dev nD × Duty => cell p.1 p.2) ((Finset.univ ×ˢ Duty.cells : Finset (Dev nD × Duty)) : Set (Dev nD × Duty)) := by
  intro p hp q hq h
  rw [Finset.mem_coe, Finset.mem_product] at hp hq
  have h1 := congrArg (fun g : GSem nD τ sig => g.1.1) h
  have h2 := congrArg (fun g : GSem nD τ sig => g.2) h
  exact Prod.ext h1 (code_inj hp.2 hq.2 h2)

theorem cellSet_split (Φ : GSem nD τ sig → sProp 𝕄) :
    bigSep cellSet Φ = bigSep Finset.univ (fun c => bigSep Duty.cells fun x => Φ (cell c x)) := by
  unfold cellSet
  rw [SparseCore.bigSep_image_of_injOn cell_inj, SparseCore.bigSep_product]

/-- All tokens of increments. -/
def tokSet : Finset (GSem nD τ sig × ℕ × Duty) := (Finset.univ ×ˢ Duty.all).image (fun p => (cell p.1 p.2, p.2.rnd, p.2))

theorem tokSet_split (Φ : GSem nD τ sig × ℕ × Duty → sProp 𝕄) :
    bigSep tokSet Φ = bigSep Finset.univ (fun c => bigSep Duty.all fun x => Φ (cell c x, x.rnd, x)) := by
  unfold tokSet
  rw [SparseCore.bigSep_image_of_injOn, SparseCore.bigSep_product]
  intro p hp q hq h
  exact Prod.ext (congrArg (fun g : GSem nD τ sig × ℕ × Duty => g.1.1.1) h) (congrArg (fun g : GSem nD τ sig × ℕ × Duty => g.2.2) h)

/-- What holds of every semaphore for good holds at every increment's. -/
theorem cells_all (Ψ : GSem nD τ sig → sProp 𝕄) [∀ g, BI.Persistent (Ψ g)] :
    bigSep Finset.univ (fun c : Dev nD => bigSep Duty.cells fun x => Ψ (cell c x))
      ⊢ bigSep Finset.univ (fun c : Dev nD => bigSep Duty.all fun x => Ψ (cell c x)) :=
  bigSep_mono fun c _ => (bigSep_of_persistent Duty.all _).trans (bigSep_mono fun x hx => by
    obtain ⟨y, hy, he⟩ := all_cell hx
    rw [show cell c x = cell c y from Prod.ext rfl he.symm]
    exact bigSep_elim hy)

/-! ## Places -/

theorem spots_split (Ψ : Spot → sProp 𝕄) :
    bigSep spots Ψ = iprop((bigSep Finset.univ fun σ => bigSep (Finset.range 4) fun s => Ψ (.comm σ s)) ∗ bigSep (Finset.Ico 1 32) fun o => Ψ (.top o)) := by
  unfold spots
  rw [bigSep_union, SparseCore.bigSep_image_of_injOn, SparseCore.bigSep_image_of_injOn, SparseCore.bigSep_product]
  · rfl
  · intro o _ o' _ h; exact Spot.top.inj h
  · intro p _ q _ h; exact Prod.ext (Spot.comm.inj h).1 (Spot.comm.inj h).2
  · rw [Finset.disjoint_left]
    intro x
    cases x <;> simp

theorem keys_split (Ψ : Key → sProp 𝕄) :
    bigSep keys Ψ = bigSep Finset.univ (fun c => bigSep spots fun s => Ψ (c, s)) := by
  unfold keys
  rw [SparseCore.bigSep_product]

theorem hops_grid (Ψ : ℕ → ℕ → sProp 𝕄) :
    bigSep (Finset.range 4) (fun s => bigSep (Finset.range 4) (Ψ s)) = bigSep (Finset.range 16) fun h => Ψ ((h + 1) % 4) (h / 4) := by
  rw [← SparseCore.bigSep_product (Finset.range 4) (Finset.range 4) (fun p => Ψ p.1 p.2),
    show Finset.range 4 ×ˢ Finset.range 4 = (Finset.range 16).image (fun h => ((h + 1) % 4, h / 4)) by decide,
    SparseCore.bigSep_image_of_injOn]
  intro a ha b hb h
  have h1 := congrArg Prod.fst h
  have h2 := congrArg Prod.snd h
  simp only at h1 h2
  omega

theorem hops_four (Ψ : ℕ → sProp 𝕄) : bigSep (Finset.range 4) Ψ = bigSep (Finset.range 4) fun h => Ψ ((h + 1) % 4) := by
  conv_lhs => rw [show Finset.range 4 = (Finset.range 4).image (fun h => (h + 1) % 4) by decide]
  rw [SparseCore.bigSep_image_of_injOn]
  intro a ha b hb h
  simp only [Finset.coe_range, Set.mem_Iio] at ha hb h
  omega

/-! ## What one device holds -/

variable (c : Dev nD)

/-- The tokens of the increments device `c` makes. -/
def Pays : sProp 𝕄 := bigSep Duty.all fun x => dutyTok ER (cell (x.peer c) x) x.rnd x
/-- Where device `c` stands at its semaphores. -/
def Stands : sProp 𝕄 := bigSep Duty.cells fun x => atPos ER (cell c x) 0 ∅ 0
/-- The right to read device `c`'s places. -/
def Reads : sProp 𝕄 := bigSep spots fun s => readerAt ES ((c, s) : Key) 0
/-- The rights to write other devices' places. -/
def Writes : sProp 𝕄 :=
  iprop((bigSep Finset.univ fun σ : Strm => bigSep (Finset.range 16) fun h => writeTok ES (land (nb σ.left c) σ h) (h / 4 + 1))
    ∗ bigSep (Finset.Ico 1 32) fun o => writeTok ES ((shift o c, .top o) : Key) 1)
/-- What device `c` is owed. -/
def Owed : sProp 𝕄 := bigSep Duty.aways fun x => cred (tallyAt (cell c x) x.lvl x.amt)

theorem pays_deal :
    bigSep tokSet (fun x => (dutyTok ER x.1 x.2.1 x.2.2 : sProp 𝕄)) = bigSep Finset.univ (fun c => Pays c) := by
  rw [tokSet_split]
  exact redeal Duty.all (fun x => x.peer) (fun c x => dutyTok ER (cell c x) x.rnd x)

theorem stands_deal : bigSep cellSet (fun g => (atPos ER g 0 ∅ 0 : sProp 𝕄)) = bigSep Finset.univ (fun c => Stands c) := cellSet_split _

theorem reads_deal : bigSep keys (fun k => (readerAt ES k 0 : sProp 𝕄)) = bigSep Finset.univ (fun c => Reads c) := keys_split _

theorem writes_one :
    bigSep spots (fun s => bigSep (Finset.range 4) fun k => writeTok ES ((c, s) : Key) (k + 1))
      ⊢ iprop((bigSep Finset.univ fun σ : Strm => bigSep (Finset.range 16) fun h => writeTok ES (land c σ h) (h / 4 + 1))
        ∗ bigSep (Finset.Ico 1 32) fun o => writeTok ES ((c, .top o) : Key) 1 : sProp 𝕄) := by
  rw [spots_split]
  have h1 : (bigSep Finset.univ fun σ : Strm => bigSep (Finset.range 4) fun s => bigSep (Finset.range 4) fun k => writeTok ES ((c, .comm σ s) : Key) (k + 1))
      ⊢ (bigSep Finset.univ fun σ : Strm => bigSep (Finset.range 16) fun h => writeTok ES (land c σ h) (h / 4 + 1) : sProp 𝕄) :=
    bigSep_mono fun σ _ => Entails.of_eq (hops_grid (fun s k => writeTok ES ((c, .comm σ s) : Key) (k + 1)))
  have h2 : (bigSep (Finset.Ico 1 32) fun o => bigSep (Finset.range 4) fun k => writeTok ES ((c, .top o) : Key) (k + 1))
      ⊢ (bigSep (Finset.Ico 1 32) fun o => writeTok ES ((c, .top o) : Key) 1 : sProp 𝕄) :=
    bigSep_mono fun o _ => bigSep_elim (i := 0) (by decide)
  iintro ⟨H1, H2⟩
  isplitl [H1]
  · iapply h1; iexact H1
  · iapply h2; iexact H2

theorem writes_deal :
    bigSep (keys ×ˢ Finset.range 4) (fun x => (writeTok ES x.1 (x.2 + 1) : sProp 𝕄)) ⊢ bigSep Finset.univ (fun c => Writes c) := by
  rw [SparseCore.bigSep_product, keys_split]
  unfold Writes
  rw [bigSep_sep' Finset.univ]
  rw [← redeal Finset.univ (fun σ : Strm => nb σ.left) (fun c σ => bigSep (Finset.range 16) fun h => writeTok ES (land c σ h) (h / 4 + 1))]
  rw [← redeal (Finset.Ico 1 32) shift (fun c o => writeTok ES ((c, .top o) : Key) 1)]
  rw [← bigSep_sep' Finset.univ]
  exact bigSep_mono fun c _ => writes_one c

/-! ## Putting a start together -/

theorem some_hops (σ : Strm) (Φ : ℕ → sProp 𝕄) : bigSep (Finset.range 16) Φ ⊢ bigSep (Finset.Ico 0 σ.len) Φ :=
  bigSep_subset (by
    have := Duty.len_le σ
    intro x hx
    rw [Finset.mem_Ico] at hx
    exact Finset.mem_range.mpr (by omega))

theorem some_tops (Φ : ℕ → sProp 𝕄) : bigSep (Finset.range 32) Φ ⊢ bigSep (Finset.Ico 1 32) Φ :=
  bigSep_subset (by decide)

theorem owed_split :
    Owed c ⊢ iprop((cred (tallyAt (cell c (.bar false)) 1 1) ∗ cred (tallyAt (cell c (.bar true)) 1 1))
      ∗ (bigSep Finset.univ fun d => bigSep (Finset.Ico 0 13) fun j => cred (tallyAt (cell c (.cred d j)) (2 * j + 2) 1))
      ∗ (bigSep Finset.univ fun σ : Strm => bigSep (Finset.Ico 0 σ.len) (supR c σ))
      ∗ (bigSep (Finset.Ico 1 32) fun o => cred (tallyAt (cell c (.topRcv o)) 100 Duty.topN)) : sProp 𝕄) := by
  have h1 : Owed c ⊢ (bigSep Duty.all fun x => if x.away then cred (tallyAt (cell c x) x.lvl x.amt) else iprop(emp) : sProp 𝕄) := by
    unfold Owed Duty.aways
    rw [bigSep_filter]
    exact Entails.of_eq rfl
  refine h1.trans ?_
  rw [all_split, bool_univ]
  have hc : (bigSep Finset.univ fun d => bigSep (Finset.range 13) fun j =>
      if (Duty.cred d j).away then cred (tallyAt (cell c (.cred d j)) (Duty.cred d j).lvl (Duty.cred d j).amt) else iprop(emp))
      ⊢ (bigSep Finset.univ fun d => bigSep (Finset.Ico 0 13) fun j => cred (tallyAt (cell c (.cred d j)) (2 * j + 2) 1) : sProp 𝕄) :=
    bigSep_mono fun d _ => by
      rw [← Finset.range_eq_Ico]
      exact bigSep_mono fun j hj => by rw [if_pos (show Duty.away (.cred d j) from Finset.mem_range.mp hj)]; exact BI.Entails.refl _
  have hr : (bigSep Finset.univ fun σ => bigSep (Finset.range 16) fun h =>
      if (Duty.rcv σ h).away then cred (tallyAt (cell c (.rcv σ h)) (Duty.rcv σ h).lvl (Duty.rcv σ h).amt) else iprop(emp))
      ⊢ (bigSep Finset.univ fun σ : Strm => bigSep (Finset.Ico 0 σ.len) (supR c σ) : sProp 𝕄) :=
    bigSep_mono fun σ _ => (some_hops σ _).trans (bigSep_mono fun j hj => by
      unfold supR
      rw [if_pos (show Duty.away (.rcv σ j) from (Finset.mem_Ico.mp hj).2)]; exact BI.Entails.refl _)
  have ht : (bigSep (Finset.range 32) fun o =>
      if (Duty.topRcv o).away then cred (tallyAt (cell c (.topRcv o)) (Duty.topRcv o).lvl (Duty.topRcv o).amt) else iprop(emp))
      ⊢ (bigSep (Finset.Ico 1 32) fun o => cred (tallyAt (cell c (.topRcv o)) 100 Duty.topN) : sProp 𝕄) :=
    (some_tops _).trans (bigSep_mono fun j hj => by rw [if_pos (show Duty.away (.topRcv j) from Finset.mem_Ico.mp hj)]; exact BI.Entails.refl _)
  iintro ⟨⟨⟨⟨⟨⟨Hb, Hb'⟩, Hc⟩, -⟩, Hr⟩, -⟩, Ht⟩
  isplitl [Hb Hb']
  · isplitl [Hb]
    · iapply (Entails.of_eq (if_pos (show Duty.away (.bar false) from trivial))); iexact Hb
    · iapply (Entails.of_eq (if_pos (show Duty.away (.bar true) from trivial))); iexact Hb'
  isplitl [Hc]
  · iapply hc; iexact Hc
  isplitl [Hr]
  · iapply hr; iexact Hr
  · iapply ht; iexact Ht

theorem owed_bars : iprop(cred (tallyAt (cell c (.bar false)) 1 1) ∗ cred (tallyAt (cell c (.bar true)) 1 1)) ⊢ (cred (tallyAt (cell c (.bar false)) 1 2) : sProp 𝕄) := by
  have h : (tallyAt (cell c (.bar false)) 1 1 + tallyAt (cell c (.bar true)) 1 1 : CellTallies nD τ sig ℕ) = tallyAt (cell c (.bar false)) 1 2 := by
    rw [show cell c (.bar true) = cell c (.bar false) from rfl]
    unfold tallyAt
    exact (Pi.single_add _ _ _).symm.trans (by rw [← Finsupp.single_add]; rfl)
  rw [← h]
  exact (cred_add _ _).2

variable (X : Dev nD → Vec F S128x4096 .f32) (T : Dev nD → F .f32) (κ : GSem nD τ sig → ℕ) (ιs : Key → ℕ)

theorem pays_split :
    Pays c ⊢ iprop((dutyTok ER (cell (nb false c) (.bar false)) 0 (.bar false) ∗ dutyTok ER (cell (nb true c) (.bar true)) 0 (.bar true))
      ∗ (bigSep Finset.univ fun d => bigSep (Finset.Ico 0 13) fun j => dutyTok ER (cell (nb (!d) c) (.cred d j)) 0 (.cred d j))
      ∗ (bigSep Finset.univ fun σ : Strm => bigSep (Finset.range 16) fun h => dutyTok ER (cell c (.snd σ h)) (h / 4) (.snd σ h))
      ∗ (bigSep Finset.univ fun σ : Strm => bigSep (Finset.range 16) fun h => dutyTok ER (cell (nb σ.left c) (.rcv σ h)) (h / 4) (.rcv σ h))
      ∗ (bigSep (Finset.Ico 1 32) fun o => dutyTok ER (cell c (.topSnd o)) 0 (.topSnd o))
      ∗ (bigSep (Finset.Ico 1 32) fun o => dutyTok ER (cell (shift o c) (.topRcv o)) 0 (.topRcv o)) : sProp 𝕄) := by
  unfold Pays
  rw [all_split, bool_univ, Finset.range_eq_Ico (a := 13)]
  iintro ⟨⟨⟨⟨⟨⟨Hb, Hb'⟩, Hc⟩, Hs⟩, Hr⟩, Hu⟩, Ht⟩
  isplitl [Hb Hb']
  · isplitl [Hb]
    · iexact Hb
    · iexact Hb'
  isplitl [Hc]
  · iexact Hc
  isplitl [Hs]
  · iexact Hs
  isplitl [Hr]
  · iexact Hr
  isplitl [Hu]
  · iapply (some_tops _); iexact Hu
  · iapply (some_tops _); iexact Ht

theorem stands_split :
    Stands c ⊢ iprop(atPos ER (cell c (.bar false)) 0 ∅ 0 ∗ (atPos ER (cell c (.cred false 0)) 0 ∅ 0 ∗ atPos ER (cell c (.cred true 0)) 0 ∅ 0)
      ∗ (bigSep Finset.univ fun σ : Strm => bigSep (Finset.range 4) fun h => atPos ER (cell c (.snd σ h)) 0 ∅ 0)
      ∗ (bigSep Finset.univ fun σ : Strm => bigSep (Finset.range 4) fun h => atPos ER (cell c (.rcv σ h)) 0 ∅ 0)
      ∗ (atPos ER (cell c (.topSnd 0)) 0 ∅ 0 ∗ bigSep (Finset.Ico 1 32) fun o => atPos ER (cell c (.topSnd o)) 0 ∅ 0)
      ∗ (atPos ER (cell c (.topRcv 0)) 0 ∅ 0 ∗ bigSep (Finset.Ico 1 32) fun o => atPos ER (cell c (.topRcv o)) 0 ∅ 0) : sProp 𝕄) := by
  rw [show Stands (F := F) c = iprop(atPos ER (cell c (.bar false)) 0 ∅ 0 ∗ bigSep Duty.reps fun x => atPos ER (cell c x) 0 ∅ 0) from bigSep_insert bar_not_reps, reps_split, bool_univ, range_pop, range_pop]
  iintro ⟨Hb, ⟨⟨⟨⟨⟨Hc, Hc'⟩, Hs⟩, Hr⟩, Hu⟩, Ht⟩⟩
  isplitl [Hb]
  · iexact Hb
  isplitl [Hc Hc']
  · isplitl [Hc]
    · iexact Hc
    · iexact Hc'
  isplitl [Hs]
  · iexact Hs
  isplitl [Hr]
  · iexact Hr
  isplitl [Hu]
  · iexact Hu
  · iexact Ht

theorem posS_init (σ : Strm) :
    iprop(Invs X T κ ιs ∗ bigSep (Finset.range 4) fun h => atPos ER (cell c (.snd σ h)) 0 ∅ 0) ⊢ bigSep (Finset.Ico 0 4) (posS (F := F) c σ) := by
  rw [← Finset.range_eq_Ico]
  refine bigSep_with_persistent fun h hh => ?_
  have hl : h < σ.len := by have := Duty.len_ge σ; have := Finset.mem_range.mp hh; omega
  have h4 : h / 4 = 0 := Nat.div_eq_of_lt (Finset.mem_range.mp hh)
  unfold posS
  rw [h4]
  have := Invs_reached X T κ ιs c (x := .snd σ h) hl
  refine (show iprop(Invs X T κ ιs ∗ atPos ER (cell c (.snd σ h)) 0 ∅ 0) ⊢ iprop(atPos ER (cell c (.snd σ h)) 0 ∅ 0 ∗ reached ER (cell c (.snd σ h)) 0) from ?_)
  iintro ⟨#HI, H⟩
  isplitl [H]
  · iexact H
  · iapply this; iexact HI

theorem posR_init (σ : Strm) :
    iprop(Invs X T κ ιs ∗ bigSep (Finset.range 4) fun h => atPos ER (cell c (.rcv σ h)) 0 ∅ 0) ⊢ bigSep (Finset.Ico 0 4) (posR (F := F) c σ) := by
  rw [← Finset.range_eq_Ico]
  refine bigSep_with_persistent fun h hh => ?_
  have hl : h < σ.len := by have := Duty.len_ge σ; have := Finset.mem_range.mp hh; omega
  have h4 : h / 4 = 0 := Nat.div_eq_of_lt (Finset.mem_range.mp hh)
  unfold posR
  rw [h4]
  have := Invs_reached X T κ ιs c (x := .rcv σ h) hl
  refine (show iprop(Invs X T κ ιs ∗ atPos ER (cell c (.rcv σ h)) 0 ∅ 0) ⊢ iprop(atPos ER (cell c (.rcv σ h)) 0 ∅ 0 ∗ reached ER (cell c (.rcv σ h)) 0) from ?_)
  iintro ⟨#HI, H⟩
  isplitl [H]
  · iexact H
  · iapply this; iexact HI

/-- A stream's holdings at the start. -/
theorem strm_init (σ : Strm) :
    iprop(Invs X T κ ιs ∗ (bigSep (Finset.range 4) fun h => atPos ER (cell c (.snd σ h)) 0 ∅ 0) ∗ (bigSep (Finset.range 4) fun h => atPos ER (cell c (.rcv σ h)) 0 ∅ 0)
      ∗ (bigSep (Finset.range 16) fun h => dutyTok ER (cell c (.snd σ h)) (h / 4) (.snd σ h))
      ∗ (bigSep (Finset.range 16) fun h => dutyTok ER (cell (nb σ.left c) (.rcv σ h)) (h / 4) (.rcv σ h))
      ∗ (bigSep (Finset.range 16) fun h => writeTok ES (land (nb σ.left c) σ h) (h / 4 + 1))
      ∗ bigSep (Finset.Ico 0 σ.len) (supR c σ)) ⊢ StrmInit (F := F) c σ := by
  unfold StrmInit
  have hsup : bigSep (Finset.Ico 0 σ.len) (sup (F := F) c σ) = iprop((bigSep (Finset.Ico 0 σ.len) fun h => dutyTok ER (cell c (.snd σ h)) (h / 4) (.snd σ h))
      ∗ (bigSep (Finset.Ico 0 σ.len) fun h => dutyTok ER (cell (nb σ.left c) (.rcv σ h)) (h / 4) (.rcv σ h))
      ∗ (bigSep (Finset.Ico 0 σ.len) fun h => writeTok ES (land (nb σ.left c) σ h) (h / 4 + 1))) := by
    unfold sup
    rw [bigSep_sep', bigSep_sep']
  rw [hsup]
  iintro ⟨#HI, Hs, Hr, Hts, Htr, Hw, Hc⟩
  isplitl [Hs]
  · iapply (posS_init c X T κ ιs σ)
    isplitr
    · iexact HI
    · iexact Hs
  isplitl [Hr]
  · iapply (posR_init c X T κ ιs σ)
    isplitr
    · iexact HI
    · iexact Hr
  isplitr [Hc]
  · isplitl [Hts]
    · iapply (some_hops σ _); iexact Hts
    isplitl [Htr]
    · iapply (some_hops σ _); iexact Htr
    · iapply (some_hops σ _); iexact Hw
  · iexact Hc

theorem reads_split :
    Reads c ⊢ iprop((bigSep Finset.univ fun σ : Strm => bigSep (Finset.range 4) (rdr c σ)) ∗ bigSep (Finset.Ico 1 32) (fun o => readerAt ES ((c, .top o) : Key) 0) : sProp 𝕄) := by
  unfold Reads
  rw [spots_split]
  have h : (bigSep Finset.univ fun σ : Strm => bigSep (Finset.range 4) fun s => readerAt ES ((c, .comm σ s) : Key) 0)
      ⊢ (bigSep Finset.univ fun σ : Strm => bigSep (Finset.range 4) (rdr c σ) : sProp 𝕄) :=
    bigSep_mono fun σ _ => by
      rw [hops_four]
      exact bigSep_mono fun h hh => by
        unfold rdr
        rw [Nat.div_eq_of_lt (Finset.mem_range.mp hh)]
        exact BI.Entails.refl _
  iintro ⟨H1, H2⟩
  isplitl [H1]
  · iapply h; iexact H1
  · iexact H2

/-- What a device holds at its start, out of its deal. -/
theorem hold_init :
    iprop(Invs X T κ ιs ∗ (Pays c ∗ Stands c ∗ Reads c ∗ Writes c) ∗ Owed c) ⊢ Hold (F := F) c := by
  have htop : TopInit (F := F) c = iprop(((bigSep (Finset.Ico 1 32) fun o => dutyTok ER (cell c (.topSnd o)) 0 (.topSnd o))
      ∗ (bigSep (Finset.Ico 1 32) fun o => dutyTok ER (cell (shift o c) (.topRcv o)) 0 (.topRcv o))
      ∗ (bigSep (Finset.Ico 1 32) fun o => writeTok ES ((shift o c, .top o) : Key) 1))
      ∗ ((bigSep (Finset.Ico 1 32) fun o => atPos ER (cell c (.topSnd o)) 0 ∅ 0) ∗ (bigSep (Finset.Ico 1 32) fun o => atPos ER (cell c (.topRcv o)) 0 ∅ 0)
        ∗ (bigSep (Finset.Ico 1 32) fun o => cred (tallyAt (cell c (.topRcv o)) 100 Duty.topN)))
      ∗ atPos ER (cell c (.topSnd 0)) 0 ∅ 0 ∗ atPos ER (cell c (.topRcv 0)) 0 ∅ 0) := by
    unfold TopInit TopSup TopPos
    rw [bigSep_sep', bigSep_sep', bigSep_sep', bigSep_sep']
  have hstrm : iprop(Invs X T κ ιs ∗ (bigSep Finset.univ fun σ : Strm => bigSep (Finset.range 4) fun h => atPos ER (cell c (.snd σ h)) 0 ∅ 0)
      ∗ (bigSep Finset.univ fun σ : Strm => bigSep (Finset.range 4) fun h => atPos ER (cell c (.rcv σ h)) 0 ∅ 0)
      ∗ (bigSep Finset.univ fun σ : Strm => bigSep (Finset.range 16) fun h => dutyTok ER (cell c (.snd σ h)) (h / 4) (.snd σ h))
      ∗ (bigSep Finset.univ fun σ : Strm => bigSep (Finset.range 16) fun h => dutyTok ER (cell (nb σ.left c) (.rcv σ h)) (h / 4) (.rcv σ h))
      ∗ (bigSep Finset.univ fun σ : Strm => bigSep (Finset.range 16) fun h => writeTok ES (land (nb σ.left c) σ h) (h / 4 + 1))
      ∗ (bigSep Finset.univ fun σ : Strm => bigSep (Finset.Ico 0 σ.len) (supR c σ)))
      ⊢ bigSep Finset.univ (fun σ : Strm => StrmInit (F := F) c σ) := by
    rw [← bigSep_sep', ← bigSep_sep', ← bigSep_sep', ← bigSep_sep', ← bigSep_sep']
    exact bigSep_with_persistent fun σ _ => strm_init c X T κ ιs σ
  unfold Hold BarInit CredInit
  rw [htop]
  iintro ⟨#HI, ⟨HP, HS, HR, HW⟩, HO⟩
  ihave HP := (pays_split c) $$ HP
  icases HP with ⟨⟨Hb, Hb'⟩, Hpc, Hps, Hpr, Hpu, Hpt⟩
  ihave HS := (stands_split c) $$ HS
  icases HS with ⟨Hsb, ⟨Hsc, Hsc'⟩, Hss, Hsr, ⟨Hsu0, Hsu⟩, ⟨Hst0, Hst⟩⟩
  ihave HR := (reads_split c) $$ HR
  icases HR with ⟨HR, HRt⟩
  ihave HO := (owed_split c) $$ HO
  icases HO with ⟨HOb, HOc, HOr, HOt⟩
  ihave HOb := (owed_bars c) $$ HOb
  ihave HOc := (Entails.of_eq (bool_univ _)) $$ HOc
  icases HOc with ⟨HOc, HOc'⟩
  ihave Hpc := (Entails.of_eq (bool_univ _)) $$ Hpc
  icases Hpc with ⟨Hpc, Hpc'⟩
  ihave HW := (Entails.of_eq (show Writes (F := F) c = iprop((bigSep Finset.univ fun σ : Strm => bigSep (Finset.range 16) fun h => writeTok ES (land (nb σ.left c) σ h) (h / 4 + 1))
    ∗ bigSep (Finset.Ico 1 32) fun o => writeTok ES ((shift o c, .top o) : Key) 1) from rfl)) $$ HW
  icases HW with ⟨HW, HWt⟩
  isplitl [Hb Hb' Hsb HOb]
  · isplitl [Hb']
    · iexact Hb'
    isplitl [Hb]
    · iexact Hb
    isplitl [Hsb]
    · iexact Hsb
    · iexact HOb
  isplitl [Hss Hsr Hps Hpr HW HOr]
  · iapply hstrm
    isplitr
    · iexact HI
    isplitl [Hss]
    · iexact Hss
    isplitl [Hsr]
    · iexact Hsr
    isplitl [Hps]
    · iexact Hps
    isplitl [Hpr]
    · iexact Hpr
    isplitl [HW]
    · iexact HW
    · iexact HOr
  isplitl [HR]
  · iexact HR
  isplitl [Hpc Hpc' HOc HOc' Hsc Hsc']
  · isplitl [Hpc HOc Hsc]
    · isplitl [Hpc]
      · iexact Hpc
      isplitl [Hsc]
      · iexact Hsc
      · iexact HOc
    · isplitl [Hpc']
      · iexact Hpc'
      isplitl [Hsc']
      · iexact Hsc'
      · iexact HOc'
  isplitl [HRt]
  · iexact HRt
  isplitl [Hpu Hpt HWt]
  · isplitl [Hpu]
    · iexact Hpu
    isplitl [Hpt]
    · iexact Hpt
    · iexact HWt
  isplitl [Hsu Hst HOt]
  · isplitl [Hsu]
    · iexact Hsu
    isplitl [Hst]
    · iexact Hst
    · iexact HOt
  isplitl [Hsu0]
  · iexact Hsu0
  · iexact Hst0

end Cert.Ring

end
-- ==== Proof.Launch.lean ====
/-
# The launch

What the launch has in hand becomes what the devices start from, and the run of the whole program follows from the run
of one device: it ends, with the result array of every device at the computed contents, the inputs as they were, and
every semaphore at zero.
-/
module

public import proofs.«01_k».proof.Proof.Deal
public import Idealize.ShloMosaic.Lib.Pipeline.Regions

@[expose] public section

set_option backward.proofsInPublic true

noncomputable section

namespace Cert.Ring

open Cert.KernelIdeal Cert.KernelIdeal.Given
open Facts₀ Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

open Idealize.ShloMosaic.Pipeline (Dat Cfg Window BodyObligation cellOf)

/-! ## The layout -/

/-- The staging semaphores. -/
abbrev stageSems : Fin 1 → List (DmaSem sig) :=
  fun | 0 => Pipeline.specSems spec0 | ⟨_ + 1, h⟩ => absurd h (Nat.not_lt.2 (Nat.le_add_left _ _))
theorem stage_nodup : ∀ p : Fin 1, (stageSems p).Nodup := by decide
theorem stage_disj : ∀ p p' : Fin 1, p ≠ p' → (stageSems p).Forall (· ∉ stageSems p') := by decide
theorem stage_inj : Function.Injective (Pipeline.cellOf (nD := nD) (τ := τ) cfgs) :=
  Pipeline.cellOf_injective_of_table cfgs stageSems (fun | 0 => rfl | ⟨_ + 1, h⟩ => absurd h (Nat.not_lt.2 (Nat.le_add_left _ _))) stage_nodup stage_disj

theorem wins : Pipeline.WinFacts spec0 := by decide
theorem wins_whole : ∀ w : Fin 3, (spec0 w).arr.IsWhole :=
  fun | 0 => Memref.isWhole_whole _ | 1 => Memref.isWhole_whole _ | 2 => Memref.isWhole_whole _ | ⟨_ + 3, h⟩ => absurd h (Nat.not_lt.2 (Nat.le_add_left _ _))
theorem stages_whole : ∀ (w : Fin 3) (s : Fin (spec0 w).nbuf), ((spec0 w).stage s).IsWhole :=
  fun | 0 => fun _ => Memref.isWhole_whole _ | 1 => fun _ => Memref.isWhole_whole _ | 2 => fun _ => Memref.isWhole_whole _ | ⟨_ + 3, h⟩ => absurd h (Nat.not_lt.2 (Nat.le_add_left _ _))

theorem points : cfg0.N = 1 := by decide
/-- The one point of the grid. -/
def t₀ : Fin cfg0.N := ⟨0, by rw [points]; decide⟩
theorem only_point (t : Fin cfg0.N) : t = t₀ := by
  obtain ⟨t, ht⟩ := t; have := points; exact Fin.ext (by simp only [t₀]; omega)

theorem each_win (Φ : Fin cfg0.W → sProp 𝕄) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

theorem scratch_eq (c : Dev nD) :
    (Pipeline.scopedRest (Ix := ℕ) (Name := ℕ) (U := UU) (Lvl := ℕ) (Val := Elt F) cfg0.spec c : sProp 𝕄)
      = iprop((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f)
        ∗ (∃ f : Buf (Elt F) ((c : Thread nD τ).loc cc0_scratch3), ((c : Thread nD τ).loc cc0_scratch3) ↦{fullShare} f)
        ∗ (∃ f : Buf (Elt F) ((c : Thread nD τ).loc cc0_scratch4), ((c : Thread nD τ).loc cc0_scratch4) ↦{fullShare} f)) :=
  Pipeline.scopedRest_eq_of_list spec0 c [cc0_scratch0, cc0_scratch1, cc0_scratch2, cc0_scratch3, cc0_scratch4] (by decide) (by decide)

theorem scratch_mem (c : Dev nD) :
    (Pipeline.scopedRest (Ix := ℕ) (Name := ℕ) (U := UU) (Lvl := ℕ) (Val := Elt F) cfg0.spec c : sProp 𝕄) ⊢ Mem c := by
  rw [scratch_eq]
  unfold Mem Any AnyCols AnyMax AnyTops
  iintro ⟨H0, H1, H2, H3, H4⟩
  isplitl [H0 H1]
  · isplitl [H0]
    · iexact H0
    · iexact H1
  isplitl [H2]
  · iexact H2
  isplitl [H3]
  · iexact H3
  · iexact H4

theorem mem_scratch (c : Dev nD) :
    Mem c ⊢ (Pipeline.scopedRest (Ix := ℕ) (Name := ℕ) (U := UU) (Lvl := ℕ) (Val := Elt F) cfg0.spec c : sProp 𝕄) := by
  rw [scratch_eq]
  unfold Mem Any AnyCols AnyMax AnyTops
  iintro ⟨⟨H0, H1⟩, H2, H3, H4⟩
  isplitl [H0]
  · iexact H0
  isplitl [H1]
  · iexact H1
  isplitl [H2]
  · iexact H2
  isplitl [H3]
  · iexact H3
  · iexact H4

/-! ## The kernel's semaphores -/

/-- The kernel's own semaphores. -/
abbrev osem (k : {x : Duty // x ∈ Duty.reps}) : SemLoc sig := k.1.sem

theorem reps_cells {x : Duty} (h : x ∈ Duty.reps) : x ∈ Duty.cells := Finset.mem_insert_of_mem h

theorem stage_apart : ∀ x ∈ Duty.reps, ∀ (w : Fin 3) (s : Fin (spec0 w).nbuf), x.sem ≠ .dma ((spec0 w).sem s) := by
  decide +kernel

theorem own_sems : Pipeline.OwnSemFacts cfg0.spec osem where
  isScoped k := sem_not_scoped k.1 k.2
  inj a b h := Subtype.ext (code_inj (reps_cells a.2) (reps_cells b.2) h)
  disj k w s := stage_apart k.1 k.2 w s

theorem each_rep (Φ : Duty → sProp 𝕄) : (bigSep (Finset.univ : Finset {x : Duty // x ∈ Duty.reps}) fun k => Φ k.1) = bigSep Duty.reps Φ := by
  conv_rhs => rw [show Duty.reps = (Finset.univ : Finset {x : Duty // x ∈ Duty.reps}).image Subtype.val from
    Finset.ext fun x => by simp]
  rw [SparseCore.bigSep_image_of_injOn Subtype.val_injective.injOn]

theorem own_zero (c : Dev nD) :
    (Pipeline.ownSems0 (Ix := ℕ) (Name := ℕ) (U := UU) (Lvl := ℕ) (Val := Elt F) (τ := τ) osem c : sProp 𝕄) = bigSep Duty.reps (Zero c) :=
  each_rep (fun x => semVal (cell c x) 0)

theorem bar_zero (c : Dev nD) : (unscopedSems0 c : sProp 𝕄) = Zero c (.bar false) := by
  unfold unscopedSems0
  rw [bigSep_eq_bigSepL_of_eq [SemLoc.reg (sig.barrier 0 rfl)] (by decide) (by decide)]
  rfl

/-! ## What the devices start from -/

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-- Device `c`'s rows. -/
def xIn (c : Dev nD) : Vec F S128x4096 .f32 := (win0_0.blk (0 : Fin 1)).view.read (Elt F) ((s₀ m ρ).mem ((c : Thread nD τ).loc main_arg0))
/-- Device `c`'s columns. -/
def wIn (c : Dev nD) : Vec F S4096x256 .f32 := (win0_1.blk (0 : Fin 1)).view.read (Elt F) ((s₀ m ρ).mem ((c : Thread nD τ).loc main_arg1))
/-- The devices' maxima. -/
def tops (e : Dev nD) : F .f32 := amaxEnd (xIn m ρ) (wIn m ρ) e
/-- Device `c`'s result. -/
def outAt (c : Dev nD) : Vec F S4096x256 .f32 := outOf (xIn m ρ) (wIn m ρ) (tops m ρ) c

/-- What every device owes at launch. -/
def O₀ (c : Dev nD) : CellTallies nD τ sig ℕ := debt c (Duty.due 0)

/-- A device's deal of what the launch mints. -/
def Deal (c : Dev nD) : sProp 𝕄 := iprop(Pays c ∗ Stands c ∗ Reads c ∗ Writes c)

/-- The invariants but for the order of waiting. -/
def Made (κ : GSem nD τ sig → ℕ) (ιs : Key → ℕ) : sProp 𝕄 :=
  iprop(bigSep (Finset.univ : Finset (Dev nD)) (fun c => bigSep Duty.all (fun x =>
      iprop(cellInv ER (Rd (xIn m ρ) (tops m ρ)) (κ (cell c x)) (cell c x) ∗ reached ER (cell c x) 0)))
    ∗ bigSep keys (fun k => slotInv ES (ιs k) k (spot k)))

instance Made_persistent (κ : GSem nD τ sig → ℕ) (ιs : Key → ℕ) : BI.Persistent (Made m ρ κ ιs) := by unfold Made; infer_instance

def G' (c : Dev nD) : sProp 𝕄 := iprop(∃ κ ιs, Made m ρ κ ιs ∗ Deal c)

def start (c : Dev nD) : sProp 𝕄 := iprop((∃ κ ιs, Invs (xIn m ρ) (tops m ρ) κ ιs ∗ Deal c) ∗ Owed c)

def Φ₀ (c : Dev nD) : sProp 𝕄 := iprop(start m ρ c ∗ Mem c)
def Φ₁ (c : Dev nD) : sProp 𝕄 := iprop(Mem c ∗ Zeros c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xIn m ρ c
    | ⟨1, _⟩ => wIn m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 3)).fetch t = true := by rw [only_point t]; rfl
theorem fetch_1 (t : Fin cfg0.N) : (cfg0.win (1 : Fin 3)).fetch t = true := by rw [only_point t]; rfl

theorem owns_whole (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## One device -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt 0 t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt 0 t₀.succ ∗ stg c cc0_stg0_0 (xIn m ρ c) ∗ stg c cc0_stg1_0 (wIn m ρ c) ∗ stg c cc0_stg2_0 (outAt m ρ c))

theorem body_pre (c : Dev nD) :
    bodyPre m ρ c ⊢ iprop(∃ κ ιs, Invs (xIn m ρ) (tops m ρ) κ ιs ∗ OW c (Duty.due 0) ∗ Hold c ∗ InX (xIn m ρ) c ∗ InW (wIn m ρ) c ∗ AnyOut c ∗ Mem c) := by
  unfold bodyPre Φ₀ start Deal
  iintro ⟨⟨⟨⟨%κ, %ιs, #HI, HD⟩, HO⟩, HM⟩, Ho, ⟨%d0, %g0, %hg0, Hx⟩, ⟨%d1, %g1, %hg1, Hw⟩, ⟨%d2, %g2, %hg2, Hout⟩⟩
  have hx : g0 = xIn m ρ c := by rw [hg0]; unfold Dat.before; rw [if_pos (fetch_0 t₀)]; rfl
  have hw : g1 = wIn m ρ c := by rw [hg1]; unfold Dat.before; rw [if_pos (fetch_1 t₀)]; rfl
  subst hx
  subst hw
  iexists κ, ιs
  isplitr
  · iexact HI
  isplitl [Ho]
  · unfold Dat.owesAt Pipeline.owesWithin
    icases Ho with ⟨%W, %hW, HO⟩
    unfold OW
    isplitr
    · ipureintro; exact Finset.filter_subset _ _
    · iexists W; iexact HO
  isplitl [HD HO]
  · iapply (hold_init c (xIn m ρ) (tops m ρ) κ ιs)
    isplitr
    · iexact HI
    isplitl [HD]
    · iexact HD
    · iexact HO
  isplitl [Hx]
  · unfold InX; iexact Hx
  isplitl [Hw]
  · unfold InW; iexact Hw
  isplitl [Hout]
  · unfold AnyOut; iexists _; iexact Hout
  · iexact HM

theorem body_post (c : Dev nD) :
    iprop(InX (xIn m ρ) c ∗ InW (wIn m ρ) c ∗ (outM.view.loc (c : Thread nD τ) ↦[Finset.univ]{fullShare} outOf (xIn m ρ) (wIn m ρ) (tops m ρ) c)
      ∗ Mem c ∗ Zeros c ∗ ∃ W', owes (c : Thread nD τ) (0 : CellTallies nD τ sig ℕ) W') ⊢ bodyPost m ρ c := by
  unfold bodyPost Φ₁ InX InW
  iintro ⟨Hx, Hw, Ho, HM, HZ, ⟨%W', HO⟩⟩
  isplitl [HM HZ]
  · isplitl [HM]
    · iexact HM
    · iexact HZ
  isplitl [HO]
  · unfold Dat.owesAt Pipeline.owesWithin
    iexists W'
    isplitr
    · ipureintro; exact fun _ _ => Or.inl trivial
    · iexact HO
  isplitl [Hx]
  · iexists _; isplitr
    · ipureintro; rfl
    · iexact Hx
  isplitl [Hw]
  · iexists _; isplitr
    · ipureintro; rfl
    · iexact Hw
  · iexists _; isplitr
    · ipureintro; rfl
    · iexact Ho

theorem body_sound (c : Dev nD) : bodyPre m ρ c ⊢ Run c (body (F := F) c) (fun _ => bodyPost m ρ c) := by
  iintro H
  ihave H := (body_pre m ρ c) $$ H
  icases H with ⟨%κ, %ιs, H⟩
  iapply (run_last (body_run (xIn m ρ) (wIn m ρ) (tops m ρ) κ ιs c rfl)) $$ H
  iintro %a H
  iapply (body_post m ρ c)
  iexact H

theorem run_id {α : Type} (c : Dev nD) (f : Dev nD → TProg F α) (Q : α → sProp 𝕄) : Run c (.op .deviceId f) Q = Run c (f c) Q := wp_deviceId 𝒱₀ (c : Thread nD τ) none Set.univ

theorem body_launch (c : Dev nD) :
    bodyPre m ρ c ⊢ Run c (cc0_body (F := F) xM (Memref.isWhole_whole _) wM (Memref.isWhole_whole _) outM (Memref.isWhole_whole _)
      (Memref.whole cc0_scratch0) (Memref.isWhole_whole _) (Memref.whole cc0_scratch1) (Memref.isWhole_whole _)
      colM (Memref.isWhole_whole _) maxM (Memref.isWhole_whole _) topsM (Memref.isWhole_whole _)
      cc0_scratch5 cc0_scratch6 cc0_scratch7 cc0_scratch8 cc0_scratch9 cc0_scratch10 cc0_scratch11 cc0_scratch12
      cc0_scratch13 cc0_scratch14 cc0_scratch15 cc0_scratch16) (fun _ => bodyPost m ρ c) := by
  rw [body_eq]
  have h : (Prog.lift .deviceId >>= fun c => body (F := F) c) = .op .deviceId (fun c => body (F := F) c) := rfl
  rw [h, run_id]
  exact body_sound m ρ c

attribute [local irreducible] cc0_body outAt in
set_option maxRecDepth 65536 in
theorem body_obligation (c : Dev nD) : BodyObligation (dats (F := F) m ρ 0 c) (defs₀ (F := F)) 𝒱₀ 0 Set.univ := fun t => by
  rw [only_point t]
  rw [each_win, each_win]
  simp only [owns_whole]
  exact body_launch m ρ c

end Cert.Ring

end
-- ==== Proof.Whole.lean ====
/-
# The run of the program

The launch's ghost state is dealt out, each device's credits are what the others owe it, and the run of the program
follows.
-/
module

public import proofs.«01_k».proof.Proof.Launch
public import Idealize.ShloMosaic.Lib.Pipeline.CollectiveSegs

@[expose] public section

set_option backward.proofsInPublic true

noncomputable section

namespace Cert.Ring

open Cert.KernelIdeal Cert.KernelIdeal.Given
open Facts₀ Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

open Idealize.ShloMosaic.Pipeline (Dat Cfg Window BodyObligation cellOf)

variable (m : (ℓ : Loc nD τ sig) → Buf (Elt F) ℓ) (ρ : Dev nD → PrngReg)

/-- What is minted. -/
def minted : UB := (launchOf cellSet ∅ tokSet, initSlots keys 4)

def u₀ : UU := (initOf (Pipeline.cells cfgs stage_inj) (Pipeline.launchToks cfgs stage_inj), minted)

/-- One device is handed all that is minted. -/
def G (c : Dev nD) : sProp 𝕄 := if c = 0 then BI.own (embR minted) else iprop(emp)

theorem mint : BI.own (embR minted) ⊢ (bigSep Finset.univ (G (F := F)) : sProp 𝕄) := by
  have h : (iprop(emp) : sProp 𝕄) ⊢ bigSep (Finset.univ.erase (0 : Dev nD)) (G (F := F)) :=
    (emp_all _).trans (bigSep_mono fun c hc => by unfold G; rw [if_neg (Finset.ne_of_mem_erase hc)]; exact BI.Entails.refl _)
  rw [bigSep_univ_at _ (0 : Dev nD)]
  refine (show BI.own (embR minted) ⊢ iprop(G (F := F) 0 ∗ bigSep (Finset.univ.erase (0 : Dev nD)) (G (F := F))) from ?_)
  iintro H
  isplitl
  · iapply (Entails.of_eq (show BI.own (embR minted) = G (F := F) 0 from by unfold G; rw [if_pos rfl])); iexact H
  · iapply h; iempintro

theorem mint_at : bigSep Finset.univ (G (F := F)) ⊢ (BI.own (embR minted) : sProp 𝕄) :=
  (bigSep_elim (Finset.mem_univ (0 : Dev nD))).trans (by unfold G; rw [if_pos rfl]; exact BI.Entails.refl _)

theorem deal_all : iprop(bigSep Finset.univ (fun c : Dev nD => Pays c) ∗ bigSep Finset.univ (fun c : Dev nD => Stands c) ∗ bigSep Finset.univ (fun c : Dev nD => Reads c)
    ∗ bigSep Finset.univ (fun c : Dev nD => Writes c)) ⊢ (bigSep Finset.univ (fun c => Deal c) : sProp 𝕄) := by
  unfold Deal
  rw [bigSep_sep', bigSep_sep', bigSep_sep']

/-- The ghost state of the whole machine, set up and dealt out. -/
theorem glob :
    (bigSep Finset.univ fun c => iprop(Pipeline.ownSems0 (Ix := ℕ) (Name := ℕ) (U := UU) (Lvl := ℕ) (Val := Elt F) (τ := τ) osem c ∗ unscopedSems0 c ∗ G c) : sProp 𝕄)
      ⊢ |={Set.univ}=> bigSep Finset.univ (G' m ρ) := by
  have hz : (bigSep Finset.univ fun c => iprop(Pipeline.ownSems0 (Ix := ℕ) (Name := ℕ) (U := UU) (Lvl := ℕ) (Val := Elt F) (τ := τ) osem c ∗ unscopedSems0 c ∗ G c) : sProp 𝕄)
      ⊢ iprop(bigSep cellSet (fun g => semVal g 0) ∗ BI.own (embR minted)) := by
    have h1 : (bigSep Finset.univ fun c => iprop(Pipeline.ownSems0 (Ix := ℕ) (Name := ℕ) (U := UU) (Lvl := ℕ) (Val := Elt F) (τ := τ) osem c ∗ unscopedSems0 c ∗ G c) : sProp 𝕄)
        = iprop(bigSep Finset.univ (fun c => bigSep Duty.reps (Zero c)) ∗ bigSep Finset.univ (fun c => Zero c (.bar false)) ∗ bigSep Finset.univ (G (F := F))) := by
      rw [bigSep_congr (fun c _ => by rw [own_zero, bar_zero]), bigSep_sep', bigSep_sep']
    have h2 : bigSep cellSet (fun g => (semVal g 0 : sProp 𝕄)) = iprop(bigSep Finset.univ (fun c => Zero c (.bar false)) ∗ bigSep Finset.univ (fun c => bigSep Duty.reps (Zero c))) := by
      rw [cellSet_split, ← bigSep_sep']
      exact bigSep_congr fun c _ => bigSep_insert bar_not_reps
    rw [h1, h2]
    iintro ⟨H1, H2, H3⟩
    isplitl [H1 H2]
    · isplitl [H2]
      · iexact H2
      · iexact H1
    · iapply mint_at; iexact H3
  iintro H
  ihave H := hz $$ H
  icases H with ⟨Hs, Hm⟩
  ihave Hm := (show BI.own (embR minted) ⊢ iprop(BI.own (ER (F := F) (launchOf cellSet ∅ tokSet)) ∗ BI.own (ES (F := F) (initSlots keys 4))) from own_pair_emb embR (launchOf cellSet ∅ tokSet) (initSlots keys 4)) $$ Hm
  icases Hm with ⟨Hc, Hk⟩
  imod (Rounds.fund_launch ER (Rd (xIn m ρ) (tops m ρ)) (S := cellSet) (Sd := ∅) (Finset.disjoint_empty_right _) (fun g hg => absurd hg (Finset.notMem_empty g)) tokSet) $$ [Hs Hc] with ⟨%κ, %hκ, Hi, Hr, Ha, -, Ht⟩
  · isplitl [Hs]
    · iexact Hs
    · iexact Hc
  imod (Release.slots_init ES keys 4 (spot (F := F))) $$ Hk with ⟨%ιs, %hι, #Hsl, Hrd, Hwr⟩
  imodintro
  have hm : iprop(bigSep (cellSet ∪ ∅) (fun g => cellInv ER (Rd (xIn m ρ) (tops m ρ)) (κ g) g) ∗ bigSep cellSet (fun g => reached ER g 0)
      ∗ bigSep keys (fun k => slotInv ES (ιs k) k (spot k))) ⊢ (Made m ρ κ ιs : sProp 𝕄) := by
    have h1 : iprop(bigSep (cellSet ∪ ∅) (fun g => cellInv ER (Rd (xIn m ρ) (tops m ρ)) (κ g) g) ∗ bigSep cellSet (fun g => reached ER g 0))
        ⊢ (bigSep (Finset.univ : Finset (Dev nD)) (fun c => bigSep Duty.all (fun x =>
          iprop(cellInv ER (Rd (xIn m ρ) (tops m ρ)) (κ (cell c x)) (cell c x) ∗ reached ER (cell c x) 0))) : sProp 𝕄) := by
      rw [Finset.union_empty, ← bigSep_sep', cellSet_split]
      exact cells_all (fun g => iprop(cellInv ER (Rd (xIn m ρ) (tops m ρ)) (κ g) g ∗ reached ER g 0))
    unfold Made
    iintro ⟨H1, H2, H3⟩
    isplitl [H1 H2]
    · iapply h1
      isplitl [H1]
      · iexact H1
      · iexact H2
    · iexact H3
  ihave #HM := hm $$ [Hi Hr]
  · isplitl [Hi]
    · iexact Hi
    isplitl [Hr]
    · iexact Hr
    · iexact Hsl
  iapply (bigSep_with_persistent (R := Made m ρ κ ιs) (Φ := fun c => Deal c) fun c _ => show iprop(Made m ρ κ ιs ∗ Deal c) ⊢ G' m ρ c from by
    unfold G'
    iintro ⟨H1, H2⟩
    iexists κ, ιs
    isplitl [H1]
    · iexact H1
    · iexact H2)
  isplitr
  · iexact HM
  · iapply deal_all
    isplitl [Ht]
    · iapply (Entails.of_eq pays_deal); iexact Ht
    isplitl [Ha]
    · iapply (Entails.of_eq stands_deal); iexact Ha
    isplitl [Hrd]
    · iapply (Entails.of_eq reads_deal); iexact Hrd
    · iapply writes_deal; iexact Hwr

/-! ## Credits -/

theorem owed_at (c : Dev nD) (sm : SemLoc sig) :
    tallyOn ((c : Thread nD τ), sm) (launchCredit (Pipeline.owing O₀) 0 ((c : Thread nD τ), sm))
      = (∑ x ∈ Duty.aways.filter (fun x => x.sem = sm), tallyAt (cell c x) x.lvl x.amt : CellTallies nD τ sig ℕ) := by
  have h1 : (∑ x ∈ Duty.aways.filter (fun x => x.sem = sm), tallyAt (cell c x) x.lvl x.amt : CellTallies nD τ sig ℕ)
      = tallyOn ((c : Thread nD τ), sm) (∑ x ∈ Duty.aways.filter (fun x => x.sem = sm), Finsupp.single x.lvl x.amt) := by
    unfold tallyOn
    refine Eq.trans (Finset.sum_congr rfl fun x hx => ?_) (map_sum (AddMonoidHom.single (fun _ : GSem nD τ sig => Tally ℕ) ((c : Thread nD τ), sm)) _ _).symm
    rw [← (Finset.mem_filter.mp hx).2]
    rfl
  rw [h1]
  refine congrArg _ (Finsupp.ext fun i => ?_)
  rw [Pipeline.launchCredit_owing, Finsupp.finset_sum_apply, Finset.sum_filter]
  unfold O₀ debt
  rw [show Duty.due 0 = Duty.aways from Finset.filter_true_of_mem fun _ _ => Nat.zero_le _]
  simp only [Finset.sum_apply, Finsupp.finset_sum_apply]
  rw [Finset.sum_comm]
  refine Finset.sum_congr rfl fun x _ => ?_
  simp only [tallyAt_apply]
  rw [Finset.sum_eq_single (x.peer.symm c)]
  · rw [Equiv.apply_symm_apply]
    by_cases h : x.sem = sm
    · rw [if_pos h, Finsupp.single_apply]
      subst h
      by_cases hi : i = x.lvl
      · rw [if_pos ⟨rfl, hi⟩, if_pos hi.symm]
      · rw [if_neg (fun h => hi h.2), if_neg (fun h => hi h.symm)]
    · rw [if_neg h, if_neg (fun h' => h (congrArg Prod.snd h'.1).symm)]
  · intro d _ hd
    refine if_neg fun h => hd ?_
    have h1 : c = x.peer d := congrArg (fun g : GSem nD τ sig => g.1.1) h.1
    rw [h1, Equiv.symm_apply_apply]
  · intro h; exact absurd (Finset.mem_univ _) h

theorem creds_sum (S : Finset Duty) (f : Duty → CellTallies nD τ sig ℕ) : (cred (∑ x ∈ S, f x) : sProp 𝕄) = bigSep S fun x => cred (f x) := by
  induction S using Finset.induction_on with
  | empty => rw [Finset.sum_empty, cred_zero, bigSep_empty]; rfl
  | insert x S hx ih =>
    rw [Finset.sum_insert hx, bigSep_insert hx, ← ih]
    exact BI.Entails.antisymm (cred_add _ _).1 (cred_add _ _).2

theorem owed_creds (c : Dev nD) : (Pipeline.launchCred O₀ c : sProp 𝕄) ⊢ Owed c := by
  unfold Pipeline.launchCred Owed
  rw [bigSep_fiberwise Duty.aways Duty.sem]
  refine (bigSep_subset (Finset.subset_univ (Duty.aways.image Duty.sem))).trans (bigSep_mono fun sm _ => ?_)
  rw [owed_at, creds_sum]
  exact BI.Entails.refl _

/-! ## The sides of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G'
  iintro ⟨-, Hlev, Hcr, -, ⟨%κ, %ιs, HM, HD⟩⟩
  ihave Hc := (owed_creds (F := F) c) $$ Hcr
  imodintro
  isplitl
  · isplitl [Hlev HM HD]
    · iexists κ, ιs
      isplitl [Hlev HM]
      · unfold Made Invs
        icases HM with ⟨H1, H2⟩
        isplitl [H1]
        · iexact H1
        isplitl [H2]
        · iexact H2
        · iexact Hlev
      · iexact HD
    · iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]
  · iexact Hs
  · iapply (scratch_mem c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, own_zero, bar_zero]
  unfold Φ₁ Zeros
  iintro ⟨HM, HZ, HB⟩
  isplitl [HB]
  · iexact HB
  isplitl [HZ]
  · iexact HZ
  · iapply (mem_scratch c); iexact HM

theorem away_due {x : Duty} (h : x ∈ Duty.due 0) : x ∈ Duty.aways := Finset.filter_subset _ _ h

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 (Duty.due 0) (Finset.filter_subset _ _) (Nat.zero_le _) fun x hx => (away_lvl (away_due hx)).1
    · exact mayWait c _ 0 ∅ (Finset.empty_subset _) (Nat.zero_le _) fun x hx => absurd hx (Finset.notMem_empty x)

theorem share_eq (c : Dev nD) (w : Fin cfg0.W) : (dats m ρ 0 c).share w = fullShare := by unfold Dat.share; split <;> rfl

/-! ## The run -/

/-- What window `w`'s array holds on device `c` in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

attribute [local irreducible] cc0_body outAt in
set_option maxRecDepth 200000 in
/-- For any float values, from any memory with zero counters, every weakly fair run of the program ends, with every array
    at its final contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 stage_inj (0 : Fin 1)
    wins.to₀ own_sems (Pipeline.PreFacts.none _) EP defs₀ 𝒱₀ m ρ main
    (hmain := fun _ => rfl)
    (hbody := body_obligation m ρ) (hne := fun w => by fin_cases w <;> exact Nat.succ_pos _) (harr := wins_whole) (hstage := stages_whole) (hshare := share_eq m ρ)
    (hdistinct := wins.arr_inj)
    (O₀ := O₀) (howed₀ := fun _ => rfl) (howedN := fun _ => rfl)
    (L := L) (lv := lv) (hL := L_of_ne) (hwaits := waits m ρ)
    (G := G) (G' := G' m ρ) (u₀ := u₀)
    (hu₀ := by
      unfold u₀
      iintro Hu
      ihave H := (ownU_pair _ _) $$ Hu
      icases H with ⟨HP, HX⟩
      ihave HG := (mint (F := F)) $$ HX
      imodintro
      isplitl [HP]
      · iexact HP
      · iexact HG)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.Ring

end
-- ==== Proof.Frames.lean ====
/-
# The three programs run

Each program terminates, keeps its arguments and ends with every semaphore at zero.
-/
module

public import proofs.«01_k».proof.Defs
public import proofs.«01_k».proof.Proof.Whole
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

attribute [local irreducible] Cert.KernelIdeal.cc0_body Cert.Ring.outAt in
set_option maxRecDepth 200000 in
/-- The program over exact numbers. -/
theorem frame_kernelIdeal : Cert.quiescent_KernelIdeal (hKernelIdeal := Cert.KernelIdeal.Given.facts) := fun m ρ _ =>
  (θ_run Cert.KernelIdeal.defs _ _).mono (fun _ h => ⟨fun c => ⟨(h.1 c (0 : Fin 3)).trans (Cert.Ring.finalA_x m ρ c),
      (h.1 c (1 : Fin 3)).trans (Cert.Ring.finalA_w m ρ c)⟩, h.2⟩)
    (Cert.Ring.run_main (F := Ideal) m ρ)

/-- The reference, which has no semaphore. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

attribute [local irreducible] Cert.KernelIdeal.cc0_body Cert.Ring.outAt in
set_option maxRecDepth 200000 in
/-- The same text at words of bits. -/
theorem frame_bits (m : (ℓ : Loc Cert.KernelIdeal.nD Cert.KernelIdeal.τ Cert.KernelIdeal.sig) → Buf (Elt Bits) ℓ) (ρ : Dev Cert.KernelIdeal.nD → PrngReg) :
    θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c (0 : Fin 3)).trans (Cert.Ring.finalA_x m ρ c),
      (h.1 c (1 : Fin 3)).trans (Cert.Ring.finalA_w m ρ c)⟩, h.2⟩)
    (Cert.Ring.run_main (F := Bits) m ρ)

set_option maxRecDepth 200000 in
theorem bodies_eq : Cert.Kernel.defs₀ (F := Bits) = Cert.KernelIdeal.defs₀ (F := Bits) := by
  unfold Cert.Kernel.defs₀ Cert.KernelIdeal.defs₀
  refine congrArg Defs.onTc ?_
  funext l a
  match l with
  | 0 => obtain ⟨t, s⟩ := a; rfl

/-- The two programs' body tables are one text. -/
theorem tables_eq : Cert.Kernel.defs (F := Bits) = Cert.KernelIdeal.defs (F := Bits) :=
  congrArg (Pipeline.defs (Cert.KernelIdeal.pcfgs (F := Bits))) bodies_eq

set_option maxRecDepth 200000 in
/-- The program as printed. -/
theorem frame_kernel : Cert.quiescent_Kernel (hKernel := Cert.Kernel.Given.facts) := fun m ρ _ => by
  rw [tables_eq]
  exact frame_bits m ρ

end Cert.Proof

end
-- ==== Proof.Numbers.lean ====
/-
# The quantiser on extended reals

The kernel multiplies by `127 / g` and clips to `[0, 127]`; the reference takes the positive part, divides by `g / 127` and
clips to `[-127, 127]`. For a maximum `g` that is not negative the two agree at every extended real.
-/
module

public import Idealize.ShloMosaic.PureOps.Ideal
public import Idealize.ShloMosaic.PureOps.Ideal.Laws
public import Idealize.ShloMosaic.PureOps.Reduce

@[expose] public section

noncomputable section

namespace Cert.Ring

open Idealize.ShloMosaic

theorem word_127 : Ideal.ofBits .f32 0x42FE0000#32 = ((127 : ℝ) : EReal) := by
  simp [Ideal.ofBits, Ideal.ieee, -EReal.coe_mul]; norm_num

theorem word_neg127 : Ideal.ofBits .f32 0xC2FE0000#32 = ((-127 : ℝ) : EReal) := by
  simp [Ideal.ofBits, Ideal.ieee, -EReal.coe_mul, -EReal.coe_neg]; norm_num

theorem word_bot : Ideal.ofBits .f32 0xFF800000#32 = ⊥ := by
  simp [Ideal.ofBits, Ideal.ieee]

/-- Rounding to the nearest integer, a tie to the even one. -/
abbrev near (x : EReal) : EReal := Ideal.liftRound Ideal.roundHalfEven x

theorem near_nonneg {x : EReal} (h : 0 ≤ x) : 0 ≤ near x := by
  induction x with
  | bot => simp at h
  | top => exact le_top
  | coe r =>
    have hr : (0 : ℝ) ≤ r := by exact_mod_cast h
    have hf : 0 ≤ ⌊r⌋ := Int.floor_nonneg.mpr hr
    have : 0 ≤ Ideal.roundHalfEven r := by
      unfold Ideal.roundHalfEven; dsimp only; split_ifs <;> omega
    show (0 : EReal) ≤ (((Ideal.roundHalfEven r : ℤ) : ℝ) : EReal)
    exact_mod_cast this

theorem near_zero : near 0 = 0 := by
  show (((Ideal.roundHalfEven 0 : ℤ) : ℝ) : EReal) = 0
  have : Ideal.roundHalfEven 0 = 0 := by unfold Ideal.roundHalfEven; norm_num
  rw [this]; simp

theorem near_nonpos {x : EReal} (h : x ≤ 0) : near x ≤ 0 := by
  induction x with
  | bot => exact bot_le
  | top => simp at h
  | coe r =>
    have hr : r ≤ (0 : ℝ) := by exact_mod_cast h
    have : Ideal.roundHalfEven r ≤ 0 := by
      rcases eq_or_lt_of_le hr with h0 | hneg
      · subst h0; unfold Ideal.roundHalfEven; norm_num
      · have hf : ⌊r⌋ < 0 := Int.floor_lt.mpr (by exact_mod_cast hneg)
        unfold Ideal.roundHalfEven; dsimp only; split_ifs <;> omega
    show (((Ideal.roundHalfEven r : ℤ) : ℝ) : EReal) ≤ 0
    exact_mod_cast this

/-- The kernel's form. -/
def quant (g y : EReal) : EReal := min ((127 : ℝ) : EReal) (max 0 (near (y * Ideal.div ((127 : ℝ) : EReal) g))) * Ideal.div g ((127 : ℝ) : EReal)

/-- The reference's form. -/
def quantRef (g y : EReal) : EReal :=
  min ((127 : ℝ) : EReal) (max ((-127 : ℝ) : EReal) (near (Ideal.div (max y 0) (Ideal.div g ((127 : ℝ) : EReal))))) * Ideal.div g ((127 : ℝ) : EReal)

theorem ne_127 : ((127 : ℝ) : EReal) ≠ 0 := by norm_num

theorem quant_eq {g : EReal} (hg : 0 ≤ g) (y : EReal) : quant g y = quantRef g y := by
  unfold quant quantRef
  have hd : Ideal.div g ((127 : ℝ) : EReal) = g * ((127 : ℝ) : EReal)⁻¹ := by unfold Ideal.div; rw [if_neg ne_127]
  rcases eq_or_lt_of_le hg with h0 | hpos
  · have : Ideal.div g ((127 : ℝ) : EReal) = 0 := by rw [hd, ← h0, zero_mul]
    rw [this, mul_zero, mul_zero]
  · have hk : Ideal.div ((127 : ℝ) : EReal) g = ((127 : ℝ) : EReal) * g⁻¹ := by unfold Ideal.div; rw [if_neg hpos.ne']
    have hneg : ((-127 : ℝ) : EReal) ≤ 0 := by norm_num
    congr 2
    rw [hd, hk]
    induction g with
    | bot => simp at hg
    | top =>
      have ht : (⊤ : EReal) * ((127 : ℝ) : EReal)⁻¹ = ⊤ := by
        rw [← EReal.coe_inv]; exact EReal.top_mul_coe_of_pos (by norm_num)
      have hdt : Ideal.div (max y 0) ⊤ = 0 := by unfold Ideal.div; rw [if_neg (by simp), EReal.inv_top, mul_zero]
      rw [ht, hdt, EReal.inv_top, mul_zero, mul_zero, near_zero, max_self, max_eq_right hneg]
    | coe r =>
      have hr : (0 : ℝ) < r := by exact_mod_cast hpos
      have hs : ((r : ℝ) : EReal) * ((127 : ℝ) : EReal)⁻¹ = ((r * 127⁻¹ : ℝ) : EReal) := by rw [← EReal.coe_inv, ← EReal.coe_mul]
      have hs' : ((127 : ℝ) : EReal) * ((r : ℝ) : EReal)⁻¹ = ((127 * r⁻¹ : ℝ) : EReal) := by rw [← EReal.coe_inv, ← EReal.coe_mul]
      have hc : (0 : ℝ) < 127 * r⁻¹ := by positivity
      have hdiv : Ideal.div (max y 0) ((r * 127⁻¹ : ℝ) : EReal) = max y 0 * ((127 * r⁻¹ : ℝ) : EReal) := by
        unfold Ideal.div
        have hz : ((r * 127⁻¹ : ℝ) : EReal) ≠ 0 := by
          have : (0 : ℝ) < r * 127⁻¹ := by positivity
          exact_mod_cast this.ne'
        rw [if_neg hz, ← EReal.coe_inv]
        congr 2
        field_simp
      rw [hs, hs', hdiv]
      have hc' : (0 : EReal) ≤ ((127 * r⁻¹ : ℝ) : EReal) := by exact_mod_cast hc.le
      rcases le_total 0 y with hy | hy
      · rw [max_eq_left hy]
        have hn : 0 ≤ near (y * ((127 * r⁻¹ : ℝ) : EReal)) := near_nonneg (mul_nonneg hy hc')
        rw [max_eq_right hn, max_eq_right (hneg.trans hn)]
      · rw [max_eq_right hy, zero_mul, near_zero, max_eq_right hneg]
        exact max_eq_left (near_nonpos (mul_nonpos_of_nonpos_of_nonneg hy hc'))

/-! ## Maxima -/

/-- A largest element over every axis lies below a bound when every element does. -/
theorem redmax_le {s t : Shape} {axes : List (Fin s.rank)} (x : FVec Ideal s .f32) (h : s.Reduces axes t) (ht : ∀ b, t.size b = 1)
    (hφ : FKind.Formats .f32) (hacc : (0xFF800000#32 : BitVec 32) = FKind.maximumf.neutral .f32 hφ) (j : t.Idx) (b : EReal) :
    multiReduction .maximumf axes t x 0xFF800000#32 h hφ hacc j ≤ b ↔ ∀ i, x i ≤ b := by
  rw [multiReduction_maximumf_eq_fold]
  have hall : (Finset.univ.filter fun i => h.drop i = j) = Finset.univ := Finset.filter_true_of_mem fun i _ => funext fun a => Fin.ext (by
    have := (h.drop i a).isLt; have := (j a).isLt; have := ht a; omega)
  rw [hall]
  show Finset.univ.fold max (Ideal.ofBits .f32 0xFF800000#32) x ≤ b ↔ _
  rw [Finset.fold_max_le, word_bot]
  simp

/-- The same of the host's. -/
theorem host_redmax_le {s t u : Shape} {axes : List (Fin s.rank)} (x : FVec Ideal s .f32) (v : FVec Ideal u .f32) (h : s.ReducesTo axes t)
    (ht : ∀ b, t.size b = 1) (hu : 0 < u.numel) (hv : ∀ i, v i = ⊥) (j : t.Idx) (b : EReal) :
    Host.reduce (FloatOps.maximumf (F := Ideal) (φ := .f32)) x v h hu j ≤ b ↔ ∀ i, x i ≤ b := by
  rw [Host.reduce_eq_fold]
  have hall : (Finset.univ.filter fun i => h.drop i = j) = Finset.univ := Finset.filter_true_of_mem fun i _ => funext fun a => Fin.ext (by
    have := (h.drop i a).isLt; have := (j a).isLt; have := ht a; omega)
  rw [hall]
  show Finset.univ.fold max (v _) x ≤ b ↔ _
  rw [Finset.fold_max_le, hv]
  simp

/-- A bound of every element is one of every element in another shape. -/
theorem cast_le {s t : Shape} (x : s.Idx → EReal) (h : s.ShapeCasts t) (b : EReal) : (∀ i, shapeCast t x h i ≤ b) ↔ ∀ i, x i ≤ b :=
  ⟨fun H i => by have := H ((Shape.reshapeEquiv h).symm i); simpa only [shapeCast, Equiv.apply_symm_apply] using this, fun H i => H _⟩

end Cert.Ring

end
-- ==== Proof.Value.lean ====
/-
# The computed result, over exact numbers

Over exact numbers a device's result before the scaling is the product of all rows with the device's columns, the maximum that
every device scales by is the largest element of all of them and zero, and the scaling is the quantiser.
-/
module

public import proofs.«01_k».proof.Proof.Tops
public import proofs.«01_k».proof.Proof.Numbers
public import Idealize.ShloMosaic.Lib.MatmulPlain
public import Idealize.ShloMosaic.Lib.ValueIdx

@[expose] public section

set_option backward.proofsInPublic true

noncomputable section

namespace Cert.Ring

open Cert.KernelIdeal Cert.KernelIdeal.Given
open Facts₀ Facts
open Idealize.ShloMosaic hiding ix2 eq_ix2
open Idealize.ShloMosaic.TcCoe
open Idealize.ShloMosaic.ValueIdx

section Exact

variable (X : Dev nD → Vec Ideal S128x4096 .f32) (W : Dev nD → Vec Ideal S4096x256 .f32)

/-- Row `i` of all rows against column `i` of device `c`'s. -/
def elt (c : Dev nD) (r : Fin 4096) (j : Fin 256) : EReal :=
  ∑ k : Fin 4096, X (⟨r.val / 128, by have := r.isLt; show r.val / 128 < 32; omega⟩ : Fin 32) (ix2 (⟨r.val % 128, Nat.mod_lt _ (by decide)⟩ : Fin 128) k) * W c (ix2 k j)

theorem rows_self (x : Vec Ideal S128x4096 .f32) : ownRows x = x := by
  unfold ownRows
  rw [shapeCast_self]
  rfl

theorem cols_self (w : Vec Ideal S4096x256 .f32) : ownCols w = w := by
  unfold ownCols
  rw [shapeCast_self, shapeCast_self]
  rfl

theorem gemm_apply (x : FVec Ideal S128x4096 .bf16) (w : Vec Ideal S4096x256 .bf16) (r : Fin 128) (j : Fin 256) :
    gemm x w (ix2 r j) = ∑ k : Fin 4096, x (ix2 r k) * w (ix2 k j) := by
  have h : gemm x w = FloatOps.matmul (DotDims.plain 128 4096 256) none x w (constant S128x256 .f32 0x00000000#32) := rfl
  rw [h, Ideal.matmul_plain_apply]
  show Ideal.ofBits .f32 0x00000000#32 + _ = _
  rw [Ideal.ofBits_zero_f32, zero_add]

theorem gemmHalf_apply (x : FVec Ideal S64x4096 .bf16) (w : Vec Ideal S4096x256 .bf16) (r : Fin 64) (j : Fin 256) :
    gemmHalf x w (ix2 r j) = ∑ k : Fin 4096, x (ix2 r k) * w (ix2 k j) := by
  have h : gemmHalf x w = FloatOps.matmul (DotDims.plain 64 4096 256) none x w (constant S64x256 .f32 0x00000000#32) := rfl
  rw [h, Ideal.matmul_plain_apply]
  show Ideal.ofBits .f32 0x00000000#32 + _ = _
  rw [Ideal.ofBits_zero_f32, zero_add]

/-- A row of a device's rows among all rows. -/
def glue (e : Dev nD) (r : Fin 128) : Fin 4096 := ⟨128 * e.val + r.val, by have h : e.val < 32 := e.isLt; have := r.isLt; omega⟩

theorem prod_apply (c e : Dev nD) (r : Fin 128) (j : Fin 256) : prod X W c e (ix2 r j) = elt X W c (glue e r) j := by
  unfold prod elt
  rw [rows_self, cols_self, gemm_apply]
  have he : (⟨(glue e r).val / 128, by have := (glue e r).isLt; show (glue e r).val / 128 < 32; omega⟩ : Fin 32) = e :=
    Fin.ext (by have := r.isLt; show (128 * e.val + r.val) / 128 = e.val; omega)
  have hr : (⟨(glue e r).val % 128, Nat.mod_lt _ (by decide)⟩ : Fin 128) = r :=
    Fin.ext (by have := r.isLt; show (128 * e.val + r.val) % 128 = r.val; omega)
  rw [he, hr]

theorem prod_at (c e : Dev nD) (i : S128x256.Idx) : prod X W c e i = elt X W c (glue e (i 0)) (i 1) :=
  (congrArg (prod X W c e) (eq_ix2 (n0 := 128) (n1 := 256) i)).trans (prod_apply X W c e (i 0) (i 1))

/-- A row of half of the rows. -/
def low (b : Bool) (r : Fin 64) : Fin 128 := ⟨row0 b + r.val, by have := r.isLt; cases b <;> simp only [row0] <;> omega⟩

theorem half_apply (b : Bool) (x : Vec Ideal S128x4096 .f32) (r : Fin 64) (k : Fin 4096) :
    unslotHalf (halfOf b x) (ix2 r k) = x (ix2 (low b r) k) := by
  unfold unslotHalf
  rw [show shapeCast S64x4096 (halfOf b x) shapeCasts_S1x64x4096_S64x4096 (ix2 r k) = halfOf b x (Fin.cons ⟨0, Nat.one_pos⟩ (ix2 r k)) from
    shapeCast_dropUnit_apply ![64, 4096] (halfOf b x) _ (ix2 r k)]
  unfold halfOf rowsOf ownSlot
  rw [rows_self]
  refine (shapeCast_addUnit_apply ![128, 4096] x shapeCasts_S128x4096_S1x128x4096 (inSlot ((slotRect 0 b).emb (Fin.cons ⟨0, Nat.one_pos⟩ (ix2 r k))))).trans ?_
  congr 1
  funext a
  match a with
  | ⟨0, _⟩ => exact Fin.ext (by cases b <;> (show _ + 1 * r.val = _ + r.val) <;> rw [one_mul] <;> rfl)
  | ⟨1, _⟩ => exact Fin.ext (by show 0 + 1 * k.val = k.val; omega)

theorem prodHalf_apply (c e : Dev nD) (b : Bool) (r : Fin 64) (j : Fin 256) : prodHalf X W c e b (ix2 r j) = elt X W c (glue e (low b r)) j := by
  rw [← prod_apply]
  unfold prodHalf prod
  rw [rows_self, cols_self, gemm_apply, gemmHalf_apply]
  exact Finset.sum_congr rfl fun k _ => by rw [half_apply]

theorem prodHalf_at (c e : Dev nD) (b : Bool) (i : S64x256.Idx) : prodHalf X W c e b i = elt X W c (glue e (low b (i 0))) (i 1) :=
  (congrArg (prodHalf X W c e b) (eq_ix2 (n0 := 64) (n1 := 256) i)).trans (prodHalf_apply X W c e b (i 0) (i 1))

theorem outRaw_apply (c : Dev nD) (i : S4096x256.Idx) : outRaw X W c i = elt X W c (i 0) (i 1) := by
  have h0 : (i 0 : ℕ) < 4096 := (i 0).isLt
  unfold outRaw
  split
  · rename_i h
    refine (prodHalf_at X W c (far c) _ (row64 i)).trans (congrArg (fun r => elt X W c r (i 1)) ?_)
    have hv : (i 0 : ℕ) / 128 = (far c).val := congrArg Fin.val h
    apply Fin.ext
    show 128 * (far c).val + (row0 (decide (64 ≤ (i 0 : ℕ) % 128)) + (i 0 : ℕ) % 64) = (i 0 : ℕ)
    rw [← hv]
    by_cases hb : 64 ≤ (i 0 : ℕ) % 128
    · rw [decide_eq_true hb]; simp only [row0]; omega
    · rw [decide_eq_false hb]; simp only [row0]; omega
  · refine (prod_at X W c _ (row128 i)).trans (congrArg (fun r => elt X W c r (i 1)) ?_)
    apply Fin.ext
    show 128 * ((i 0 : ℕ) / 128) + (i 0 : ℕ) % 128 = (i 0 : ℕ)
    omega

/-! ## The maximum -/

theorem ones : ∀ b, S1.size b = 1 := by decide

theorem top_max (y : FVec Ideal S1x128x256 .f32) (j : S1.Idx) (b : EReal) :
    multiReduction (F := Ideal) .maximumf [1, 2] S1 y 0xFF800000#32 reduces_S1x128x256_S1 (.inl rfl) rfl j ≤ b ↔ ∀ i, y i ≤ b :=
  redmax_le y reduces_S1x128x256_S1 ones (.inl rfl) rfl j b

theorem top_cast (y : FVec Ideal S128x256 .f32) (b : EReal) : (∀ i, shapeCast S1x128x256 y shapeCasts_S128x256_S1x128x256 i ≤ b) ↔ ∀ i, y i ≤ b := cast_le y _ b

theorem top_eq {F : FTy → Type} [FloatOps F] (y : FVec F S128x256 .f32) :
    extractAt ![0, 0, 0] (shapeCast S1x1x1 (multiReduction .maximumf [1, 2] S1 (shapeCast S1x128x256 y shapeCasts_S128x256_S1x128x256) 0xFF800000#32 reduces_S1x128x256_S1 (.inl rfl) rfl) shapeCasts_S1_S1x1x1) inpos_S1x1x1_p0_0_0
      = multiReduction .maximumf [1, 2] S1 (shapeCast S1x128x256 y shapeCasts_S128x256_S1x128x256) 0xFF800000#32 reduces_S1x128x256_S1 (.inl rfl) rfl
        (Shape.reshapeEquiv shapeCasts_S1_S1x1x1 fun a => ⟨(![0, 0, 0] : Fin 3 → ℕ) a, inpos_S1x1x1_p0_0_0 a⟩) := rfl

theorem top_le (y : FVec Ideal S128x256 .f32) (b : EReal) : top y ≤ b ↔ ∀ i, y i ≤ b := by
  unfold top
  rw [top_eq]
  exact (top_max _ _ b).trans (top_cast y b)

theorem topHalf_max (y : FVec Ideal S1x64x256 .f32) (j : S1.Idx) (b : EReal) :
    multiReduction (F := Ideal) .maximumf [1, 2] S1 y 0xFF800000#32 reduces_S1x64x256_S1 (.inl rfl) rfl j ≤ b ↔ ∀ i, y i ≤ b :=
  redmax_le y reduces_S1x64x256_S1 ones (.inl rfl) rfl j b

theorem topHalf_cast (y : FVec Ideal S64x256 .f32) (b : EReal) : (∀ i, shapeCast S1x64x256 y shapeCasts_S64x256_S1x64x256 i ≤ b) ↔ ∀ i, y i ≤ b := cast_le y _ b

theorem topHalf_eq {F : FTy → Type} [FloatOps F] (y : FVec F S64x256 .f32) :
    extractAt ![0, 0, 0] (shapeCast S1x1x1 (multiReduction .maximumf [1, 2] S1 (shapeCast S1x64x256 y shapeCasts_S64x256_S1x64x256) 0xFF800000#32 reduces_S1x64x256_S1 (.inl rfl) rfl) shapeCasts_S1_S1x1x1) inpos_S1x1x1_p0_0_0
      = multiReduction .maximumf [1, 2] S1 (shapeCast S1x64x256 y shapeCasts_S64x256_S1x64x256) 0xFF800000#32 reduces_S1x64x256_S1 (.inl rfl) rfl
        (Shape.reshapeEquiv shapeCasts_S1_S1x1x1 fun a => ⟨(![0, 0, 0] : Fin 3 → ℕ) a, inpos_S1x1x1_p0_0_0 a⟩) := rfl

theorem topHalf_le (y : FVec Ideal S64x256 .f32) (b : EReal) : topHalf y ≤ b ↔ ∀ i, y i ≤ b := by
  unfold topHalf
  rw [topHalf_eq]
  exact (topHalf_max _ _ b).trans (topHalf_cast y b)

theorem topAll_max (y : FVec Ideal S1x31x8x128 .f32) (j : S1.Idx) (b : EReal) :
    multiReduction (F := Ideal) .maximumf [1, 2, 3] S1 y 0xFF800000#32 reduces_S1x31x8x128_S1 (.inl rfl) rfl j ≤ b ↔ ∀ i, y i ≤ b :=
  redmax_le y reduces_S1x31x8x128_S1 ones (.inl rfl) rfl j b

theorem topAll_cast (y : FVec Ideal S31x8x128 .f32) (b : EReal) : (∀ i, shapeCast S1x31x8x128 y shapeCasts_S31x8x128_S1x31x8x128 i ≤ b) ↔ ∀ i, y i ≤ b := cast_le y _ b

theorem topAll_eq {F : FTy → Type} [FloatOps F] (y : FVec F S31x8x128 .f32) :
    extractAt ![0, 0, 0, 0] (shapeCast S1x1x1x1 (multiReduction .maximumf [1, 2, 3] S1 (shapeCast S1x31x8x128 y shapeCasts_S31x8x128_S1x31x8x128) 0xFF800000#32 reduces_S1x31x8x128_S1 (.inl rfl) rfl) shapeCasts_S1_S1x1x1x1) inpos_S1x1x1x1_p0_0_0_0
      = multiReduction .maximumf [1, 2, 3] S1 (shapeCast S1x31x8x128 y shapeCasts_S31x8x128_S1x31x8x128) 0xFF800000#32 reduces_S1x31x8x128_S1 (.inl rfl) rfl
        (Shape.reshapeEquiv shapeCasts_S1_S1x1x1x1 fun a => ⟨(![0, 0, 0, 0] : Fin 4 → ℕ) a, inpos_S1x1x1x1_p0_0_0_0 a⟩) := rfl

theorem topAll_le (a : EReal) (v : Vec Ideal S31x8x128 .f32) (b : EReal) : topAll (F := Ideal) a v ≤ b ↔ a ≤ b ∧ ∀ i, v i ≤ b := by
  unfold topAll
  rw [topAll_eq]
  exact max_le_iff.trans (and_congr_right fun _ => (topAll_max _ _ b).trans (topAll_cast v b))

/-- The larger of two numbers. -/
theorem larger_le (a p b : EReal) : Scalar.maximumf (F := Ideal) (φ := .f32) a p ≤ b ↔ a ≤ b ∧ p ≤ b := max_le_iff
theorem zero_le_iff (b : EReal) : Scalar.ofBits (F := Ideal) .f32 0x00000000#32 ≤ b ↔ 0 ≤ b := by
  rw [show Scalar.ofBits (F := Ideal) .f32 0x00000000#32 = (0 : EReal) from Ideal.ofBits_zero_f32]

/-- Every element of device `e`'s part of `c`'s result is below `b`. -/
def Below (c e : Dev nD) (b : EReal) : Prop := ∀ r j, elt X W c (glue e r) j ≤ b

theorem top_prod (c e : Dev nD) (b : EReal) : top (prod X W c e) ≤ b ↔ Below X W c e b := by
  rw [top_le]
  exact ⟨fun H r j => (prod_apply X W c e r j).symm.le.trans (H (ix2 r j)), fun H i => (prod_at X W c e i).le.trans (H _ _)⟩

theorem amaxAt_le (c : Dev nD) (b : EReal) : ∀ n, amaxAt X W c n ≤ b ↔
    Below X W c c b ∧ 0 ≤ b ∧ ∀ k < n, Below X W c (src false (k + 1) c) b ∧ Below X W c (src true (k + 1) c) b
  | 0 => by
    unfold amaxAt
    rw [larger_le, zero_le_iff, top_prod]
    simp
  | n + 1 => by
    unfold amaxAt
    rw [larger_le, larger_le, top_prod, top_prod, amaxAt_le c b n]
    constructor
    · rintro ⟨⟨⟨h1, h2, h3⟩, h4⟩, h5⟩
      refine ⟨h1, h2, fun k hk => ?_⟩
      rcases Nat.lt_succ_iff_lt_or_eq.mp hk with h | h
      · exact h3 k h
      · subst h; exact ⟨h4, h5⟩
    · rintro ⟨h1, h2, h3⟩
      exact ⟨⟨⟨h1, h2, fun k hk => h3 k (hk.trans (Nat.lt_succ_self _))⟩, (h3 n (Nat.lt_succ_self _)).1⟩, (h3 n (Nat.lt_succ_self _)).2⟩

/-- Every device's rows pass by. -/
theorem passes (c : Dev nD) : ∀ e : Dev nD, e = c ∨ e = far c ∨ ∃ k < 15, e = src false (k + 1) c ∨ e = src true (k + 1) c := by
  revert c; decide +kernel

theorem halves_le (c e : Dev nD) (b : EReal) :
    topHalf (prodHalf X W c e false) ≤ b ∧ topHalf (prodHalf X W c e true) ≤ b ↔ Below X W c e b := by
  rw [topHalf_le, topHalf_le]
  constructor
  · rintro ⟨h0, h1⟩ r j
    have hr := r.isLt
    by_cases h : r.val < 64
    · have := (prodHalf_apply X W c e false ⟨r.val, h⟩ j).symm.le.trans (h0 (ix2 (⟨r.val, h⟩ : Fin 64) j))
      rwa [show low false ⟨r.val, h⟩ = r from Fin.ext (by simp [low, row0])] at this
    · have := (prodHalf_apply X W c e true ⟨r.val - 64, by omega⟩ j).symm.le.trans (h1 (ix2 (⟨r.val - 64, by omega⟩ : Fin 64) j))
      rwa [show low true ⟨r.val - 64, by omega⟩ = r from Fin.ext (by simp only [low, row0]; omega)] at this
  · intro H
    exact ⟨fun i => (prodHalf_at X W c e false i).le.trans (H _ _), fun i => (prodHalf_at X W c e true i).le.trans (H _ _)⟩

theorem amaxEnd_le (c : Dev nD) (b : EReal) : amaxEnd X W c ≤ b ↔ 0 ≤ b ∧ ∀ r j, elt X W c r j ≤ b := by
  unfold amaxEnd
  rw [larger_le, larger_le, amaxAt_le, and_assoc, halves_le]
  constructor
  · rintro ⟨⟨h1, h2, h3⟩, h4⟩
    refine ⟨h2, fun r j => ?_⟩
    have hr := r.isLt
    have hb : ∀ e : Dev nD, Below X W c e b := fun e => by
      rcases passes c e with h | h | ⟨k, hk, h | h⟩
      · exact h ▸ h1
      · exact h ▸ h4
      · exact h ▸ (h3 k hk).1
      · exact h ▸ (h3 k hk).2
    have := hb (⟨r.val / 128, by show r.val / 128 < 32; omega⟩ : Fin 32) ⟨r.val % 128, Nat.mod_lt _ (by decide)⟩ j
    rwa [show glue (⟨r.val / 128, by show r.val / 128 < 32; omega⟩ : Fin 32) ⟨r.val % 128, Nat.mod_lt _ (by decide)⟩ = r from
      Fin.ext (by show 128 * (r.val / 128) + r.val % 128 = r.val; omega)] at this
  · rintro ⟨h2, H⟩
    exact ⟨⟨fun r j => H _ j, h2, fun k _ => ⟨fun r j => H _ j, fun r j => H _ j⟩⟩, fun r j => H _ j⟩

variable (T : Dev nD → EReal)

theorem topsV_apply (c : Dev nD) (i : S31x8x128.Idx) : topsV (F := Ideal) T c i = T ((shift (1 + (i 0 : ℕ))).symm c) := by
  unfold topsV
  rw [show topsM.view.readAt (Elt Ideal) (Rect.unit (s := S32x8x128) ![1, 0, 0] S31x8x128.size inb_S32x8x128_S31x8x128_1_0_0).toLoadRect (topsF T c) i
    = T ((shift (1 + 1 * (i 0 : ℕ))).symm c) from rfl, one_mul]

theorem global_le (c : Dev nD) (b : EReal) : topAll (F := Ideal) (T c) (topsV (F := Ideal) T c) ≤ b ↔ ∀ e, T e ≤ b := by
  rw [topAll_le]
  constructor
  · rintro ⟨h0, H⟩ e
    have he : e.val < 32 := e.isLt
    have hc : c.val < 32 := c.isLt
    by_cases h : e = c
    · exact h ▸ h0
    · have hne : e.val ≠ c.val := fun h' => h (Fin.ext h')
      have := H (fun a => match a with
        | ⟨0, _⟩ => (⟨(c.val + 31 - e.val) % 32, by show (c.val + 31 - e.val) % 32 < 31; omega⟩ : Fin 31)
        | ⟨1, _⟩ => (⟨0, by decide⟩ : Fin 8)
        | ⟨2, _⟩ => (⟨0, by decide⟩ : Fin 128))
      rw [topsV_apply] at this
      rwa [show (shift (1 + (c.val + 31 - e.val) % 32)).symm c = e from
        (Equiv.symm_apply_eq _).mpr (Fin.ext (by show c.val = (e.val + (1 + (c.val + 31 - e.val) % 32)) % 32; omega))] at this
  · intro H
    exact ⟨H c, fun i => by rw [topsV_apply]; exact H _⟩

/-! ## The result -/

theorem finish_apply (g : EReal) (y : Vec Ideal S4096x256 .f32) (i : S4096x256.Idx) : finish (F := Ideal) g y i = quant g (y i) := by
  unfold finish
  rw [shapeCast_self]
  show min (Ideal.ofBits .f32 0x42FE0000#32) (max (Ideal.ofBits .f32 0x00000000#32)
      (near (y i * Ideal.div (Ideal.ofBits .f32 0x42FE0000#32) g))) * Ideal.div g (Ideal.ofBits .f32 0x42FE0000#32) = _
  rw [word_127, Ideal.ofBits_zero_f32]
  rfl

/-- The maximum that device `c` scales by. -/
def scale (c : Dev nD) : EReal := topAll (F := Ideal) (amaxEnd X W c) (topsV (F := Ideal) (amaxEnd X W) c)

theorem scale_le (c : Dev nD) (b : EReal) : scale X W c ≤ b ↔ 0 ≤ b ∧ ∀ e r j, elt X W e r j ≤ b := by
  unfold scale
  rw [global_le]
  constructor
  · intro H
    exact ⟨((amaxEnd_le X W c b).mp (H c)).1, fun e => ((amaxEnd_le X W e b).mp (H e)).2⟩
  · rintro ⟨h0, H⟩ e
    exact (amaxEnd_le X W e b).mpr ⟨h0, H e⟩

theorem scale_nonneg (c : Dev nD) : 0 ≤ scale X W c := ((scale_le X W c _).mp le_rfl).1

/-- Device `c`'s result is the quantised product. -/
theorem result (c : Dev nD) (i : S4096x256.Idx) :
    outOf X W (amaxEnd X W) c i = quantRef (scale X W c) (elt X W c (i 0) (i 1)) := by
  unfold outOf
  rw [finish_apply, outRaw_apply]
  exact quant_eq (scale_nonneg X W c) _

end Exact

end Cert.Ring

end
-- ==== Proof.Reference.lean ====
/-
# The reference, over exact numbers

Over exact numbers the reference's result is, at every index, the quantiser of the product's element there, scaled by the
largest of the product's elements with the negative ones taken as zero.
-/
module

public import proofs.«01_k».proof.Proof.Gen.ReferenceIdeal
public import proofs.«01_k».proof.Proof.Gen.ReferenceIdeal.Run
public import proofs.«01_k».proof.Proof.Numbers
public import Idealize.ShloMosaic.Lib.StackMember

@[expose] public section

set_option backward.proofsInPublic true

noncomputable section

namespace Cert.Ring

open Cert.ReferenceIdeal Cert.ReferenceIdeal.Gen
open Idealize.ShloMosaic
open Idealize.ShloMosaic.TcCoe Idealize.ShloMosaic.StackMember
open Idealize.ShloMosaic.ValueIdx

section Exact

variable (x : FVec Ideal S4096x4096 .f32) (w : FVec Ideal S4096x8192 .f32)

/-- The whole product. -/
def dotAll : FVec Ideal S4096x8192 .f32 := Host.dotGeneral dot_S4096x4096_S4096x8192_S4096x8192_1_0_0_1_n_n none x w

theorem dotAll_ix (r : Fin 4096) (j : Fin 8192) : dotAll x w (ix2 r j) = ∑ k : Fin 4096, x (ix2 r k) * w (ix2 k j) := by
  have h : dotAll x w = Host.dotGeneral (DotDims.plain 4096 4096 8192) none x w := rfl
  rw [h]
  exact dotGeneral_plain_apply none x w r j

theorem dotAll_apply (i : S4096x8192.Idx) : dotAll x w i = ∑ k : Fin 4096, x (ix2 (i 0) k) * w (ix2 k (i 1)) :=
  (congrArg (dotAll x w) (eq_ix2 (n0 := 4096) (n1 := 8192) i)).trans (dotAll_ix x w (i 0) (i 1))

variable (y : FVec Ideal S4096x8192 .f32)

/-- The product with its negative elements taken as zero. -/
def clipped : FVec Ideal S4096x8192 .f32 := maximumf y (broadcastInDim S4096x8192 ![] bcast_S_S4096x8192 (constant S_ .f32 0x00000000#32))

theorem clipped_apply (i : S4096x8192.Idx) : clipped y i = max (y i) 0 := by
  unfold clipped
  show max (y i) (Ideal.ofBits .f32 0x00000000#32) = _
  rw [Ideal.ofBits_zero_f32]

/-- The largest element. -/
def refMax : FVec Ideal S_ .f32 :=
  Host.reduce FloatOps.maximumf (Host.absf (clipped y)) (constant S_ .f32 0xFF800000#32) reducesTo_S4096x8192_S_d0_1 h_S_

theorem abs_apply (i : S4096x8192.Idx) : Host.absf (clipped y) i = max (y i) 0 := by
  show max (clipped y i) (-(clipped y i)) = _
  rw [clipped_apply]
  have h : (0 : EReal) ≤ max (y i) 0 := le_max_right _ _
  exact max_eq_left ((EReal.neg_le_zero.mpr h).trans h)

theorem no_axes : ∀ b, S_.size b = 1 := by decide

theorem refMax_le (j : S_.Idx) (b : EReal) : refMax y j ≤ b ↔ ∀ i, max (y i) 0 ≤ b := by
  unfold refMax
  refine (host_redmax_le (Host.absf (clipped y)) (constant S_ .f32 0xFF800000#32) reducesTo_S4096x8192_S_d0_1 no_axes h_S_ (fun _ => word_bot) j b).trans ?_
  exact forall_congr' fun i => by rw [abs_apply]

/-- The step of the quantiser. -/
def refStep : FVec Ideal S_ .f32 := Host.divf (refMax y) (constant S_ .f32 0x42FE0000#32)

theorem refStep_apply (j : S_.Idx) : refStep y j = Ideal.div (refMax y j) ((127 : ℝ) : EReal) := by
  unfold refStep
  show Ideal.div (refMax y j) (Ideal.ofBits .f32 0x42FE0000#32) = _
  rw [word_127]

/-- The reference's result. -/
def refOut : FVec Ideal S4096x8192 .f32 :=
  mulf (minimumf (broadcastInDim S4096x8192 ![] bcast_S_S4096x8192 (id (constant S_ .f32 0x42FE0000#32)))
    (maximumf (broadcastInDim S4096x8192 ![] bcast_S_S4096x8192 (id (constant S_ .f32 0xC2FE0000#32)))
      (Host.roundeven (Host.divf (clipped y) (broadcastInDim S4096x8192 ![] bcast_S_S4096x8192 (refStep y))))))
    (broadcastInDim S4096x8192 ![] bcast_S_S4096x8192 (refStep y))

theorem everywhere (v : FVec Ideal S_ .f32) (i : S4096x8192.Idx) (j : S_.Idx) : broadcastInDim S4096x8192 ![] bcast_S_S4096x8192 v i = v j :=
  congrArg v (funext fun a => a.elim0)

theorem refOut_apply (i : S4096x8192.Idx) (j : S_.Idx) : refOut y i = quantRef (refMax y j) (y i) := by
  unfold refOut
  show min (Ideal.ofBits .f32 0x42FE0000#32) (max (Ideal.ofBits .f32 0xC2FE0000#32)
      (near (Ideal.div (clipped y i) (broadcastInDim S4096x8192 ![] bcast_S_S4096x8192 (refStep y) i))))
      * broadcastInDim S4096x8192 ![] bcast_S_S4096x8192 (refStep y) i = _
  rw [everywhere _ _ j, refStep_apply, clipped_apply, word_127, word_neg127]
  rfl

end Exact

end Cert.Ring

end
-- ==== Proof.Match.lean ====
/-
# The program computes the reference's result

Every device ends with its columns of the reference's result: its rows and columns are blocks of the reference's arrays,
so its product is a block of the reference's product, and the maximum that it scales by is the reference's.
-/
module

public import proofs.«01_k».proof.Defs
public import proofs.«01_k».proof.Proof.Whole
public import proofs.«01_k».proof.Proof.Value
public import proofs.«01_k».proof.Proof.Reference

@[expose] public section

set_option backward.proofsInPublic true

noncomputable section

namespace Cert.Ring

open Cert.KernelIdeal Cert.KernelIdeal.Given
open Idealize.ShloMosaic hiding ix2 eq_ix2
open Idealize.ShloMosaic.TcCoe
open Idealize.ShloMosaic.ValueIdx
open Idealize.SL.Sem
open Idealize.ShloMosaic.Pipeline (Dat Cfg Window)

section Blocks

/-- The whole shapes. -/
abbrev AllRows : Shape := ⟨2, ![4096, 4096]⟩
abbrev AllCols : Shape := ⟨2, ![4096, 8192]⟩

theorem row_tiles : Layout.Tiles S128x4096 AllRows 0 32 := by decide
theorem col_tiles : Layout.Tiles S4096x256 AllCols 1 32 := by decide

variable (x : FVec Ideal AllRows .f32) (w : FVec Ideal AllCols .f32)

/-- The devices' rows. -/
def rowsAt (e : Dev nD) : Vec Ideal S128x4096 .f32 := Layout.block S128x4096 AllRows 0 32 e x row_tiles
/-- The devices' columns. -/
def colsAt (c : Dev nD) : Vec Ideal S4096x256 .f32 := Layout.block S4096x256 AllCols 1 32 c w col_tiles

theorem rowsAt_apply (e : Dev nD) (r : Fin 128) (k : Fin 4096) : rowsAt x e (ix2 r k) = x (ix2 (glue e r) k) := by
  refine congrArg x (funext fun a => ?_)
  match a with
  | ⟨0, _⟩ => exact Fin.ext (by show e.val * 128 + r.val = 128 * e.val + r.val; omega)
  | ⟨1, _⟩ => rfl

/-- A column of a device's among all columns. -/
def wide (c : Dev nD) (j : Fin 256) : Fin 8192 := ⟨256 * c.val + j.val, by have h : c.val < 32 := c.isLt; have := j.isLt; omega⟩

theorem colsAt_apply (c : Dev nD) (k : Fin 4096) (j : Fin 256) : colsAt w c (ix2 k j) = w (ix2 k (wide c j)) := by
  refine congrArg w (funext fun a => ?_)
  match a with
  | ⟨0, _⟩ => rfl
  | ⟨1, _⟩ => exact Fin.ext (by show c.val * 256 + j.val = 256 * c.val + j.val; omega)

theorem elt_block (c : Dev nD) (r : Fin 4096) (j : Fin 256) :
    elt (rowsAt x) (colsAt w) c r j = dotAll x w (ix2 r (wide c j)) := by
  rw [dotAll_ix]
  unfold elt
  refine Finset.sum_congr rfl fun k _ => ?_
  rw [rowsAt_apply, colsAt_apply]
  have hr := r.isLt
  have : glue (⟨r.val / 128, by show r.val / 128 < 32; omega⟩ : Fin 32) (⟨r.val % 128, Nat.mod_lt _ (by decide)⟩ : Fin 128) = r :=
    Fin.ext (by show 128 * (r.val / 128) + r.val % 128 = r.val; omega)
  rw [this]

/-- The devices scale by the reference's maximum. -/
theorem scale_ref (c : Dev nD) (j : Cert.ReferenceIdeal.S_.Idx) : scale (rowsAt x) (colsAt w) c = refMax (dotAll x w) j := by
  refine eq_of_forall_ge_iff fun b => ?_
  rw [scale_le, refMax_le]
  constructor
  · rintro ⟨h0, H⟩ i
    refine max_le ?_ h0
    have h1 : (i 1 : ℕ) < 8192 := (i 1).isLt
    have := H (⟨(i 1 : ℕ) / 256, by show (i 1 : ℕ) / 256 < 32; omega⟩ : Fin 32) (i 0) ⟨(i 1 : ℕ) % 256, Nat.mod_lt _ (by decide)⟩
    refine (congrArg (dotAll x w) ?_).le.trans ((elt_block x w _ _ _).symm.le.trans this)
    funext a
    match a with
    | ⟨0, _⟩ => rfl
    | ⟨1, _⟩ => exact Fin.ext (by show (i 1 : ℕ) = 256 * ((i 1 : ℕ) / 256) + (i 1 : ℕ) % 256; omega)
  · intro H
    refine ⟨(le_max_right _ _).trans (H (ix2 (⟨0, by decide⟩ : Fin 4096) (⟨0, by decide⟩ : Fin 8192))), fun e r j => ?_⟩
    rw [elt_block]
    exact (le_max_left _ _).trans (H _)

/-- The one index of a single number. -/
def only : Cert.ReferenceIdeal.S_.Idx := fun a => a.elim0

/-- Every device's result is its columns of the reference's. -/
theorem out_block (c : Dev nD) :
    outOf (rowsAt x) (colsAt w) (amaxEnd (rowsAt x) (colsAt w)) c
      = Layout.block S4096x256 AllCols 1 32 c (refOut (dotAll x w)) col_tiles := by
  funext i
  rw [result, scale_ref x w c only]
  refine (congrArg (quantRef (refMax (dotAll x w) only)) (elt_block x w c (i 0) (i 1))).trans ?_
  refine Eq.trans ?_ (refOut_apply (dotAll x w) (col_tiles.idx c i) only).symm
  refine congrArg (fun p => quantRef (refMax (dotAll x w) only) (dotAll x w p)) (funext fun a => ?_)
  match a with
  | ⟨0, _⟩ => rfl
  | ⟨1, _⟩ => exact Fin.ext (by show 256 * c.val + (i 1 : ℕ) = c.val * 256 + (i 1 : ℕ); omega)

end Blocks

section Arrays

variable {F : FTy → Type} [FloatOps F]
variable (m : (ℓ : Loc nD τ sig) → Buf (Elt F) ℓ) (ρ : Dev nD → PrngReg)

theorem at_zero_x : ∀ a, win0_0.index (0 : Fin 1) a * win0_0.size a = 0 := by decide +kernel
theorem at_zero_w : ∀ a, win0_1.index (0 : Fin 1) a * win0_1.size a = 0 := by decide +kernel
theorem at_zero_out : ∀ a, win0_2.index t₀ a * win0_2.size a = 0 := by decide +kernel

theorem xIn_eq (c : Dev nD) : xIn m ρ c = m ((c : Thread nD τ).loc main_arg0) := by
  funext i
  refine congrArg (m ((c : Thread nD τ).loc main_arg0)) (funext fun a => Fin.ext ?_)
  show win0_0.index (0 : Fin 1) a * win0_0.size a + 1 * (i a : ℕ) = (i a : ℕ)
  rw [at_zero_x, one_mul, zero_add]

theorem wIn_eq (c : Dev nD) : wIn m ρ c = m ((c : Thread nD τ).loc main_arg1) := by
  funext i
  refine congrArg (m ((c : Thread nD τ).loc main_arg1)) (funext fun a => Fin.ext ?_)
  show win0_1.index (0 : Fin 1) a * win0_1.size a + 1 * (i a : ℕ) = (i a : ℕ)
  rw [at_zero_w, one_mul, zero_add]

theorem out_emb (i : S4096x256.Idx) : (win0_2.blk t₀).view.emb i = i := by
  refine funext fun a => Fin.ext ?_
  show win0_2.index t₀ a * win0_2.size a + 1 * (i a : ℕ) = (i a : ℕ)
  rw [at_zero_out, one_mul, zero_add]

theorem flush_2 (t : Fin cfg0.N) : (cfg0.win (2 : Fin 3)).flush t = true := by rw [only_point t]; rfl

attribute [local irreducible] cc0_body outAt in
theorem flushed_out (c : Dev nD) : (dats m ρ 0 c).flushed (2 : Fin 3) t₀ = ((cfg0.win (2 : Fin 3)).blk t₀).view.read (Elt F) (outAt m ρ c) := by
  have h : (dats m ρ 0 c).flushed (2 : Fin 3) t₀ = outAt m ρ c := rfl
  rw [h]
  funext i
  exact congrArg (outAt m ρ c) (out_emb i).symm

attribute [local irreducible] cc0_body outAt in
/-- The result's array ends at the computed contents. -/
theorem finalA_out (c : Dev nD) : finalA m ρ c (2 : Fin 3) = outAt m ρ c :=
  (dats m ρ 0 c).arrAt_eq_of_cover (2 : Fin 3) (outAt m ρ c) (fun t _ => by rw [only_point t]; exact flushed_out m ρ c)
    fun i => ⟨t₀, flush_2 t₀, (congrArg (· ∈ (win0_2.blk t₀).view.set) (out_emb i)).mp ((win0_2.blk t₀).view.emb_mem_set i)⟩

end Arrays

end Cert.Ring

namespace Cert.Proof

open Idealize.ShloMosaic Idealize.ShloMosaic.TcCoe Idealize.SL.Sem

attribute [local irreducible] Cert.KernelIdeal.cc0_body Cert.Ring.outAt in
set_option maxRecDepth 200000 in
/-- The program's result is the reference's. -/
theorem algebraic_kernelIdeal_referenceIdeal :
    Cert.algebraic_KernelIdeal_ReferenceIdeal (hKernelIdeal := Cert.KernelIdeal.Given.facts) (hReferenceIdeal := Cert.ReferenceIdeal.Gen.facts) := by
  intro m g m' g' _ hin
  let x : FVec Ideal Cert.Ring.AllRows .f32 := m' (((0 : Dev Cert.ReferenceIdeal.nD).tc : Thread Cert.ReferenceIdeal.nD Cert.ReferenceIdeal.τ).loc Cert.ReferenceIdeal.main_arg0)
  let w : FVec Ideal Cert.Ring.AllCols .f32 := m' (((0 : Dev Cert.ReferenceIdeal.nD).tc : Thread Cert.ReferenceIdeal.nD Cert.ReferenceIdeal.τ).loc Cert.ReferenceIdeal.main_arg1)
  have hx : Cert.Ring.xIn m g = Cert.Ring.rowsAt x := funext fun c => (Cert.Ring.xIn_eq m g c).trans (hin c).1
  have hw : Cert.Ring.wIn m g = Cert.Ring.colsAt w := funext fun c => (Cert.Ring.wIn_eq m g c).trans (hin c).2
  have hout : ∀ c, Cert.Ring.outAt m g c = Layout.block Cert.KernelIdeal.S4096x256 Cert.Ring.AllCols 1 32 c (Cert.Ring.refOut (Cert.Ring.dotAll x w)) Cert.Ring.col_tiles := fun c => by
    refine Eq.trans ?_ (Cert.Ring.out_block x w c)
    unfold Cert.Ring.outAt
    rw [show Cert.Ring.tops m g = Cert.Ring.amaxEnd (Cert.Ring.xIn m g) (Cert.Ring.wIn m g) from rfl, hx, hw]
  refine ⟨Cert.Ring.refOut (Cert.Ring.dotAll x w), ?_, ?_⟩
  · exact (θ_run Cert.KernelIdeal.defs _ _).mono (fun _ h c => ⟨((h.1 c (2 : Fin 3)).trans (Cert.Ring.finalA_out m g c)).trans (hout c),
      (h.1 c (0 : Fin 3)).trans (Cert.Ring.finalA_x m g c), (h.1 c (1 : Fin 3)).trans (Cert.Ring.finalA_w m g c)⟩)
      (Cert.Ring.run_main (F := Ideal) m g)
  · exact (θ_run Cert.ReferenceIdeal.defs _ _).mono (fun _ h => h 0) (Cert.ReferenceIdeal.Value.run (F := Ideal) m' g')

end Cert.Proof

end
-- ==== Proof.lean ====
/-
# The certificate

The claims, each proved in its own module.
-/
module

public import proofs.«01_k».proof.Defs
public import proofs.«01_k».proof.Proof.Frames
public import proofs.«01_k».proof.Proof.Match

@[expose] public section

noncomputable section

namespace Cert.Proof

/-- The claims together. -/
theorem claim : Cert.Claim := ⟨Cert.Kernel.Given.facts, Cert.KernelIdeal.Given.facts, Cert.ReferenceIdeal.Gen.facts,
  frame_kernel, frame_kernelIdeal, frame_referenceIdeal, trivial, algebraic_kernelIdeal_referenceIdeal⟩

end Cert.Proof

end
